-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S_ : Shape := ⟨0, ![]⟩
abbrev S4 : Shape := ⟨1, ![4]⟩
abbrev S4x1024x1024 : Shape := ⟨3, ![4, 1024, 1024]⟩
abbrev S4x1 : Shape := ⟨2, ![4, 1]⟩
abbrev S1x1 : Shape := ⟨2, ![1, 1]⟩
abbrev S3x2x1024x512 : Shape := ⟨4, ![3, 2, 1024, 512]⟩
abbrev S2x1024x512 : Shape := ⟨3, ![2, 1024, 512]⟩
abbrev S4x8x128 : Shape := ⟨3, ![4, 8, 128]⟩
abbrev S3x2 : Shape := ⟨2, ![3, 2]⟩
abbrev S3 : Shape := ⟨1, ![3]⟩
abbrev S1x1024x1024 : Shape := ⟨3, ![1, 1024, 1024]⟩
abbrev S1024x1024 : Shape := ⟨2, ![1024, 1024]⟩
abbrev S1024x512 : Shape := ⟨2, ![1024, 512]⟩
abbrev S1x1024x512 : Shape := ⟨3, ![1, 1024, 512]⟩
abbrev S1x1x1024x512 : Shape := ⟨4, ![1, 1, 1024, 512]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩
abbrev S4096x2048 : Shape := ⟨2, ![4096, 2048]⟩

abbrev nBuf : Space → Nat
  | .hbm => 126
  | .vmem => 11
  | .smem => 1
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S_, .i32⟩
  | .hbm, ⟨20, _⟩ => ⟨S4, .i32⟩
  | .hbm, ⟨21, _⟩ => ⟨S4, .i1⟩
  | .hbm, ⟨22, _⟩ => ⟨S_, .i32⟩
  | .hbm, ⟨23, _⟩ => ⟨S4, .i32⟩
  | .hbm, ⟨24, _⟩ => ⟨S4, .i1⟩
  | .hbm, ⟨25, _⟩ => ⟨S_, .i32⟩
  | .hbm, ⟨26, _⟩ => ⟨S_, .i1⟩
  | .hbm, ⟨27, _⟩ => ⟨S4, .i1⟩
  | .hbm, ⟨28, _⟩ => ⟨S4, .i1⟩
  | .hbm, ⟨29, _⟩ => ⟨S4, .i1⟩
  | .hbm, ⟨30, _⟩ => ⟨S4, .i32⟩
  | .hbm, ⟨31, _⟩ => ⟨S4, .i32⟩
  | .hbm, ⟨32, _⟩ => ⟨S4, .i32⟩
  | .hbm, ⟨33, _⟩ => ⟨S4x1024x1024, .bf16⟩
  | .hbm, ⟨34, _⟩ => ⟨S_, .i32⟩
  | .hbm, ⟨35, _⟩ => ⟨S4, .i32⟩
  | .hbm, ⟨36, _⟩ => ⟨S4, .i1⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S4, .i32⟩
  | .hbm, ⟨41, _⟩ => ⟨S4x1, .i32⟩
  | .hbm, ⟨42, _⟩ => ⟨S4x1024x1024, .bf16⟩
  | .hbm, ⟨43, _⟩ => ⟨S4x1024x1024, .i8⟩
  | .hbm, ⟨44, _⟩ => ⟨S4x1024x1024, .i8⟩
  | .hbm, ⟨45, _⟩ => ⟨S1x1, .f32⟩
  | .hbm, ⟨46, _⟩ => ⟨S4, .i32⟩
  | .hbm, ⟨47, _⟩ => ⟨S_, .i32⟩
  | .hbm, ⟨48, _⟩ => ⟨S_, .i32⟩
  | .hbm, ⟨49, _⟩ => ⟨S4, .i32⟩
  | .hbm, ⟨50, _⟩ => ⟨S4, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S4, .i32⟩
  | .hbm, ⟨58, _⟩ => ⟨S4, .i32⟩
  | .hbm, ⟨59, _⟩ => ⟨S_, .i32⟩
  | .hbm, ⟨60, _⟩ => ⟨S4, .i32⟩
  | .hbm, ⟨61, _⟩ => ⟨S4, .i1⟩
  | .hbm, ⟨62, _⟩ => ⟨S_, .i32⟩
  | .hbm, ⟨63, _⟩ => ⟨S4, .i32⟩
  | .hbm, ⟨64, _⟩ => ⟨S4, .i1⟩
  | .hbm, ⟨65, _⟩ => ⟨S_, .i32⟩
  | .hbm, ⟨66, _⟩ => ⟨S_, .i1⟩
  | .hbm, ⟨67, _⟩ => ⟨S4, .i1⟩
  | .hbm, ⟨68, _⟩ => ⟨S4, .i1⟩
  | .hbm, ⟨69, _⟩ => ⟨S4, .i1⟩
  | .hbm, ⟨70, _⟩ => ⟨S4, .i32⟩
  | .hbm, ⟨71, _⟩ => ⟨S4, .i32⟩
  | .hbm, ⟨72, _⟩ => ⟨S4, .i32⟩
  | .hbm, ⟨73, _⟩ => ⟨S_, .i32⟩
  | .hbm, ⟨74, _⟩ => ⟨S4, .i32⟩
  | .hbm, ⟨75, _⟩ => ⟨S4, .i1⟩
  | .hbm, ⟨76, _⟩ => ⟨S_, .i32⟩
  | .hbm, ⟨77, _⟩ => ⟨S4, .i32⟩
  | .hbm, ⟨78, _⟩ => ⟨S4, .i32⟩
  | .hbm, ⟨79, _⟩ => ⟨S4, .i32⟩
  | .hbm, ⟨80, _⟩ => ⟨S4x1, .i32⟩
  | .hbm, ⟨81, _⟩ => ⟨S4x1024x1024, .i8⟩
  | .hbm, ⟨82, _⟩ => ⟨S4096x1024, .i8⟩
  | .hbm, ⟨83, _⟩ => ⟨S4, .i32⟩
  | .hbm, ⟨84, _⟩ => ⟨S4, .i32⟩
  | .hbm, ⟨85, _⟩ => ⟨S_, .i32⟩
  | .hbm, ⟨86, _⟩ => ⟨S4, .i32⟩
  | .hbm, ⟨87, _⟩ => ⟨S4, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S4, .i32⟩
  | .hbm, ⟨95, _⟩ => ⟨S4, .i32⟩
  | .hbm, ⟨96, _⟩ => ⟨S_, .i32⟩
  | .hbm, ⟨97, _⟩ => ⟨S4, .i32⟩
  | .hbm, ⟨98, _⟩ => ⟨S4, .i1⟩
  | .hbm, ⟨99, _⟩ => ⟨S_, .i32⟩
  | .hbm, ⟨100, _⟩ => ⟨S4, .i32⟩
  | .hbm, ⟨101, _⟩ => ⟨S4, .i1⟩
  | .hbm, ⟨102, _⟩ => ⟨S_, .i32⟩
  | .hbm, ⟨103, _⟩ => ⟨S_, .i1⟩
  | .hbm, ⟨104, _⟩ => ⟨S4, .i1⟩
  | .hbm, ⟨105, _⟩ => ⟨S4, .i1⟩
  | .hbm, ⟨106, _⟩ => ⟨S4, .i1⟩
  | .hbm, ⟨107, _⟩ => ⟨S4, .i32⟩
  | .hbm, ⟨108, _⟩ => ⟨S4, .i32⟩
  | .hbm, ⟨109, _⟩ => ⟨S4, .i32⟩
  | .hbm, ⟨110, _⟩ => ⟨S_, .i32⟩
  | .hbm, ⟨111, _⟩ => ⟨S4, .i32⟩
  | .hbm, ⟨112, _⟩ => ⟨S4, .i1⟩
  | .hbm, ⟨113, _⟩ => ⟨S_, .i32⟩
  | .hbm, ⟨114, _⟩ => ⟨S4, .i32⟩
  | .hbm, ⟨115, _⟩ => ⟨S4, .i32⟩
  | .hbm, ⟨116, _⟩ => ⟨S4, .i32⟩
  | .hbm, ⟨117, _⟩ => ⟨S4x1, .i32⟩
  | .hbm, ⟨118, _⟩ => ⟨S4x1024x1024, .i8⟩
  | .hbm, ⟨119, _⟩ => ⟨S4096x1024, .i8⟩
  | .hbm, ⟨120, _⟩ => ⟨S4096x2048, .i8⟩
  | .hbm, ⟨121, _⟩ => ⟨S4096x2048, .i32⟩
  | .hbm, ⟨122, _⟩ => ⟨S4096x2048, .f32⟩
  | .hbm, ⟨123, _⟩ => ⟨S_, .f32⟩
  | .hbm, ⟨124, _⟩ => ⟨S4096x2048, .f32⟩
  | .hbm, ⟨125, _⟩ => ⟨S4096x2048, .f32⟩
  | .local _ .vmem, ⟨0, _⟩ => ⟨S4x1024x1024, .bf16⟩
  | .local _ .vmem, ⟨1, _⟩ => ⟨S1024x2048, .bf16⟩
  | .local _ .vmem, ⟨2, _⟩ => ⟨S4x1024x1024, .i8⟩
  | .local _ .vmem, ⟨3, _⟩ => ⟨S4x1024x1024, .i8⟩
  | .local _ .vmem, ⟨4, _⟩ => ⟨S3x2x1024x512, .bf16⟩
  | .local _ .vmem, ⟨5, _⟩ => ⟨S3x2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S2x1024x512, .f32⟩
  | .local _ .vmem, ⟨9, _⟩ => ⟨S2x1024x512, .f32⟩
  | .local _ .vmem, ⟨10, _⟩ => ⟨S4x8x128, .f32⟩
  | .local _ .smem, ⟨0, _⟩ => ⟨S1x1, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17_0 : Ref sig .tc := ⟨.hbm, 43, rfl⟩
abbrev main_v17_1 : Ref sig .tc := ⟨.hbm, 44, rfl⟩
abbrev main_v17_2 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_5 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v22 : Ref sig .tc := ⟨.hbm, 72, rfl⟩
abbrev main_c_6 : Ref sig .tc := ⟨.hbm, 73, rfl⟩
abbrev main_v23 : Ref sig .tc := ⟨.hbm, 74, rfl⟩
abbrev main_v24 : Ref sig .tc := ⟨.hbm, 75, rfl⟩
abbrev main_c_7 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_c_8 : Ref sig .tc := ⟨.hbm, 85, rfl⟩
abbrev main_v33 : Ref sig .tc := ⟨.hbm, 86, rfl⟩
abbrev main_v34 : Ref sig .tc := ⟨.hbm, 87, rfl⟩
abbrev main_c_9 : Ref sig .tc := ⟨.hbm, 88, rfl⟩
abbrev main_call2_v0 : Ref sig .tc := ⟨.hbm, 89, rfl⟩
abbrev main_call2_c : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_c_1 : Ref sig .tc := ⟨.hbm, 96, rfl⟩
abbrev main_call2_v5 : Ref sig .tc := ⟨.hbm, 97, rfl⟩
abbrev main_call2_v6 : Ref sig .tc := ⟨.hbm, 98, rfl⟩
abbrev main_call2_c_2 : Ref sig .tc := ⟨.hbm, 99, rfl⟩
abbrev main_call2_v7 : Ref sig .tc := ⟨.hbm, 100, rfl⟩
abbrev main_call2_v8 : Ref sig .tc := ⟨.hbm, 101, rfl⟩
abbrev main_call2_c_3 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_v35 : Ref sig .tc := ⟨.hbm, 109, rfl⟩
abbrev main_c_10 : Ref sig .tc := ⟨.hbm, 110, rfl⟩
abbrev main_v36 : Ref sig .tc := ⟨.hbm, 111, rfl⟩
abbrev main_v37 : Ref sig .tc := ⟨.hbm, 112, rfl⟩
abbrev main_c_11 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_32 : BitVec 32 := 1#32
  let v31 : BitVec 32 := Scalar.muli v4 c1_i32_32
  let v32 : BitVec 32 := Scalar.addi c0_i32_33 v31
  v32.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_45 : BitVec 32 := 1#32
  let v41 : BitVec 32 := Scalar.muli v7 c1_i32_45
  let v42 : BitVec 32 := Scalar.addi c0_i32_46 v41
  v42.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_73 : BitVec 32 := 1#32
  let v69 : BitVec 32 := Scalar.muli v4 c1_i32_73
  let v70 : BitVec 32 := Scalar.addi c0_i32_74 v69
  v70.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_86 : BitVec 32 := 1#32
  let v79 : BitVec 32 := Scalar.muli v7 c1_i32_86
  let v80 : BitVec 32 := Scalar.addi c0_i32_87 v79
  v80.toNat
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_139 : BitVec 32 := 1#32
  let v116 : BitVec 32 := Scalar.muli v4 c1_i32_139
  let v117 : BitVec 32 := Scalar.addi c0_i32_140 v116
  v117.toNat
def k0_dev8 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_191 : BitVec 32 := 1#32
  let v153 : BitVec 32 := Scalar.muli v7 c1_i32_191
  let v154 : BitVec 32 := Scalar.addi c0_i32_192 v153
  v154.toNat
def k0_dev9 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_244 : BitVec 32 := 1#32
  let v190 : BitVec 32 := Scalar.muli v4 c1_i32_244
  let v191 : BitVec 32 := Scalar.addi c0_i32_245 v190
  v191.toNat
def k0_dev10 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_297 : BitVec 32 := 1#32
  let v227 : BitVec 32 := Scalar.muli v7 c1_i32_297
  let v228 : BitVec 32 := Scalar.addi c0_i32_298 v227
  v228.toNat
def k0_dev11 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_351 : BitVec 32 := 1#32
  let v264 : BitVec 32 := Scalar.muli v4 c1_i32_351
  let v265 : BitVec 32 := Scalar.addi c0_i32_352 v264
  v265.toNat
def k0_dev12 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_406 : BitVec 32 := 1#32
  let v301 : BitVec 32 := Scalar.muli v7 c1_i32_406
  let v302 : BitVec 32 := Scalar.addi c0_i32_407 v301
  v302.toNat
def k0_dev13 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_461 : BitVec 32 := 1#32
  let v338 : BitVec 32 := Scalar.muli v4 c1_i32_461
  let v339 : BitVec 32 := Scalar.addi c0_i32_462 v338
  v339.toNat
def k0_dev14 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_516 : BitVec 32 := 1#32
  let v375 : BitVec 32 := Scalar.muli v7 c1_i32_516
  let v376 : BitVec 32 := Scalar.addi c0_i32_517 v375
  v376.toNat
def k0_dev15 (d0 : Dev nD) : Nat :=
  let c0_i32_696 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_695 : BitVec 32 := 1#32
  let v515 : BitVec 32 := Scalar.muli v4 c1_i32_695
  let v516 : BitVec 32 := Scalar.addi c0_i32_696 v515
  v516.toNat
def k0_dev16 (d0 : Dev nD) : Nat :=
  let c0_i32_706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_705 : BitVec 32 := 1#32
  let v525 : BitVec 32 := Scalar.muli v7 c1_i32_705
  let v526 : BitVec 32 := Scalar.addi c0_i32_706 v525
  v526.toNat
def k0_dev17 (d0 : Dev nD) : Nat :=
  let c0_i32_716 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_690 : BitVec 32 := 2#32
  let v513 : BitVec 32 := Scalar.addi v2 c2_i32_690
  let c4_i32_691 : BitVec 32 := 4#32
  let v514 : BitVec 32 := Scalar.remsi v513 c4_i32_691
  let c1_i32_715 : BitVec 32 := 1#32
  let v535 : BitVec 32 := Scalar.muli v514 c1_i32_715
  let v536 : BitVec 32 := Scalar.addi c0_i32_716 v535
  v536.toNat
def k0_dev18 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_826 : BitVec 32 := 1#32
  let v655 : BitVec 32 := Scalar.muli v4 c1_i32_826
  let v656 : BitVec 32 := Scalar.addi c0_i32_827 v655
  v656.toNat
def k0_dev19 (d0 : Dev nD) : Nat :=
  let c0_i32_837 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_836 : BitVec 32 := 1#32
  let v665 : BitVec 32 := Scalar.muli v7 c1_i32_836
  let v666 : BitVec 32 := Scalar.addi c0_i32_837 v665
  v666.toNat
def k0_dev20 (d0 : Dev nD) : Nat :=
  let c0_i32_885 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_884 : BitVec 32 := 1#32
  let v703 : BitVec 32 := Scalar.muli v4 c1_i32_884
  let v704 : BitVec 32 := Scalar.addi c0_i32_885 v703
  v704.toNat
def k0_dev21 (d0 : Dev nD) : Nat :=
  let c0_i32_895 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_894 : BitVec 32 := 1#32
  let v713 : BitVec 32 := Scalar.muli v7 c1_i32_894
  let v714 : BitVec 32 := Scalar.addi c0_i32_895 v713
  v714.toNat
def k0_dev22 (d0 : Dev nD) : Nat :=
  let c0_i32_943 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_942 : BitVec 32 := 1#32
  let v751 : BitVec 32 := Scalar.muli v4 c1_i32_942
  let v752 : BitVec 32 := Scalar.addi c0_i32_943 v751
  v752.toNat
def k0_dev23 (d0 : Dev nD) : Nat :=
  let c0_i32_953 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_952 : BitVec 32 := 1#32
  let v761 : BitVec 32 := Scalar.muli v7 c1_i32_952
  let v762 : BitVec 32 := Scalar.addi c0_i32_953 v761
  v762.toNat
abbrev stage0_0 : Fin 1 → Memref sig .tc .vmem S4x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Wire.lean ====
/- Steps at the head of a program whose memory is held as owned memrefs: a load, a store, a copy to another
   device, each stated at the contents the memref reads. Nothing here belongs to one kernel. -/
module

public import Idealize.ShloMosaic.Lib.Pipeline.Regions
public import Idealize.ShloMosaic.Lib.Pipeline.Kit
public import Idealize.ShloMosaic.Lib.Rounds
public import Idealize.ShloMosaic.Lib.Memref
public import Idealize.ShloMosaic.Lib.MemrefSat
public import Idealize.ShloMosaic.Lib.StableHlo
public import Idealize.ShloMosaic.Lib.Tactic
public import Idealize.ShloMosaic.PureOps
public import Idealize.ShloMosaic.Harness.Basic

@[expose] public section

noncomputable section

namespace Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Contents of one shape read, in row-major order, at a shape with as many elements. -/
def recast {s s' : Shape} {α : Type} (h : s'.numel = s.numel) (X : s.Idx → α) : s'.Idx → α := fun j => X (Shape.reshapeEquiv h j)

/-- Recasting there and back changes nothing. -/
theorem recast_recast {s s' : Shape} {α : Type} (h : s'.numel = s.numel) (h' : s.numel = s'.numel) (X : s.Idx → α) :
    recast h' (recast h X) = X := by
  funext j
  unfold recast
  rw [Shape.reshapeEquiv_reshapeEquiv, Shape.reshapeEquiv_self]

/-- Owning a memref with its unit axes dropped, at the recast contents, is owning the memref. -/
theorem owns_squeeze (c : Thread nD τ) {sp : Space} {s s' : Shape} {e : EltTy} (m : Memref sig c.2.kind sp s e) (h : s.Squeezes s')
    (q : PosShare TreeShare) (X : s.Idx → Val e) :
    (owns c (m.squeeze s' h) q (recast h.numel_eq X) : sProp 𝕄) = owns c m q X := by
  have key : ∀ f, (m.view.reshape s' h.numel_eq).read Val f = recast h.numel_eq X ↔ m.view.read Val f = X := by
    intro f
    have e1 : (m.view.reshape s' h.numel_eq).read Val f = recast h.numel_eq (m.view.read Val f) := rfl
    rw [e1]
    constructor
    · intro hh
      have := congrArg (recast (s := s') (s' := s) h.numel_eq.symm) hh
      rwa [recast_recast, recast_recast] at this
    · intro hh; rw [hh]
  have h₁ : (owns c (m.squeeze s' h) q (recast h.numel_eq X) : sProp 𝕄) ⊢ owns c m q X := by
    unfold owns
    iintro ⟨%f, %hf, H⟩
    iexists f
    isplitr; · ipureintro; exact (key f).1 hf
    have e2 : (m.view.reshape s' h.numel_eq).set = m.view.set := View.set_reshape _ _
    have e3 : ((m.squeeze s' h).view.loc c ↦[(m.squeeze s' h).view.set]{q} f : sProp 𝕄) = (m.view.loc c ↦[m.view.set]{q} f) := by
      show (m.view.loc c ↦[(m.view.reshape s' h.numel_eq).set]{q} f : sProp 𝕄) = _
      rw [e2]
    iapply (Entails.of_eq e3); iexact H
  have h₂ : (owns c m q X : sProp 𝕄) ⊢ owns c (m.squeeze s' h) q (recast h.numel_eq X) := by
    unfold owns
    iintro ⟨%f, %hf, H⟩
    iexists f
    isplitr; · ipureintro; exact (key f).2 hf
    have e2 : (m.view.reshape s' h.numel_eq).set = m.view.set := View.set_reshape _ _
    have e3 : ((m.squeeze s' h).view.loc c ↦[(m.squeeze s' h).view.set]{q} f : sProp 𝕄) = (m.view.loc c ↦[m.view.set]{q} f) := by
      show (m.view.loc c ↦[(m.view.reshape s' h.numel_eq).set]{q} f : sProp 𝕄) = _
      rw [e2]
    iapply (Entails.of_eq e3.symm); iexact H
  exact BI.equiv_iff.mp ⟨h₁, h₂⟩

section Steps

variable {Λ : Labels} {defs : Defs nD τ sig Val Λ} (𝒱 : Variants) (c : Thread nD τ) (bd : Option 𝒱.V) {Γ : PendingWaitsCtx sig Ix}
variable [Preorder Lvl] {α : Type} {Q : α → sProp (MT nD τ sig Ix Val Name U Lvl)} {Es : Set Name}

/-- A load through a rectangle of a memref, its slice there owned at `X`: the program continues at `X`. -/
theorem wp_load_slice {cs : CoreSpace} {s : Shape} {e : EltTy} {m : Memref sig c.2.kind cs s e} {r : Rect s} {hr : ∀ a, r.stride a = 1}
    {hl : m.view.LoadsAt r} {k : (r.shape.Idx → Val e) → Prog (TpuEff nD τ sig Val Λ c.2) α} {q : PosShare TreeShare}
    {X : r.shape.Idx → Val e} :
    (owns c (m.slice r hr) q X : sProp 𝕄)
      ⊢ iprop((owns c (m.slice r hr) q X -∗ wp frame (wpE' defs 𝒱 c bd Γ) Es (k X) Q)
        -∗ wp frame (wpE' defs 𝒱 c bd Γ) Es (.op (.load m r hl) k) Q) := by
  iintro H Hk
  unfold owns
  icases H with ⟨%f, %hf, H⟩
  iapply (wp_load_rect 𝒱 c bd Es (S := (m.access r).set) (f := f) Finset.Subset.rfl) $$ H
  iintro H
  subst hf
  iapply Hk
  iexists f
  isplitr; · ipureintro; rfl
  iexact H

/-- A load through a rectangle of a memref owned whole at `X`: the program continues at `X` there. -/
theorem wp_load_owns {cs : CoreSpace} {s : Shape} {e : EltTy} {m : Memref sig c.2.kind cs s e} {r : Rect s}
    {hl : m.view.LoadsAt r} {k : (r.shape.Idx → Val e) → Prog (TpuEff nD τ sig Val Λ c.2) α} {q : PosShare TreeShare}
    {X : s.Idx → Val e} :
    (owns c m q X : sProp 𝕄)
      ⊢ iprop((owns c m q X -∗ wp frame (wpE' defs 𝒱 c bd Γ) Es (k (fun j => X (r.emb j))) Q)
        -∗ wp frame (wpE' defs 𝒱 c bd Γ) Es (.op (.load m r hl) k) Q) := by
  iintro H Hk
  unfold owns
  icases H with ⟨%f, %hf, H⟩
  iapply (wp_load_rect 𝒱 c bd Es (m := m) (r := r) (S := m.view.set) (f := f) (View.set_slice_subset _ _)) $$ H
  iintro H
  subst hf
  iapply Hk
  iexists f
  isplitr; · ipureintro; rfl
  iexact H

/-- The same, the contents there named. -/
theorem wp_load_at {cs : CoreSpace} {s : Shape} {e : EltTy} {m : Memref sig c.2.kind cs s e} {r : Rect s}
    {hl : m.view.LoadsAt r} {k : (r.shape.Idx → Val e) → Prog (TpuEff nD τ sig Val Λ c.2) α} {q : PosShare TreeShare}
    {X : s.Idx → Val e} (Y : r.shape.Idx → Val e) (hY : Y = fun j => X (r.emb j)) :
    (owns c m q X : sProp 𝕄)
      ⊢ iprop((owns c m q X -∗ wp frame (wpE' defs 𝒱 c bd Γ) Es (k Y) Q)
        -∗ wp frame (wpE' defs 𝒱 c bd Γ) Es (.op (.load m r hl) k) Q) := by
  subst hY; exact wp_load_owns 𝒱 c bd

/-- A store of a whole rectangle of a memref, its slice there owned: it is owned at what was stored. -/
theorem wp_store_slice {cs : CoreSpace} {s : Shape} {e : EltTy} {m : Memref sig c.2.kind cs s e} {r : Rect s} {hr : ∀ a, r.stride a = 1}
    {w : r.shape.Idx → Val e} {hx : (m.access r).Stores Finset.univ} {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE' defs 𝒱 c bd Γ) Es (k ⟨⟩) Q)
        -∗ wp frame (wpE' defs 𝒱 c bd Γ) Es (.op (.store m r w Finset.univ hx hm) k) Q) := by
  iintro H Hk
  unfold owns
  icases H with ⟨%f, %hf, H⟩
  iapply (wp_store 𝒱 c bd Es (S := (m.access r).set) (f := f) (View.setOn_subset_set _ _)) $$ H
  iintro H
  iapply Hk
  iexists ((m.access r).write Val f w Finset.univ)
  isplitr; · ipureintro; exact View.read_write_univ _ _
  iexact H

/-- The same, what is stored named. -/
theorem wp_store_at {cs : CoreSpace} {s : Shape} {e : EltTy} {m : Memref sig c.2.kind cs s e} {r : Rect s} {hr : ∀ a, r.stride a = 1}
    {w' : r.shape.Idx → Val e} {hx : (m.access r).Stores Finset.univ} {hm : (Finset.univ : Finset r.shape.Idx) = Finset.univ ∨ ∀ a, r.stride a = 1}
    {k : PUnit → Prog (TpuEff nD τ sig Val Λ c.2) α} {X : r.shape.Idx → Val e} (w : r.shape.Idx → Val e) (hw : w' = w) :
    (owns c (m.slice r hr) fullShare X : sProp 𝕄)
      ⊢ iprop((owns c (m.slice r hr) fullShare w -∗ wp frame (wpE' defs 𝒱 c bd Γ) Es (k ⟨⟩) Q)
        -∗ wp frame (wpE' defs 𝒱 c bd Γ) Es (.op (.store m r w' Finset.univ hx hm) k) Q) := by
  subst hw; exact wp_store_slice 𝒱 c bd

section Talk

variable {D : Type} [DecidableEq D]
variable (E : Emb (URounds (GSem nD τ sig) D) (MT nD τ sig Ix Val Name U Lvl)) (Rd : Schedule (GSem nD τ sig) D (MT nD τ sig Ix Val Name U Lvl))
variable {N : Type} [URA N] {υ : UEmb N (MT nD τ sig Ix Val Name U Lvl)} [υ.IsFactor] [E.LandsIn υ] [∀ g r d, Storable υ (Rd.payload g r d)]

/-- A copy to another core of a source owned at `Y` onto a destination owned there, `F` handed over with it: the first
    payload is made from the source, the second from the destination at `Y` and `F`. -/
theorem wp_send_owns {sp sp' : Space} {s : Shape} {e : EltTy} {c' : Thread nD τ} {src : Memref sig c.2.kind sp s e}
    {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare}
    {Y Yd : s.Idx → Val e} {F : sProp 𝕄} {d₁ d₂ : D} {κ₁ κ₂ : Name} {r₁ r₂ : ℕ}
    (hd₁ : d₁ ∈ Rd.duties (c, sS) r₁) (hd₂ : d₂ ∈ Rd.duties (c', sem) r₂)
    (ι ι' : Ix) (n : ℕ) (hN : dst.view.amount sem = n)
    (hk₁ : Rd.amount (c, sS) r₁ d₁ = n) (hk₂ : Rd.amount (c', sem) r₂ d₂ = n)
    {O₀ : CellTallies nD τ sig Ix} (O : CellTallies nD τ sig Ix) (hO : O₀ = O + tallyAt (c', sem) ι n) {W : Waits sig Ix}
    (hpay₁ : (owns c src q Y : sProp 𝕄) ⊢ Rd.payload (c, sS) r₁ d₁)
    (hpay₂ : iprop((owns c' dst fullShare Y : sProp 𝕄) ∗ F) ⊢ Rd.payload (c', sem) r₂ d₂) (hr : τ.routes c c' = true := by routes) :
    iprop(cellInv E Rd κ₁ (c, sS) ∗ cellInv E Rd κ₂ (c', sem)
        ∗ owns c src q Y ∗ (owns c' dst fullShare Yd ∗ F)
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' n) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  unfold owns
  iintro ⟨H1, H2, ⟨%fs, %hfs, Hs⟩, ⟨⟨%fd, %hfd, Hd⟩, HF⟩, HO, Ht1, Hr1, Ht2, Hr2⟩ Hk
  have hp₁ : (src.view.loc c ↦[src.view.set]{q} fs : sProp 𝕄) ⊢ Rd.payload (c, sS) r₁ d₁ :=
    (owns_intro c src q fs).trans (by rw [hfs]; exact hpay₁)
  have hp₂ : iprop((dst.view.loc c' ↦[dst.view.set]{fullShare} (dst.view.write Val fd (src.view.read Val fs) Finset.univ) : sProp 𝕄) ∗ F)
      ⊢ Rd.payload (c', sem) r₂ d₂ :=
    (sep_mono_left (owns_intro c' dst fullShare _)).trans (by rw [View.read_write_univ, hfs]; exact hpay₂)
  iapply (wp_send_pointsTo_with 𝒱 E Rd c bd (Γ := Γ) (defs := defs) hd₁ hd₂ ι ι' n hN hk₁ hk₂ O hO hp₁ hp₂ hr) $$ [H1 H2 Hs Hd HF HO Ht1 Hr1 Ht2 Hr2]
  · isplitl [H1]; · iexact H1
    isplitl [H2]; · iexact H2
    isplitl [Hs]; · iexact Hs
    isplitl [Hd HF]; · (isplitl [Hd] <;> iassumption)
    isplitl [HO]; · iexact HO
    isplitl [Ht1]; · iexact Ht1
    isplitl [Hr1]; · iexact Hr1
    isplitl [Ht2] <;> iassumption
  iexact Hk

end Talk

end Steps

end Cert.Wire
-- ==== Proof.Sched.lean ====
/- The protocol, written down before the run: the copies numbered in the order a device issues them, the semaphores
   each one counts on, whom it goes to, what every landing hands over and with which contents, and the order the waits
   are ranked in. -/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pointwise.Index
public import proofs.«01_k».proof.Proof.Wire

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

/-! ## The ring of devices -/

/-- The device to the right, -/
def nx (c : Dev nD) : Dev nD := ⟨(c.val + 1) % 4, Nat.mod_lt _ (by decide)⟩
/-- the one to the left, -/
def pv (c : Dev nD) : Dev nD := ⟨(c.val + 3) % 4, Nat.mod_lt _ (by decide)⟩
/-- and the one opposite. -/
def op (c : Dev nD) : Dev nD := ⟨(c.val + 2) % 4, Nat.mod_lt _ (by decide)⟩

theorem nx_pv (c : Dev nD) : nx (pv c) = c := by revert c; decide
theorem pv_nx (c : Dev nD) : pv (nx c) = c := by revert c; decide
theorem op_op (c : Dev nD) : op (op c) = c := by revert c; decide
theorem op_pv (c : Dev nD) : op (pv c) = nx c := by revert c; decide

/-- The device `k` places to the right. -/
def rot (k : Fin 4) (c : Dev nD) : Dev nD := ⟨(c.val + k.val) % 4, Nat.mod_lt _ (by decide)⟩

/-! ## The copies: numbers, semaphores, targets -/

/-- A copy's number, and which of its two counters: the sender's (`false`) or the receiver's (`true`). -/
abbrev I : Type := Fin 21 × Bool

/-- The semaphore copy `n` counts on at its sender, -/
def sSem : Fin 21 → Fin 47 := ![5, 17, 6, 18, 7, 19, 8, 20, 9, 21, 10, 22, 29, 30, 31, 35, 41, 36, 42, 37, 43]
/-- and at its receiver. -/
def rSem : Fin 21 → Fin 47 := ![11, 23, 12, 24, 13, 25, 14, 26, 15, 27, 16, 28, 34, 32, 33, 38, 44, 39, 45, 40, 46]
/-- A counter's semaphore, -/
def dsem (k : I) : DmaSem sig := if k.2 then rSem k.1 else sSem k.1
/-- and the counter a semaphore is. -/
def un : ℕ → I
  | 5 => (0, false)
  | 11 => (0, true)
  | 17 => (1, false)
  | 23 => (1, true)
  | 6 => (2, false)
  | 12 => (2, true)
  | 18 => (3, false)
  | 24 => (3, true)
  | 7 => (4, false)
  | 13 => (4, true)
  | 19 => (5, false)
  | 25 => (5, true)
  | 8 => (6, false)
  | 14 => (6, true)
  | 20 => (7, false)
  | 26 => (7, true)
  | 9 => (8, false)
  | 15 => (8, true)
  | 21 => (9, false)
  | 27 => (9, true)
  | 10 => (10, false)
  | 16 => (10, true)
  | 22 => (11, false)
  | 28 => (11, true)
  | 29 => (12, false)
  | 34 => (12, true)
  | 30 => (13, false)
  | 32 => (13, true)
  | 31 => (14, false)
  | 33 => (14, true)
  | 35 => (15, false)
  | 38 => (15, true)
  | 41 => (16, false)
  | 44 => (16, true)
  | 36 => (17, false)
  | 39 => (17, true)
  | 42 => (18, false)
  | 45 => (18, true)
  | 37 => (19, false)
  | 40 => (19, true)
  | 43 => (20, false)
  | 46 => (20, true)
  | _ => (0, false)
theorem un_dsem (k : I) : un (dsem k).val = k := by revert k; decide
theorem dsem_range (k : I) : 5 ≤ (dsem k).val := by revert k; decide
theorem dsem_inj : Function.Injective dsem := fun a b h => by rw [← un_dsem a, h, un_dsem]

/-- Whom copy `n` of device `c` goes to. -/
def tgt : Fin 21 → Dev nD → Dev nD := ![nx, pv, nx, pv, nx, pv, nx, pv, nx, pv, nx, pv, nx, pv, op, nx, pv, nx, pv, nx, pv]
/-- Whom copy `n` landing on device `c` comes from. -/
def frm : Fin 21 → Dev nD → Dev nD := ![pv, nx, pv, nx, pv, nx, pv, nx, pv, nx, pv, nx, pv, nx, op, pv, nx, pv, nx, pv, nx]
theorem tgt_frm (n : Fin 21) (c : Dev nD) : tgt n (frm n c) = c := by revert n c; decide
theorem frm_tgt (n : Fin 21) (c : Dev nD) : frm n (tgt n c) = c := by revert n c; decide

/-- A counter of device `c`. -/
abbrev cell (k : I) (c : Dev nD) : GSem nD τ sig := ((c : Thread nD τ), .dma (dsem k))
/-- The semaphore the devices meet on before anything is sent. -/
abbrev barS : Sem sig := sig.barrier 0 rfl
abbrev barCell (c : Dev nD) : GSem nD τ sig := ((c : Thread nD τ), .reg barS)

/-! ## The buffers' slots -/

abbrev rc00 : Memref sig .tc .vmem S1x1x1024x512 .bf16 :=
  (Memref.whole cc0_scratch0).slice (Rect.unit (s := S3x2x1024x512) ![0, 0, 0, 0] S1x1x1024x512.size inb_S3x2x1024x512_S1x1x1024x512_0_0_0_0) (fun _ => rfl)
abbrev rc01 : Memref sig .tc .vmem S1x1x1024x512 .bf16 :=
  (Memref.whole cc0_scratch0).slice (Rect.unit (s := S3x2x1024x512) ![0, 1, 0, 0] S1x1x1024x512.size inb_S3x2x1024x512_S1x1x1024x512_0_1_0_0) (fun _ => rfl)
abbrev rc10 : Memref sig .tc .vmem S1x1x1024x512 .bf16 :=
  (Memref.whole cc0_scratch0).slice (Rect.unit (s := S3x2x1024x512) ![1, 0, 0, 0] S1x1x1024x512.size inb_S3x2x1024x512_S1x1x1024x512_1_0_0_0) (fun _ => rfl)
abbrev rc11 : Memref sig .tc .vmem S1x1x1024x512 .bf16 :=
  (Memref.whole cc0_scratch0).slice (Rect.unit (s := S3x2x1024x512) ![1, 1, 0, 0] S1x1x1024x512.size inb_S3x2x1024x512_S1x1x1024x512_1_1_0_0) (fun _ => rfl)
abbrev rc20 : Memref sig .tc .vmem S1x1x1024x512 .bf16 :=
  (Memref.whole cc0_scratch0).slice (Rect.unit (s := S3x2x1024x512) ![2, 0, 0, 0] S1x1x1024x512.size inb_S3x2x1024x512_S1x1x1024x512_2_0_0_0) (fun _ => rfl)
abbrev rc21 : Memref sig .tc .vmem S1x1x1024x512 .bf16 :=
  (Memref.whole cc0_scratch0).slice (Rect.unit (s := S3x2x1024x512) ![2, 1, 0, 0] S1x1x1024x512.size inb_S3x2x1024x512_S1x1x1024x512_2_1_0_0) (fun _ => rfl)
abbrev rd00 : Memref sig .tc .vmem S1x1x1024x512 .bf16 :=
  (Memref.whole cc0_scratch1).slice (Rect.unit (s := S3x2x1024x512) ![0, 0, 0, 0] S1x1x1024x512.size inb_S3x2x1024x512_S1x1x1024x512_0_0_0_0) (fun _ => rfl)
abbrev rd01 : Memref sig .tc .vmem S1x1x1024x512 .bf16 :=
  (Memref.whole cc0_scratch1).slice (Rect.unit (s := S3x2x1024x512) ![0, 1, 0, 0] S1x1x1024x512.size inb_S3x2x1024x512_S1x1x1024x512_0_1_0_0) (fun _ => rfl)
abbrev rd10 : Memref sig .tc .vmem S1x1x1024x512 .bf16 :=
  (Memref.whole cc0_scratch1).slice (Rect.unit (s := S3x2x1024x512) ![1, 0, 0, 0] S1x1x1024x512.size inb_S3x2x1024x512_S1x1x1024x512_1_0_0_0) (fun _ => rfl)
abbrev rd11 : Memref sig .tc .vmem S1x1x1024x512 .bf16 :=
  (Memref.whole cc0_scratch1).slice (Rect.unit (s := S3x2x1024x512) ![1, 1, 0, 0] S1x1x1024x512.size inb_S3x2x1024x512_S1x1x1024x512_1_1_0_0) (fun _ => rfl)
abbrev rd20 : Memref sig .tc .vmem S1x1x1024x512 .bf16 :=
  (Memref.whole cc0_scratch1).slice (Rect.unit (s := S3x2x1024x512) ![2, 0, 0, 0] S1x1x1024x512.size inb_S3x2x1024x512_S1x1x1024x512_2_0_0_0) (fun _ => rfl)
abbrev rd21 : Memref sig .tc .vmem S1x1x1024x512 .bf16 :=
  (Memref.whole cc0_scratch1).slice (Rect.unit (s := S3x2x1024x512) ![2, 1, 0, 0] S1x1x1024x512.size inb_S3x2x1024x512_S1x1x1024x512_2_1_0_0) (fun _ => rfl)
abbrev sc0 : Memref sig .tc .vmem S1x1024x512 .bf16 :=
  (Memref.whole cc0_scratch2).slice (Rect.unit (s := S2x1024x512) ![0, 0, 0] S1x1024x512.size inb_S2x1024x512_S1x1024x512_0_0_0) (fun _ => rfl)
abbrev sc1 : Memref sig .tc .vmem S1x1024x512 .bf16 :=
  (Memref.whole cc0_scratch2).slice (Rect.unit (s := S2x1024x512) ![1, 0, 0] S1x1024x512.size inb_S2x1024x512_S1x1024x512_1_0_0) (fun _ => rfl)
abbrev sd0 : Memref sig .tc .vmem S1x1024x512 .bf16 :=
  (Memref.whole cc0_scratch3).slice (Rect.unit (s := S2x1024x512) ![0, 0, 0] S1x1024x512.size inb_S2x1024x512_S1x1024x512_0_0_0) (fun _ => rfl)
abbrev sd1 : Memref sig .tc .vmem S1x1024x512 .bf16 :=
  (Memref.whole cc0_scratch3).slice (Rect.unit (s := S2x1024x512) ![1, 0, 0] S1x1024x512.size inb_S2x1024x512_S1x1024x512_1_0_0) (fun _ => rfl)
abbrev oc0 : Memref sig .tc .vmem S1x1024x512 .f32 :=
  (Memref.whole cc0_scratch4).slice (Rect.unit (s := S2x1024x512) ![0, 0, 0] S1x1024x512.size inb_S2x1024x512_S1x1024x512_0_0_0) (fun _ => rfl)
abbrev oc1 : Memref sig .tc .vmem S1x1024x512 .f32 :=
  (Memref.whole cc0_scratch4).slice (Rect.unit (s := S2x1024x512) ![1, 0, 0] S1x1024x512.size inb_S2x1024x512_S1x1024x512_1_0_0) (fun _ => rfl)
abbrev od0 : Memref sig .tc .vmem S1x1024x512 .f32 :=
  (Memref.whole cc0_scratch5).slice (Rect.unit (s := S2x1024x512) ![0, 0, 0] S1x1024x512.size inb_S2x1024x512_S1x1024x512_0_0_0) (fun _ => rfl)
abbrev od1 : Memref sig .tc .vmem S1x1024x512 .f32 :=
  (Memref.whole cc0_scratch5).slice (Rect.unit (s := S2x1024x512) ![1, 0, 0] S1x1024x512.size inb_S2x1024x512_S1x1024x512_1_0_0) (fun _ => rfl)
abbrev am0 : Memref sig .tc .vmem S1x8x128 .f32 :=
  (Memref.whole cc0_scratch6).slice (Rect.unit (s := S4x8x128) ![0, 0, 0] S1x8x128.size inb_S4x8x128_S1x8x128_0_0_0) (fun _ => rfl)
abbrev am1 : Memref sig .tc .vmem S1x8x128 .f32 :=
  (Memref.whole cc0_scratch6).slice (Rect.unit (s := S4x8x128) ![1, 0, 0] S1x8x128.size inb_S4x8x128_S1x8x128_1_0_0) (fun _ => rfl)
abbrev am2 : Memref sig .tc .vmem S1x8x128 .f32 :=
  (Memref.whole cc0_scratch6).slice (Rect.unit (s := S4x8x128) ![2, 0, 0] S1x8x128.size inb_S4x8x128_S1x8x128_2_0_0) (fun _ => rfl)
abbrev am3 : Memref sig .tc .vmem S1x8x128 .f32 :=
  (Memref.whole cc0_scratch6).slice (Rect.unit (s := S4x8x128) ![3, 0, 0] S1x8x128.size inb_S4x8x128_S1x8x128_3_0_0) (fun _ => rfl)
abbrev yc0 : Memref sig .tc .vmem S1x1024x1024 .i8 :=
  (Memref.whole cc0_stg2_0).slice (Rect.unit (s := S4x1024x1024) ![0, 0, 0] S1x1024x1024.size inb_S4x1024x1024_S1x1024x1024_0_0_0) (fun _ => rfl)
abbrev yc1 : Memref sig .tc .vmem S1x1024x1024 .i8 :=
  (Memref.whole cc0_stg2_0).slice (Rect.unit (s := S4x1024x1024) ![1, 0, 0] S1x1024x1024.size inb_S4x1024x1024_S1x1024x1024_1_0_0) (fun _ => rfl)
abbrev yc2 : Memref sig .tc .vmem S1x1024x1024 .i8 :=
  (Memref.whole cc0_stg2_0).slice (Rect.unit (s := S4x1024x1024) ![2, 0, 0] S1x1024x1024.size inb_S4x1024x1024_S1x1024x1024_2_0_0) (fun _ => rfl)
abbrev yc3 : Memref sig .tc .vmem S1x1024x1024 .i8 :=
  (Memref.whole cc0_stg2_0).slice (Rect.unit (s := S4x1024x1024) ![3, 0, 0] S1x1024x1024.size inb_S4x1024x1024_S1x1024x1024_3_0_0) (fun _ => rfl)
abbrev ycl : Memref sig .tc .vmem S1x1024x512 .i8 :=
  (Memref.whole cc0_stg2_0).slice (Rect.unit (s := S4x1024x1024) ![0, 0, 0] S1x1024x512.size inb_S4x1024x1024_S1x1024x512_0_0_0) (fun _ => rfl)
abbrev ycr : Memref sig .tc .vmem S1x1024x512 .i8 :=
  (Memref.whole cc0_stg2_0).slice (Rect.unit (s := S4x1024x1024) ![0, 0, 512] S1x1024x512.size inb_S4x1024x1024_S1x1024x512_0_0_512) (fun _ => rfl)
abbrev yd0 : Memref sig .tc .vmem S1x1024x1024 .i8 :=
  (Memref.whole cc0_stg3_0).slice (Rect.unit (s := S4x1024x1024) ![0, 0, 0] S1x1024x1024.size inb_S4x1024x1024_S1x1024x1024_0_0_0) (fun _ => rfl)
abbrev yd1 : Memref sig .tc .vmem S1x1024x1024 .i8 :=
  (Memref.whole cc0_stg3_0).slice (Rect.unit (s := S4x1024x1024) ![1, 0, 0] S1x1024x1024.size inb_S4x1024x1024_S1x1024x1024_1_0_0) (fun _ => rfl)
abbrev yd2 : Memref sig .tc .vmem S1x1024x1024 .i8 :=
  (Memref.whole cc0_stg3_0).slice (Rect.unit (s := S4x1024x1024) ![2, 0, 0] S1x1024x1024.size inb_S4x1024x1024_S1x1024x1024_2_0_0) (fun _ => rfl)
abbrev yd3 : Memref sig .tc .vmem S1x1024x1024 .i8 :=
  (Memref.whole cc0_stg3_0).slice (Rect.unit (s := S4x1024x1024) ![3, 0, 0] S1x1024x1024.size inb_S4x1024x1024_S1x1024x1024_3_0_0) (fun _ => rfl)
abbrev ydl : Memref sig .tc .vmem S1x1024x512 .i8 :=
  (Memref.whole cc0_stg3_0).slice (Rect.unit (s := S4x1024x1024) ![0, 0, 0] S1x1024x512.size inb_S4x1024x1024_S1x1024x512_0_0_0) (fun _ => rfl)
abbrev ydr : Memref sig .tc .vmem S1x1024x512 .i8 :=
  (Memref.whole cc0_stg3_0).slice (Rect.unit (s := S4x1024x1024) ![0, 0, 512] S1x1024x512.size inb_S4x1024x1024_S1x1024x512_0_0_512) (fun _ => rfl)

/-- What a copy counts: the three kinds of block that are sent. -/
def AR : ℕ := (rc00.squeeze S1024x512 squeezes_S1x1x1024x512_S1024x512).view.dmaCredit
def AX : ℕ := (am0.squeeze S8x128 squeezes_S1x8x128_S8x128).view.dmaCredit
def AY : ℕ := (yc0.squeeze S1024x1024 squeezes_S1x1024x1024_S1024x1024).view.dmaCredit
theorem AR_pos : 0 < AR := View.dmaCredit_pos _ (by decide)
theorem AX_pos : 0 < AX := View.dmaCredit_pos _ (by decide)
theorem AY_pos : 0 < AY := View.dmaCredit_pos _ (by decide)
/-- The amount of copy `n`. -/
def amt (n : Fin 21) : ℕ := if n.val < 12 then AR else if n.val < 15 then AX else AY
theorem amt_pos (n : Fin 21) : 0 < amt n := by
  unfold amt; split
  · exact AR_pos
  · split
    · exact AX_pos
    · exact AY_pos

/-! ## The contents

`A c` is the stack of row blocks of device `c`'s share of the left operand, `B c` its share of the right one. -/

section Contents

variable (A : Dev nD → Vec F S4x1024x1024 .bf16) (B : Dev nD → Vec F S1024x2048 .bf16)

def x0 (c : Dev nD) : Vec F S1x1024x1024 .bf16 := fun j => A c ((Rect.unit (s := S4x1024x1024) ![0, 0, 0] S1x1024x1024.size inb_S4x1024x1024_S1x1024x1024_0_0_0).emb j)
def x1 (c : Dev nD) : Vec F S1x1024x1024 .bf16 := fun j => A c ((Rect.unit (s := S4x1024x1024) ![1, 0, 0] S1x1024x1024.size inb_S4x1024x1024_S1x1024x1024_1_0_0).emb j)
def x2 (c : Dev nD) : Vec F S1x1024x1024 .bf16 := fun j => A c ((Rect.unit (s := S4x1024x1024) ![2, 0, 0] S1x1024x1024.size inb_S4x1024x1024_S1x1024x1024_2_0_0).emb j)
def x3 (c : Dev nD) : Vec F S1x1024x1024 .bf16 := fun j => A c ((Rect.unit (s := S4x1024x1024) ![3, 0, 0] S1x1024x1024.size inb_S4x1024x1024_S1x1024x1024_3_0_0).emb j)
def w0 (c : Dev nD) : Vec F S1024x512 .bf16 := fun j => B c ((Rect.unit (s := S1024x2048) ![0, 0] S1024x512.size inb_S1024x2048_S1024x512_0_0).emb j)
def w1 (c : Dev nD) : Vec F S1024x512 .bf16 := fun j => B c ((Rect.unit (s := S1024x2048) ![0, 512] S1024x512.size inb_S1024x2048_S1024x512_0_512).emb j)
def w2 (c : Dev nD) : Vec F S1024x512 .bf16 := fun j => B c ((Rect.unit (s := S1024x2048) ![0, 1024] S1024x512.size inb_S1024x2048_S1024x512_0_1024).emb j)
def w3 (c : Dev nD) : Vec F S1024x512 .bf16 := fun j => B c ((Rect.unit (s := S1024x2048) ![0, 1536] S1024x512.size inb_S1024x2048_S1024x512_0_1536).emb j)

/-- A block of one shape handed on at the landing slot's. -/
def up4 (X : Vec F S1x1024x512 .bf16) : Vec F S1x1x1024x512 .bf16 :=
  recast (s := S1024x512) squeezes_S1x1x1024x512_S1024x512.numel_eq.symm (recast squeezes_S1x1024x512_S1024x512.numel_eq X)

section Chain

/-! A partial sum travels the ring: `g` is the device a block comes from, `xa … xd` the row blocks a device adds in
    turn, `w` the columns. -/

variable (g : Dev nD → Dev nD) (xa xb xc xd : Dev nD → Vec F S1x1024x1024 .bf16) (w : Dev nD → Vec F S1024x512 .bf16)

/-- What a device sends first, -/
def P0 (c : Dev nD) : Vec F S1x1024x512 .bf16 := k0_pay1 (xa c) (w c)
/-- what lands on it first, -/
def L0 (c : Dev nD) : Vec F S1x1x1024x512 .bf16 := up4 (P0 xa w (g c))
/-- that with its own product added, -/
def P1 (c : Dev nD) : Vec F S1x1x1024x512 .bf16 := k0_pay8 (k0_pay7 (xb c) (w c)) (L0 g xa w c)
/-- what lands second, and so on, -/
def L1 (c : Dev nD) : Vec F S1x1x1024x512 .bf16 := P1 g xa xb w (g c)
def P2 (c : Dev nD) : Vec F S1x1x1024x512 .bf16 := k0_pay8 (k0_pay7 (xc c) (w c)) (L1 g xa xb w c)
def L2 (c : Dev nD) : Vec F S1x1x1024x512 .bf16 := P2 g xa xb xc w (g c)
/-- up to the sum over all four devices, which this one keeps, -/
def Own (c : Dev nD) : Vec F S1x1024x512 .f32 := k0_pay26 (k0_pay7 (xd c) (w c)) (L2 g xa xb xc w c)
/-- and its greatest entry. -/
def Top (c : Dev nD) : F .f32 := k0_pay27 (k0_pay7 (xd c) (w c)) (L2 g xa xb xc w c)

end Chain

/-! The chain of columns 0, going right. -/
def ap0 (c : Dev nD) : Vec F S1x1024x512 .bf16 := P0 (x0 A) (w0 B) c
def al0 (c : Dev nD) : Vec F S1x1x1024x512 .bf16 := L0 pv (x0 A) (w0 B) c
def ap1 (c : Dev nD) : Vec F S1x1x1024x512 .bf16 := P1 pv (x0 A) (x1 A) (w0 B) c
def al1 (c : Dev nD) : Vec F S1x1x1024x512 .bf16 := L1 pv (x0 A) (x1 A) (w0 B) c
def ap2 (c : Dev nD) : Vec F S1x1x1024x512 .bf16 := P2 pv (x0 A) (x1 A) (x2 A) (w0 B) c
def al2 (c : Dev nD) : Vec F S1x1x1024x512 .bf16 := L2 pv (x0 A) (x1 A) (x2 A) (w0 B) c
def aow (c : Dev nD) : Vec F S1x1024x512 .f32 := Own pv (x0 A) (x1 A) (x2 A) (x3 A) (w0 B) c
def amx (c : Dev nD) : F .f32 := Top pv (x0 A) (x1 A) (x2 A) (x3 A) (w0 B) c
theorem al0_eq (c : Dev nD) : al0 A B c = up4 (ap0 A B (pv c)) := rfl
theorem al1_eq (c : Dev nD) : al1 A B c = ap1 A B (pv c) := rfl
theorem al2_eq (c : Dev nD) : al2 A B c = ap2 A B (pv c) := rfl
/-! The chain of columns 1, going right. -/
def bp0 (c : Dev nD) : Vec F S1x1024x512 .bf16 := P0 (x0 A) (w1 B) c
def bl0 (c : Dev nD) : Vec F S1x1x1024x512 .bf16 := L0 pv (x0 A) (w1 B) c
def bp1 (c : Dev nD) : Vec F S1x1x1024x512 .bf16 := P1 pv (x0 A) (x1 A) (w1 B) c
def bl1 (c : Dev nD) : Vec F S1x1x1024x512 .bf16 := L1 pv (x0 A) (x1 A) (w1 B) c
def bp2 (c : Dev nD) : Vec F S1x1x1024x512 .bf16 := P2 pv (x0 A) (x1 A) (x2 A) (w1 B) c
def bl2 (c : Dev nD) : Vec F S1x1x1024x512 .bf16 := L2 pv (x0 A) (x1 A) (x2 A) (w1 B) c
def bow (c : Dev nD) : Vec F S1x1024x512 .f32 := Own pv (x0 A) (x1 A) (x2 A) (x3 A) (w1 B) c
def bmx (c : Dev nD) : F .f32 := Top pv (x0 A) (x1 A) (x2 A) (x3 A) (w1 B) c
theorem bl0_eq (c : Dev nD) : bl0 A B c = up4 (bp0 A B (pv c)) := rfl
theorem bl1_eq (c : Dev nD) : bl1 A B c = bp1 A B (pv c) := rfl
theorem bl2_eq (c : Dev nD) : bl2 A B c = bp2 A B (pv c) := rfl
/-! The chain of columns 2, going left. -/
def dp0 (c : Dev nD) : Vec F S1x1024x512 .bf16 := P0 (x0 A) (w2 B) c
def dl0 (c : Dev nD) : Vec F S1x1x1024x512 .bf16 := L0 nx (x0 A) (w2 B) c
def dp1 (c : Dev nD) : Vec F S1x1x1024x512 .bf16 := P1 nx (x0 A) (x3 A) (w2 B) c
def dl1 (c : Dev nD) : Vec F S1x1x1024x512 .bf16 := L1 nx (x0 A) (x3 A) (w2 B) c
def dp2 (c : Dev nD) : Vec F S1x1x1024x512 .bf16 := P2 nx (x0 A) (x3 A) (x2 A) (w2 B) c
def dl2 (c : Dev nD) : Vec F S1x1x1024x512 .bf16 := L2 nx (x0 A) (x3 A) (x2 A) (w2 B) c
def dow (c : Dev nD) : Vec F S1x1024x512 .f32 := Own nx (x0 A) (x3 A) (x2 A) (x1 A) (w2 B) c
def dmx (c : Dev nD) : F .f32 := Top nx (x0 A) (x3 A) (x2 A) (x1 A) (w2 B) c
theorem dl0_eq (c : Dev nD) : dl0 A B c = up4 (dp0 A B (nx c)) := rfl
theorem dl1_eq (c : Dev nD) : dl1 A B c = dp1 A B (nx c) := rfl
theorem dl2_eq (c : Dev nD) : dl2 A B c = dp2 A B (nx c) := rfl
/-! The chain of columns 3, going left. -/
def ep0 (c : Dev nD) : Vec F S1x1024x512 .bf16 := P0 (x0 A) (w3 B) c
def el0 (c : Dev nD) : Vec F S1x1x1024x512 .bf16 := L0 nx (x0 A) (w3 B) c
def ep1 (c : Dev nD) : Vec F S1x1x1024x512 .bf16 := P1 nx (x0 A) (x3 A) (w3 B) c
def el1 (c : Dev nD) : Vec F S1x1x1024x512 .bf16 := L1 nx (x0 A) (x3 A) (w3 B) c
def ep2 (c : Dev nD) : Vec F S1x1x1024x512 .bf16 := P2 nx (x0 A) (x3 A) (x2 A) (w3 B) c
def el2 (c : Dev nD) : Vec F S1x1x1024x512 .bf16 := L2 nx (x0 A) (x3 A) (x2 A) (w3 B) c
def eow (c : Dev nD) : Vec F S1x1024x512 .f32 := Own nx (x0 A) (x3 A) (x2 A) (x1 A) (w3 B) c
def emx (c : Dev nD) : F .f32 := Top nx (x0 A) (x3 A) (x2 A) (x1 A) (w3 B) c
theorem el0_eq (c : Dev nD) : el0 A B c = up4 (ep0 A B (nx c)) := rfl
theorem el1_eq (c : Dev nD) : el1 A B c = ep1 A B (nx c) := rfl
theorem el2_eq (c : Dev nD) : el2 A B c = ep2 A B (nx c) := rfl

/-- The tile a device shows the others: the greatest entry of what it holds, at least zero, everywhere. -/
def tile (c : Dev nD) : Vec F S1x8x128 .f32 := k0_pay40 (amx A B c) (dmx A B c) (bmx A B c) (emx A B c)
/-- All four tiles, the own one first, going right. -/
def tiles (c : Dev nD) : Vec F S4x8x128 .f32 := fun i => tile A B (rot (i 0) c) (ix3 0 (i 1) (i 2))
/-- The scale. -/
def scl (c : Dev nD) : F .f32 := k0_pay42 (tiles A B c)
/-- The four quantised blocks of a device. -/
def qa (c : Dev nD) : Vec F S1x1024x512 .i8 := k0_pay46 (k0_pay45 (tiles A B c) (aow A B c))
def qd (c : Dev nD) : Vec F S1x1024x512 .i8 := k0_pay47 (k0_pay44 (tiles A B c) (dow A B c))
def qb (c : Dev nD) : Vec F S1x1024x512 .i8 := k0_pay48 (k0_pay43 (tiles A B c)) (bow A B c)
def qe (c : Dev nD) : Vec F S1x1024x512 .i8 := k0_pay50 (k0_pay49 (k0_pay43 (tiles A B c)) (eow A B c))

/-- Two half-width blocks of every device put side by side and stacked: at place `k` those of device `h k`. -/
def stack (h : Fin 4 → Dev nD) (l r : Dev nD → Vec F S1x1024x512 .i8) : Vec F S4x1024x1024 .i8 := fun i =>
  if hi : (i 2).val < 512 then l (h (i 0)) (ix3 0 (i 1) ⟨(i 2).val, hi⟩)
  else r (h (i 0)) (ix3 0 (i 1) ⟨(i 2).val - 512, Nat.sub_lt_left_of_lt_add (Nat.not_lt.1 hi) (i 2).isLt⟩)
/-- The device `k` places to the left. -/
def tor (k : Fin 4) (c : Dev nD) : Dev nD := ⟨(c.val + (4 - k.val)) % 4, Nat.mod_lt _ (by decide)⟩
/-- The left half of the result as device `c` gathers it, -/
def yL (c : Dev nD) : Vec F S4x1024x1024 .i8 := stack (fun k => tor k c) (qa A B) (qb A B)
/-- and the right half. -/
def yR (c : Dev nD) : Vec F S4x1024x1024 .i8 := stack (fun k => rot k c) (qd A B) (qe A B)

/-- A slot of the left half, -/
def yL0 (c : Dev nD) : Vec F S1x1024x1024 .i8 := fun j => yL A B c ((Rect.unit (s := S4x1024x1024) ![0, 0, 0] S1x1024x1024.size inb_S4x1024x1024_S1x1024x1024_0_0_0).emb j)
def yL1 (c : Dev nD) : Vec F S1x1024x1024 .i8 := fun j => yL A B c ((Rect.unit (s := S4x1024x1024) ![1, 0, 0] S1x1024x1024.size inb_S4x1024x1024_S1x1024x1024_1_0_0).emb j)
def yL2 (c : Dev nD) : Vec F S1x1024x1024 .i8 := fun j => yL A B c ((Rect.unit (s := S4x1024x1024) ![2, 0, 0] S1x1024x1024.size inb_S4x1024x1024_S1x1024x1024_2_0_0).emb j)
def yL3 (c : Dev nD) : Vec F S1x1024x1024 .i8 := fun j => yL A B c ((Rect.unit (s := S4x1024x1024) ![3, 0, 0] S1x1024x1024.size inb_S4x1024x1024_S1x1024x1024_3_0_0).emb j)
/-- of the right half, -/
def yR0 (c : Dev nD) : Vec F S1x1024x1024 .i8 := fun j => yR A B c ((Rect.unit (s := S4x1024x1024) ![0, 0, 0] S1x1024x1024.size inb_S4x1024x1024_S1x1024x1024_0_0_0).emb j)
def yR1 (c : Dev nD) : Vec F S1x1024x1024 .i8 := fun j => yR A B c ((Rect.unit (s := S4x1024x1024) ![1, 0, 0] S1x1024x1024.size inb_S4x1024x1024_S1x1024x1024_1_0_0).emb j)
def yR2 (c : Dev nD) : Vec F S1x1024x1024 .i8 := fun j => yR A B c ((Rect.unit (s := S4x1024x1024) ![2, 0, 0] S1x1024x1024.size inb_S4x1024x1024_S1x1024x1024_2_0_0).emb j)
def yR3 (c : Dev nD) : Vec F S1x1024x1024 .i8 := fun j => yR A B c ((Rect.unit (s := S4x1024x1024) ![3, 0, 0] S1x1024x1024.size inb_S4x1024x1024_S1x1024x1024_3_0_0).emb j)
/-- and of the tiles. -/
def tl0 (c : Dev nD) : Vec F S1x8x128 .f32 := fun j => tiles A B c ((Rect.unit (s := S4x8x128) ![0, 0, 0] S1x8x128.size inb_S4x8x128_S1x8x128_0_0_0).emb j)
def tl1 (c : Dev nD) : Vec F S1x8x128 .f32 := fun j => tiles A B c ((Rect.unit (s := S4x8x128) ![1, 0, 0] S1x8x128.size inb_S4x8x128_S1x8x128_1_0_0).emb j)
def tl2 (c : Dev nD) : Vec F S1x8x128 .f32 := fun j => tiles A B c ((Rect.unit (s := S4x8x128) ![2, 0, 0] S1x8x128.size inb_S4x8x128_S1x8x128_2_0_0).emb j)
def tl3 (c : Dev nD) : Vec F S1x8x128 .f32 := fun j => tiles A B c ((Rect.unit (s := S4x8x128) ![3, 0, 0] S1x8x128.size inb_S4x8x128_S1x8x128_3_0_0).emb j)

end Contents

/-! ## The schedule -/

abbrev UU : Type := URounds (GSem nD τ sig) Unit × URounds (GSem nD τ sig) Bool

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) Bool) (MT nD τ sig Unit (Elt F) ℕ UU ℕ) := embR

/-- A slot owned at contents not chosen. -/
def any (c : Dev nD) {sp : Space} {sh : Shape} {e : EltTy} (m : Memref sig .tc sp sh e) : sProp 𝕄 :=
  iprop(∃ X : sh.Idx → Elt F e, owns (c : Thread nD τ) m fullShare X)
instance any_storable (c : Dev nD) {sp : Space} {sh : Shape} {e : EltTy} (m : Memref sig .tc sp sh e) :
    BI.Storable (upEmb : UEmb _ 𝕄) (any (F := F) c m) := by unfold any; infer_instance
/-- A slot owned whole at named contents. -/
abbrev ow (c : Dev nD) {sp : Space} {sh : Shape} {e : EltTy} (m : Memref sig .tc sp sh e) (X : sh.Idx → Elt F e) : sProp 𝕄 :=
  owns (c : Thread nD τ) m fullShare X
theorem ow_any (c : Dev nD) {sp : Space} {sh : Shape} {e : EltTy} (m : Memref sig .tc sp sh e) (X : sh.Idx → Elt F e) :
    (ow c m X : sProp 𝕄) ⊢ any c m := by unfold any; iintro H; iexists X; iexact H
/-- A buffer held whole at contents not chosen. -/
abbrev buf (c : Dev nD) (b : Ref sig .tc) : sProp 𝕄 := iprop(∃ f : Buf (Elt F) ((c : Thread nD τ).loc b), ((c : Thread nD τ).loc b) ↦{fullShare} f)

/-- Every counter of device `c` stands in its one round. -/
def rch (c : Dev nD) : sProp 𝕄 := bigSep Finset.univ fun k : I => reached ER (cell k c) 0
instance rch_storable (c : Dev nD) : BI.Storable (upEmb : UEmb _ 𝕄) (rch (F := F) c) := by unfold rch; infer_instance
instance rch_persistent (c : Dev nD) : BI.Persistent (rch (F := F) c : sProp 𝕄) := by unfold rch; infer_instance
theorem rch_at (k : I) (c : Dev nD) : (rch (F := F) c : sProp 𝕄) ⊢ reached ER (cell k c) 0 := by
  unfold rch; exact bigSep_elim (Finset.mem_univ k)

/-- What the right neighbour's signal hands device `c`: the room on that neighbour that `c` writes into going right,
    and a tile's room there that `c` passes on to the left. -/
def barPayF (c : Dev nD) : sProp 𝕄 :=
  iprop(buf (F := F) (nx c) cc0_scratch0 ∗ any (F := F) (nx c) yc1 ∗ any (F := F) (nx c) yc2 ∗ any (F := F) (nx c) yc3
    ∗ any (F := F) (nx c) am3 ∗ any (F := F) (nx c) am2 ∗ rch (F := F) (nx c))
/-- What the left neighbour's signal hands device `c`: the room on that neighbour that `c` writes into going left. -/
def barPayT (c : Dev nD) : sProp 𝕄 :=
  iprop(buf (F := F) (pv c) cc0_scratch1 ∗ any (F := F) (pv c) yd1 ∗ any (F := F) (pv c) yd2 ∗ any (F := F) (pv c) yd3
    ∗ any (F := F) (pv c) am1 ∗ rch (F := F) (pv c))
instance barPayF_storable (c : Dev nD) : BI.Storable (upEmb : UEmb _ 𝕄) (barPayF (F := F) c) := by unfold barPayF; infer_instance
instance barPayT_storable (c : Dev nD) : BI.Storable (upEmb : UEmb _ 𝕄) (barPayT (F := F) c) := by unfold barPayT; infer_instance

section Sched

variable (A : Dev nD → Vec F S4x1024x1024 .bf16) (B : Dev nD → Vec F S1024x2048 .bf16)

/-- What a finished copy gives back to its sender: the source. -/
def sendPay : ℕ → Dev nD → sProp 𝕄
  | 0, c => any (F := F) c sc0
  | 1, c => any (F := F) c sd0
  | 2, c => any (F := F) c sc1
  | 3, c => any (F := F) c sd1
  | 4, c => any (F := F) c rc00
  | 5, c => any (F := F) c rd00
  | 6, c => any (F := F) c rc01
  | 7, c => any (F := F) c rd01
  | 8, c => any (F := F) c rc10
  | 9, c => any (F := F) c rd10
  | 10, c => any (F := F) c rc11
  | 11, c => any (F := F) c rd11
  | 12, c => owns (c : Thread nD τ) am0 fullShare.left (tile A B c)
  | 13, c => owns (c : Thread nD τ) am0 fullShare.right.left (tile A B c)
  | 14, c => owns (c : Thread nD τ) am0 fullShare.right.right (tile A B c)
  | 15, c => ow c yc0 (yL0 A B c)
  | 16, c => ow c yd0 (yR0 A B c)
  | 17, c => ow c yc1 (yL1 A B c)
  | 18, c => ow c yd1 (yR1 A B c)
  | 19, c => ow c yc2 (yL2 A B c)
  | 20, c => ow c yd2 (yR2 A B c)
  | _, _ => iprop(emp)
/-- What a landed copy gives its receiver: the destination, at what was sent. The first one going left brings a tile's
    room on the opposite device along. -/
def recvPay : ℕ → Dev nD → sProp 𝕄
  | 0, c => ow c rc00 (al0 A B c)
  | 1, c => iprop(ow c rd00 (dl0 A B c) ∗ (any (F := F) (op c) am2 ∗ rch (F := F) (op c)))
  | 2, c => ow c rc01 (bl0 A B c)
  | 3, c => ow c rd01 (el0 A B c)
  | 4, c => ow c rc10 (al1 A B c)
  | 5, c => ow c rd10 (dl1 A B c)
  | 6, c => ow c rc11 (bl1 A B c)
  | 7, c => ow c rd11 (el1 A B c)
  | 8, c => ow c rc20 (al2 A B c)
  | 9, c => ow c rd20 (dl2 A B c)
  | 10, c => ow c rc21 (bl2 A B c)
  | 11, c => ow c rd21 (el2 A B c)
  | 12, c => ow c am3 (tl3 A B c)
  | 13, c => ow c am1 (tl1 A B c)
  | 14, c => ow c am2 (tl2 A B c)
  | 15, c => ow c yc1 (yL1 A B c)
  | 16, c => ow c yd1 (yR1 A B c)
  | 17, c => ow c yc2 (yL2 A B c)
  | 18, c => ow c yd2 (yR2 A B c)
  | 19, c => ow c yc3 (yL3 A B c)
  | 20, c => ow c yd3 (yR3 A B c)
  | _, _ => iprop(emp)
instance sendPay_storable (n : ℕ) (c : Dev nD) : BI.Storable (upEmb : UEmb _ 𝕄) (sendPay A B n c) := by
  unfold sendPay; split <;> infer_instance
instance recvPay_storable (n : ℕ) (c : Dev nD) : BI.Storable (upEmb : UEmb _ 𝕄) (recvPay A B n c) := by
  unfold recvPay; split <;> infer_instance

/-- What a counter hands its owner. -/
def pay (k : I) (c : Dev nD) : sProp 𝕄 := if k.2 then recvPay A B k.1.val c else sendPay A B k.1.val c
instance pay_storable (k : I) (c : Dev nD) : BI.Storable (upEmb : UEmb _ 𝕄) (pay A B k c) := by
  unfold pay; split <;> infer_instance

/-- Whether a semaphore is one the devices talk over. -/
def isTalk : SemLoc sig → Bool
  | .reg _ => true
  | .dma s => decide (5 ≤ s.val)

/-- One round everywhere: a device is signalled by both its neighbours, and every copy counts once at its sender and once
    at its receiver. -/
def rd : Rounds.Schedule (GSem nD τ sig) Bool 𝕄 where
  duties g r := if r = 0 ∧ g.1.2 = .tc ∧ isTalk g.2 = true then (match g.2 with | .reg _ => Finset.univ | .dma _ => {false}) else ∅
  unitless _ := False
  amount g _ _ := match g.2 with | .reg _ => 1 | .dma s => amt (un s.val).1
  payload g _ d := match g.2 with
    | .reg _ => if d then barPayT g.1.1 else barPayF g.1.1
    | .dma s => pay A B (un s.val) g.1.1
  amount_pos g _ _ _ := by
    rcases hg : g.2 with s | s
    · exact Nat.one_pos
    · exact amt_pos _

instance rd_storable (g : GSem nD τ sig) (r : ℕ) (d : Bool) : BI.Storable (upEmb : UEmb _ 𝕄) ((rd A B).payload g r d) := by
  obtain ⟨t, s⟩ := g
  rcases s with s | s
  · show BI.Storable upEmb (if d then barPayT t.1 else barPayF t.1)
    split <;> infer_instance
  · show BI.Storable upEmb (pay A B (un s.val) t.1)
    infer_instance

theorem duties_bar (c : Dev nD) : (rd A B).duties (barCell c) 0 = Finset.univ := by
  dsimp only [rd]; exact if_pos ⟨rfl, rfl, rfl⟩
theorem duties_cell (k : I) (c : Dev nD) : (rd A B).duties (cell k c) 0 = {false} := if_pos ⟨rfl, rfl, decide_eq_true (dsem_range k)⟩
theorem duties_later (g : GSem nD τ sig) (r : ℕ) (hr : 1 ≤ r) : (rd A B).duties g r = ∅ := if_neg fun h => by omega
theorem amount_bar (c : Dev nD) (d : Bool) : (rd A B).amount (barCell c) 0 d = 1 := rfl
theorem amount_cell (k : I) (c : Dev nD) (d : Bool) : (rd A B).amount (cell k c) 0 d = amt k.1 := by
  show amt (un (dsem k).val).1 = _; rw [un_dsem]
theorem payload_barF (c : Dev nD) : (rd A B).payload (barCell c) 0 false = barPayF (F := F) c := rfl
theorem payload_barT (c : Dev nD) : (rd A B).payload (barCell c) 0 true = barPayT (F := F) c := rfl
theorem payload_cell (k : I) (c : Dev nD) (d : Bool) : (rd A B).payload (cell k c) 0 d = pay A B k c := by
  show pay A B (un (dsem k).val) c = _; rw [un_dsem]
theorem expect_bar (c : Dev nD) : (rd A B).expect (barCell c) 0 = 2 := by
  unfold Schedule.expect Schedule.amountOf; rw [duties_bar]; rfl
theorem expect_cell (k : I) (c : Dev nD) : (rd A B).expect (cell k c) 0 = amt k.1 := by
  unfold Schedule.expect Schedule.amountOf; rw [duties_cell, Finset.sum_singleton, amount_cell]
theorem rest_bar (c : Dev nD) : bigSep ((rd A B).duties (barCell c) 0 \ ∅) (fun d => (rd A B).payload (barCell c) 0 d) = iprop(barPayF (F := F) c ∗ barPayT c) := by
  rw [Finset.sdiff_empty, duties_bar, bigSep_univ_eq_bigSepL [false, true] (by decide) (by decide)]; rfl
theorem rest_cell (k : I) (c : Dev nD) : bigSep ((rd A B).duties (cell k c) 0 \ ∅) (fun d => (rd A B).payload (cell k c) 0 d) = pay A B k c := by
  rw [Finset.sdiff_empty, duties_cell, bigSep_singleton, payload_cell]

/-! ## What is owed, and the ranks of the waits -/

/-- What device `c` still owes once copies below `n` are out. -/
def Orem (n : ℕ) (c : Dev nD) : CellTallies nD τ sig Unit :=
  ∑ m ∈ Finset.univ.filter (fun m : Fin 21 => n ≤ m.val), tallyAt (cell (m, true) (tgt m c)) () (amt m)
theorem Orem_step (n : Fin 21) (c : Dev nD) : Orem n.val c = Orem (n.val + 1) c + tallyAt (cell (n, true) (tgt n c)) () (amt n) := by
  unfold Orem
  have : (Finset.univ.filter fun m : Fin 21 => n.val ≤ m.val) = insert n (Finset.univ.filter fun m : Fin 21 => n.val + 1 ≤ m.val) := by
    revert n; decide
  rw [this, Finset.sum_insert (by simp), add_comm]
theorem Orem_end (c : Dev nD) : Orem 21 c = 0 := by
  unfold Orem
  rw [show (Finset.univ.filter fun m : Fin 21 => 21 ≤ m.val) = ∅ from by decide]; rfl
/-- What it owes at launch: a signal to each neighbour and all its copies. -/
def O₀ (c : Dev nD) : CellTallies nD τ sig Unit := (Orem 0 c + tallyAt (barCell (nx c)) () 1) + tallyAt (barCell (pv c)) () 1

def L (g : GSem nD τ sig) : Finset Unit := if g.1.2 = .tc then {()} else ∅
/-- The meeting first, then the landings in the order of the copies; what a device waits for on its own account lies below. -/
def lvS : SemLoc sig → ℕ
  | .reg _ => 1
  | .dma s => if (un s.val).2 then (un s.val).1.val + 2 else 0
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl
theorem lv_recv (n : Fin 21) (c : Dev nD) (u : Unit) : lv (cell (n, true) c) u = n.val + 2 := by
  show (if (un (dsem (n, true)).val).2 then _ else _) = _
  rw [un_dsem]; rfl
theorem lv_send (n : Fin 21) (c : Dev nD) (u : Unit) : lv (cell (n, false) c) u = 0 := by
  show (if (un (dsem (n, false)).val).2 then _ else _) = _
  rw [un_dsem]; rfl

/-- What is owed is owed to a landing still to come. -/
theorem Orem_pos (n : ℕ) (c : Dev nD) (g : GSem nD τ sig) (u : Unit) (h : 0 < Orem n c g u) :
    ∃ m : Fin 21, n ≤ m.val ∧ g = cell (m, true) (tgt m c) := by
  by_contra hne
  push Not at hne
  have : Orem n c g u = 0 := by
    unfold Orem
    rw [Finset.sum_apply, Finsupp.finset_sum_apply]
    refine Finset.sum_eq_zero fun m hm => ?_
    rw [tallyAt_apply, if_neg fun hh => hne m (Finset.mem_filter.mp hm).2 hh.1]
  omega

/-- A wait ranked below every landing still owed may be made. -/
theorem mayWait (n : ℕ) (c : Dev nD) (sm : SemLoc sig) (h : lvS sm < n + 2) :
    (levAts L lv : sProp 𝕄) ⊢ MayWait (c : Thread nD τ) sm () (Orem n c) :=
  MayOwe.of_cut (L := L) (lev := lv) (lvS sm) (fun p hp => by rw [Finset.mem_singleton.mp hp, L_tc]; exact Finset.mem_singleton_self _)
    (fun g u hg => by
      obtain ⟨m, -, rfl⟩ := Orem_pos n c g u hg
      rw [L_tc]; exact Finset.mem_singleton_self _)
    (fun p hp => by rw [Finset.mem_singleton.mp hp]; exact le_rfl)
    (fun g u hg => by
      obtain ⟨m, hm, rfl⟩ := Orem_pos n c g u hg
      rw [lv_recv]; omega)

end Sched

end Cert.KernelIdeal.Talk
-- ==== Proof.Steps.lean ====
/- One wait, one copy, one signal of the protocol, each stated once for any of the counters. -/
module

public import proofs.«01_k».proof.Proof.Sched

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

abbrev 𝒱₀ : Variants := Variants.none

/-! ## The cells as sets -/

def barEmb : Dev nD ↪ GSem nD τ sig := ⟨fun c => barCell c, fun a b h => by
  have := congrArg (fun g : GSem nD τ sig => g.1.1) h; exact this⟩
def scEmb : Dev nD × I ↪ GSem nD τ sig := ⟨fun p => cell p.2 p.1, fun a b h => by
  have h1 : a.1 = b.1 := congrArg (fun g : GSem nD τ sig => g.1.1) h
  have h2 : SemLoc.dma (dsem a.2) = (SemLoc.dma (dsem b.2) : SemLoc sig) := congrArg (fun g : GSem nD τ sig => g.2) h
  exact Prod.ext h1 (dsem_inj (SemLoc.dma.inj h2))⟩
/-- The meeting cells, open from the start, -/
def barCells : Finset (GSem nD τ sig) := Finset.univ.map barEmb
/-- and the copies' counters, dormant until the launched region is entered. -/
def scCells : Finset (GSem nD τ sig) := Finset.univ.map scEmb
theorem bar_mem (c : Dev nD) : barCell c ∈ barCells ∪ scCells :=
  Finset.mem_union_left _ (Finset.mem_map_of_mem barEmb (Finset.mem_univ c))
theorem cell_mem (k : I) (c : Dev nD) : cell k c ∈ barCells ∪ scCells :=
  Finset.mem_union_right _ (Finset.mem_map_of_mem scEmb (Finset.mem_univ (c, k)))

section Steps

variable (A : Dev nD → Vec F S4x1024x1024 .bf16) (B : Dev nD → Vec F S1024x2048 .bf16) (K : GSem nD τ sig → ℕ)

/-- Every cell's invariant, at the names the launch chose, and the ranks. -/
def recs : sProp 𝕄 := iprop((bigSep (barCells ∪ scCells) fun g => cellInv ER (rd A B) (K g) g) ∗ levAts L lv)
instance recs_persistent : BI.Persistent (recs A B K : sProp 𝕄) := by unfold recs; infer_instance
theorem recs_inv {g : GSem nD τ sig} (hg : g ∈ barCells ∪ scCells) : (recs A B K : sProp 𝕄) ⊢ cellInv ER (rd A B) (K g) g := by
  unfold recs; exact Laws.sep_elim_left.trans (bigSep_elim hg)
theorem recs_lev : (recs A B K : sProp 𝕄) ⊢ levAts L lv := by unfold recs; exact Laws.sep_elim_right

/-- What device `c` owes once the copies below `n` are out, whatever it has waited on. -/
def dbt (c : Dev nD) (n : ℕ) : sProp 𝕄 := iprop(∃ W : Waits sig Unit, owes (c : Thread nD τ) (Orem n c) W)
/-- What a wait on a counter takes: the credit for what will land, and the owner's place. -/
def wt (k : I) (c : Dev nD) : sProp 𝕄 := iprop(cred (tallyAt (cell k c) () (amt k.1)) ∗ atPos ER (cell k c) 0 ∅ 0)
/-- What issuing a copy takes: the two duties it pays, and the place at the sender's counter. -/
def tok (n : Fin 21) (c : Dev nD) : sProp 𝕄 :=
  iprop(dutyTok ER (cell (n, false) c) 0 false ∗ dutyTok ER (cell (n, true) (tgt n c)) 0 false ∗ atPos ER (cell (n, false) c) 0 ∅ 0)
/-- A counter back at zero. -/
abbrev zr (k : I) (c : Dev nD) : sProp 𝕄 := semVal (cell k c) 0

/-- A program that returns. -/
theorem wp_done {α : Type} {Q : α → sProp 𝕄} (c : Dev nD) (a : α) :
    (Q a : sProp 𝕄) ⊢ wp frame (wpE (defs₀ (F := F)) 𝒱₀ c none) Set.univ (Prog.ret a) Q := by
  rw [wp_ret]; iintro H; imodintro; iexact H

/-- Contents not chosen, chosen. -/
theorem any_ex (c : Dev nD) {sp : Space} {sh : Shape} {e : EltTy} (m : Memref sig .tc sp sh e) :
    (any (F := F) c m : sProp 𝕄) ⊢ iprop(∃ X : sh.Idx → Elt F e, ow c m X) := .rfl

/-- Waiting for a copy: what it hands over is the waiter's, and the counter is back at zero for good. -/
theorem wp_wait {α : Type} {Q : α → sProp 𝕄} (k : I) (n : ℕ) (c : Dev nD) {s : DmaSem sig} {sp sp' : Space} {sh sh' : Shape} {e e' : EltTy}
    {src : Memref sig .tc sp' sh' e'} {dst : Memref sig .tc sp sh e} {hsrc : src.view.WordExact} {hdst : dst.view.WordExact}
    {kk : PUnit → Prog (TpuEff nD τ sig (Elt F) Λ₀ .tc) α}
    (hs : s = dsem k) (ha : dst.view.dmaCredit = amt k.1) (hl : lvS (.dma (dsem k)) < n + 2) :
    iprop(recs A B K ∗ wt (F := F) k c ∗ dbt (F := F) c n)
      ⊢ iprop(((pay A B k c ∗ zr (F := F) k c ∗ dbt (F := F) c n) -∗ wp frame (wpE (defs₀ (F := F)) 𝒱₀ c none) Set.univ (kk ⟨⟩) Q)
        -∗ wp frame (wpE (defs₀ (F := F)) 𝒱₀ c none) Set.univ (.op (.waitDma2 s src dst hsrc hdst) kk) Q) := by
  subst hs
  unfold wt dbt
  iintro ⟨#HR, ⟨Hc, Hat⟩, ⟨%W, HO⟩⟩ Hk
  iapply (Rounds.wp_wait_rest_token 𝒱₀ ER (rd A B) (c : Thread nD τ) none (κ := K (cell k c))
      (wpE_waitDma2_eq 𝒱₀ (c : Thread nD τ) none Set.univ) (Set.mem_univ _) () (O := Orem n c) (W := W) (R := 0) (m := 0) (T := ∅)
      (by rw [Nat.zero_add, expect_cell, ha])) $$ [Hc HO Hat]
  · isplitr; · iapply (recs_inv A B K (cell_mem k c)); iexact HR
    isplitl [Hc]; · rw [ha]; iexact Hc
    isplitl [HO]; · iexact HO
    isplitr; · iapply (mayWait n c _ hl); iapply (recs_lev A B K); iexact HR
    iexact Hat
  iintro ⟨HO, Hat, -, Hpay⟩
  ihave Hp := (Entails.of_eq (rest_cell A B k c)) $$ Hpay
  imod (Rounds.cell_close ER (rd A B) (Set.mem_univ (K (cell k c))) id (duties_later A B (cell k c))) $$ [Hat] with Hz
  · isplitr; · iapply (recs_inv A B K (cell_mem k c)); iexact HR
    iexact Hat
  iapply Hk
  isplitl [Hp]; · iexact Hp
  isplitl [Hz]; · iexact Hz
  iexists _; iexact HO

/-- Sending copy `n`: the source's slot and the destination's are spent, `R` handed over with the latter. -/
theorem wp_sendR {α : Type} {Q : α → sProp 𝕄} (n : Fin 21) (c : Dev nD) {c' : Dev nD} {sp sp' : Space} {s₁ s₂ s : Shape} {e : EltTy}
    {ms : Memref sig .tc sp s₁ e} {md : Memref sig .tc sp' s₂ e} {h₁ : s₁.Squeezes s} {h₂ : s₂.Squeezes s}
    {hsc : (md.squeeze s h₂).view.ref.isScScratch = false} {sS sR : DmaSem sig}
    {hsrc : (ms.squeeze s h₁).view.WordExact} {hdst : (md.squeeze s h₂).view.WordExact}
    {hsem : DmaTarget.Typed sp (SemLoc.dma sR) (.remote (c' : Thread nD τ) (md.squeeze s h₂) (SemLoc.dma sS) hsc)}
    {kk : PUnit → Prog (TpuEff nD τ sig (Elt F) Λ₀ .tc) α}
    {X : s₁.Idx → Elt F e} {q : PosShare TreeShare} (Y : s₂.Idx → Elt F e) (R : sProp 𝕄)
    (hY : recast h₂.numel_eq Y = recast h₁.numel_eq X)
    (hc : c' = tgt n c) (hS : sS = dsem (n, false)) (hR : sR = dsem (n, true))
    (ha : (md.squeeze s h₂).view.amount (SemLoc.dma (dsem (n, true)) : SemLoc sig) = amt n)
    (hp₁ : (owns (c : Thread nD τ) ms q X : sProp 𝕄) ⊢ sendPay A B n.val c)
    (hp₂ : iprop((owns (tgt n c : Thread nD τ) md fullShare Y : sProp 𝕄) ∗ R) ⊢ recvPay A B n.val (tgt n c)) :
    iprop(recs A B K ∗ rch (F := F) c ∗ rch (F := F) (tgt n c) ∗ tok (F := F) n c
        ∗ owns (c : Thread nD τ) ms q X ∗ any (F := F) (tgt n c) md ∗ R ∗ dbt (F := F) c n.val)
      ⊢ iprop(((wt (F := F) (n, false) c ∗ dbt (F := F) c (n.val + 1)) -∗ wp frame (wpE (defs₀ (F := F)) 𝒱₀ c none) Set.univ (kk ⟨⟩) Q)
        -∗ wp frame (wpE (defs₀ (F := F)) 𝒱₀ c none) Set.univ
          (.op (.enqueueDma (ms.squeeze s h₁) (.remote (c' : Thread nD τ) (md.squeeze s h₂) (.dma sS) hsc) (.dma sR) hsrc hdst hsem) kk) Q) := by
  subst hc hS hR
  unfold wt dbt tok any
  iintro ⟨#HR, #Hrc, #Hrt, ⟨Ht1, Ht2, Hat⟩, Hs, ⟨%Yd, Hd⟩, HF, ⟨%W, HO⟩⟩ Hk
  iapply (wp_send_owns 𝒱₀ (c : Thread nD τ) none ER (rd A B) (c' := (tgt n c : Thread nD τ)) (src := ms.squeeze s h₁) (dst := md.squeeze s h₂)
      (sS := .dma (dsem (n, false))) (sem := .dma (dsem (n, true))) (q := q) (Y := recast h₁.numel_eq X) (Yd := recast h₂.numel_eq Yd) (F := R)
      (d₁ := false) (d₂ := false) (κ₁ := K (cell (n, false) c)) (κ₂ := K (cell (n, true) (tgt n c))) (r₁ := 0) (r₂ := 0)
      (by rw [duties_cell]; exact Finset.mem_singleton_self _) (by rw [duties_cell]; exact Finset.mem_singleton_self _)
      () () (amt n) ha (amount_cell A B (n, false) c false) (amount_cell A B (n, true) (tgt n c) false) (Orem (n.val + 1) c) (Orem_step n c) (W := W)
      (by rw [owns_squeeze, payload_cell]; exact hp₁)
      (by rw [← hY, owns_squeeze, payload_cell]; exact hp₂)) $$ [Hs Hd HF HO Ht1 Ht2]
  · isplitr; · iapply (recs_inv A B K (cell_mem (n, false) c)); iexact HR
    isplitr; · iapply (recs_inv A B K (cell_mem (n, true) (tgt n c))); iexact HR
    isplitl [Hs]; · iapply (Entails.of_eq (owns_squeeze (c : Thread nD τ) ms h₁ q X).symm); iexact Hs
    isplitl [Hd HF]
    · isplitl [Hd]; · iapply (Entails.of_eq (owns_squeeze (tgt n c : Thread nD τ) md h₂ fullShare Yd).symm); iexact Hd
      iexact HF
    isplitl [HO]; · iexact HO
    isplitl [Ht1]; · iexact Ht1
    isplitr; · iapply (rch_at (n, false) c); iexact Hrc
    isplitl [Ht2]; · iexact Ht2
    iapply (rch_at (n, true) (tgt n c)); iexact Hrt
  iintro ⟨Hc, HO⟩
  iapply Hk
  isplitl [Hc Hat]
  · isplitl [Hc] <;> iassumption
  iexists W; iexact HO

/-- Sending copy `n` with nothing handed over besides the destination. -/
theorem wp_send {α : Type} {Q : α → sProp 𝕄} (n : Fin 21) (c : Dev nD) {c' : Dev nD} {sp sp' : Space} {s₁ s₂ s : Shape} {e : EltTy}
    {ms : Memref sig .tc sp s₁ e} {md : Memref sig .tc sp' s₂ e} {h₁ : s₁.Squeezes s} {h₂ : s₂.Squeezes s}
    {hsc : (md.squeeze s h₂).view.ref.isScScratch = false} {sS sR : DmaSem sig}
    {hsrc : (ms.squeeze s h₁).view.WordExact} {hdst : (md.squeeze s h₂).view.WordExact}
    {hsem : DmaTarget.Typed sp (SemLoc.dma sR) (.remote (c' : Thread nD τ) (md.squeeze s h₂) (SemLoc.dma sS) hsc)}
    {kk : PUnit → Prog (TpuEff nD τ sig (Elt F) Λ₀ .tc) α}
    {X : s₁.Idx → Elt F e} {q : PosShare TreeShare} (Y : s₂.Idx → Elt F e)
    (hY : recast h₂.numel_eq Y = recast h₁.numel_eq X)
    (hc : c' = tgt n c) (hS : sS = dsem (n, false)) (hR : sR = dsem (n, true))
    (ha : (md.squeeze s h₂).view.amount (SemLoc.dma (dsem (n, true)) : SemLoc sig) = amt n)
    (hp₁ : (owns (c : Thread nD τ) ms q X : sProp 𝕄) ⊢ sendPay A B n.val c)
    (hp₂ : (owns (tgt n c : Thread nD τ) md fullShare Y : sProp 𝕄) ⊢ recvPay A B n.val (tgt n c)) :
    iprop(recs A B K ∗ rch (F := F) c ∗ rch (F := F) (tgt n c) ∗ tok (F := F) n c
        ∗ owns (c : Thread nD τ) ms q X ∗ any (F := F) (tgt n c) md ∗ dbt (F := F) c n.val)
      ⊢ iprop(((wt (F := F) (n, false) c ∗ dbt (F := F) c (n.val + 1)) -∗ wp frame (wpE (defs₀ (F := F)) 𝒱₀ c none) Set.univ (kk ⟨⟩) Q)
        -∗ wp frame (wpE (defs₀ (F := F)) 𝒱₀ c none) Set.univ
          (.op (.enqueueDma (ms.squeeze s h₁) (.remote (c' : Thread nD τ) (md.squeeze s h₂) (.dma sS) hsc) (.dma sR) hsrc hdst hsem) kk) Q) := by
  iintro ⟨#HR, #Hrc, #Hrt, Ht, Hs, Hd, HO⟩ Hk
  iapply (wp_sendR A B K n c (X := X) Y iprop(emp) hY hc hS hR ha hp₁ (Laws.sep_elim_left.trans hp₂)) $$ [Ht Hs Hd HO]
  · isplitr; · iexact HR
    isplitr; · iexact Hrc
    isplitr; · iexact Hrt
    isplitl [Ht]; · iexact Ht
    isplitl [Hs]; · iexact Hs
    isplitl [Hd]; · iexact Hd
    isplitr; · iempintro
    iexact HO
  iexact Hk

end Steps

end Cert.KernelIdeal.Talk
-- ==== Proof.Slots.lean ====
/- The slots of the buffers: a buffer handed on whole and owned slot by slot, and the slots put together again. -/
module

public import proofs.«01_k».proof.Proof.Steps

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

/-- A buffer at contents not chosen, as a memref so owned, -/
theorem buf_any (c : Dev nD) (b : Ref sig .tc) : (buf (F := F) c b : sProp 𝕄) ⊢ any c (Memref.whole b) := by
  unfold any
  iintro ⟨%f, H⟩
  iexists f
  rw [owns_whole]
  iexact H
/-- and back. -/
theorem any_buf (c : Dev nD) (b : Ref sig .tc) : (any (F := F) c (Memref.whole b) : sProp 𝕄) ⊢ buf c b := by
  unfold any
  iintro ⟨%f, H⟩
  iexists f
  iapply (Entails.of_eq (owns_whole (c : Thread nD τ) b fullShare f))
  iexact H

/-- A place named by a rectangle lies in it, -/
theorem mem_of_emb {s : Shape} (r : Rect s) (x : r.shape.Idx) : r.emb x ∈ r.set := by
  rw [← Rect.map_emb_univ]
  exact Finset.mem_map_of_mem _ (Finset.mem_univ x)
/-- and every place that lies in it is so named. -/
theorem emb_of_mem {s : Shape} (r : Rect s) {i : s.Idx} (h : i ∈ r.set) : ∃ x, r.emb x = i := by
  rw [← Rect.map_emb_univ, Finset.mem_map] at h
  obtain ⟨x, -, hx⟩ := h
  exact ⟨x, hx⟩

section Family

variable {T : Type} [Fintype T] [DecidableEq T] (c : Dev nD) {sp : Space} {sh : Shape} {e : EltTy} (m : Memref sig .tc sp sh e)
  (r : T → Rect sh) (hr : ∀ t a, (r t).stride a = 1) (hd : ∀ t t', t ≠ t' → Disjoint (r t).set (r t').set)
  (hcov : (Finset.univ : Finset T).biUnion (fun t => (r t).set) = Finset.univ)

include hd hcov in
/-- A memref at contents not chosen is its slots so owned, -/
theorem any_split : (any (F := F) c m : sProp 𝕄) ⊢ bigSep Finset.univ fun t => any (F := F) c (m.slice (r t) (hr t)) := by
  refine (any_ex c m).trans ?_
  iintro ⟨%X, H⟩
  iapply ((owns_rects (c : Thread nD τ) m fullShare r hr hd hcov X).trans
    (bigSep_mono fun t _ => ow_any (F := F) c (m.slice (r t) (hr t)) (fun j => X ((r t).emb j)))) $$ H

include hd hcov in
/-- and back. -/
theorem any_join : (bigSep Finset.univ fun t => any (F := F) c (m.slice (r t) (hr t)) : sProp 𝕄) ⊢ any c m := by
  have h := (bigSep_mono (fun t _ => (ownsSat_true (c : Thread nD τ) (m.slice (r t) (hr t)) fullShare (Val := Elt F) (Ix := Unit) (Name := ℕ) (U := UU) (Lvl := ℕ)).2) :
    (bigSep Finset.univ fun t => any (F := F) c (m.slice (r t) (hr t)) : sProp 𝕄) ⊢ _)
  exact h.trans ((ownsSat_of_rects (c : Thread nD τ) m fullShare r hr hd hcov (fun _ _ => True)).trans (ownsSat_any (c : Thread nD τ) m fullShare))

end Family

/-- The six landing slots of a ring direction. -/
def r6 : Fin 6 → Rect S3x2x1024x512 := ![Rect.unit (s := S3x2x1024x512) ![0, 0, 0, 0] S1x1x1024x512.size inb_S3x2x1024x512_S1x1x1024x512_0_0_0_0,
    Rect.unit (s := S3x2x1024x512) ![0, 1, 0, 0] S1x1x1024x512.size inb_S3x2x1024x512_S1x1x1024x512_0_1_0_0,
    Rect.unit (s := S3x2x1024x512) ![1, 0, 0, 0] S1x1x1024x512.size inb_S3x2x1024x512_S1x1x1024x512_1_0_0_0,
    Rect.unit (s := S3x2x1024x512) ![1, 1, 0, 0] S1x1x1024x512.size inb_S3x2x1024x512_S1x1x1024x512_1_1_0_0,
    Rect.unit (s := S3x2x1024x512) ![2, 0, 0, 0] S1x1x1024x512.size inb_S3x2x1024x512_S1x1x1024x512_2_0_0_0,
    Rect.unit (s := S3x2x1024x512) ![2, 1, 0, 0] S1x1x1024x512.size inb_S3x2x1024x512_S1x1x1024x512_2_1_0_0]
theorem r6_stride (t : Fin 6) (a : Fin 4) : (r6 t).stride a = 1 := by fin_cases t <;> rfl
theorem r6_disj (t t' : Fin 6) (h : t ≠ t') : Disjoint (r6 t).set (r6 t').set := by
  fin_cases t <;> fin_cases t'
  · exact absurd rfl h
  · exact Rect.unit_disjoint (s := S3x2x1024x512) (off := ![0, 0, 0, 0]) (size := S1x1x1024x512.size) (off' := ![0, 1, 0, 0]) (size' := S1x1x1024x512.size) (inb := inb_S3x2x1024x512_S1x1x1024x512_0_0_0_0) (inb' := inb_S3x2x1024x512_S1x1x1024x512_0_1_0_0) (1 : Fin 4) (Or.inl (by decide))
  · exact Rect.unit_disjoint (s := S3x2x1024x512) (off := ![0, 0, 0, 0]) (size := S1x1x1024x512.size) (off' := ![1, 0, 0, 0]) (size' := S1x1x1024x512.size) (inb := inb_S3x2x1024x512_S1x1x1024x512_0_0_0_0) (inb' := inb_S3x2x1024x512_S1x1x1024x512_1_0_0_0) (0 : Fin 4) (Or.inl (by decide))
  · exact Rect.unit_disjoint (s := S3x2x1024x512) (off := ![0, 0, 0, 0]) (size := S1x1x1024x512.size) (off' := ![1, 1, 0, 0]) (size' := S1x1x1024x512.size) (inb := inb_S3x2x1024x512_S1x1x1024x512_0_0_0_0) (inb' := inb_S3x2x1024x512_S1x1x1024x512_1_1_0_0) (0 : Fin 4) (Or.inl (by decide))
  · exact Rect.unit_disjoint (s := S3x2x1024x512) (off := ![0, 0, 0, 0]) (size := S1x1x1024x512.size) (off' := ![2, 0, 0, 0]) (size' := S1x1x1024x512.size) (inb := inb_S3x2x1024x512_S1x1x1024x512_0_0_0_0) (inb' := inb_S3x2x1024x512_S1x1x1024x512_2_0_0_0) (0 : Fin 4) (Or.inl (by decide))
  · exact Rect.unit_disjoint (s := S3x2x1024x512) (off := ![0, 0, 0, 0]) (size := S1x1x1024x512.size) (off' := ![2, 1, 0, 0]) (size' := S1x1x1024x512.size) (inb := inb_S3x2x1024x512_S1x1x1024x512_0_0_0_0) (inb' := inb_S3x2x1024x512_S1x1x1024x512_2_1_0_0) (0 : Fin 4) (Or.inl (by decide))
  · exact Rect.unit_disjoint (s := S3x2x1024x512) (off := ![0, 1, 0, 0]) (size := S1x1x1024x512.size) (off' := ![0, 0, 0, 0]) (size' := S1x1x1024x512.size) (inb := inb_S3x2x1024x512_S1x1x1024x512_0_1_0_0) (inb' := inb_S3x2x1024x512_S1x1x1024x512_0_0_0_0) (1 : Fin 4) (Or.inr (by decide))
  · exact absurd rfl h
  · exact Rect.unit_disjoint (s := S3x2x1024x512) (off := ![0, 1, 0, 0]) (size := S1x1x1024x512.size) (off' := ![1, 0, 0, 0]) (size' := S1x1x1024x512.size) (inb := inb_S3x2x1024x512_S1x1x1024x512_0_1_0_0) (inb' := inb_S3x2x1024x512_S1x1x1024x512_1_0_0_0) (0 : Fin 4) (Or.inl (by decide))
  · exact Rect.unit_disjoint (s := S3x2x1024x512) (off := ![0, 1, 0, 0]) (size := S1x1x1024x512.size) (off' := ![1, 1, 0, 0]) (size' := S1x1x1024x512.size) (inb := inb_S3x2x1024x512_S1x1x1024x512_0_1_0_0) (inb' := inb_S3x2x1024x512_S1x1x1024x512_1_1_0_0) (0 : Fin 4) (Or.inl (by decide))
  · exact Rect.unit_disjoint (s := S3x2x1024x512) (off := ![0, 1, 0, 0]) (size := S1x1x1024x512.size) (off' := ![2, 0, 0, 0]) (size' := S1x1x1024x512.size) (inb := inb_S3x2x1024x512_S1x1x1024x512_0_1_0_0) (inb' := inb_S3x2x1024x512_S1x1x1024x512_2_0_0_0) (0 : Fin 4) (Or.inl (by decide))
  · exact Rect.unit_disjoint (s := S3x2x1024x512) (off := ![0, 1, 0, 0]) (size := S1x1x1024x512.size) (off' := ![2, 1, 0, 0]) (size' := S1x1x1024x512.size) (inb := inb_S3x2x1024x512_S1x1x1024x512_0_1_0_0) (inb' := inb_S3x2x1024x512_S1x1x1024x512_2_1_0_0) (0 : Fin 4) (Or.inl (by decide))
  · exact Rect.unit_disjoint (s := S3x2x1024x512) (off := ![1, 0, 0, 0]) (size := S1x1x1024x512.size) (off' := ![0, 0, 0, 0]) (size' := S1x1x1024x512.size) (inb := inb_S3x2x1024x512_S1x1x1024x512_1_0_0_0) (inb' := inb_S3x2x1024x512_S1x1x1024x512_0_0_0_0) (0 : Fin 4) (Or.inr (by decide))
  · exact Rect.unit_disjoint (s := S3x2x1024x512) (off := ![1, 0, 0, 0]) (size := S1x1x1024x512.size) (off' := ![0, 1, 0, 0]) (size' := S1x1x1024x512.size) (inb := inb_S3x2x1024x512_S1x1x1024x512_1_0_0_0) (inb' := inb_S3x2x1024x512_S1x1x1024x512_0_1_0_0) (0 : Fin 4) (Or.inr (by decide))
  · exact absurd rfl h
  · exact Rect.unit_disjoint (s := S3x2x1024x512) (off := ![1, 0, 0, 0]) (size := S1x1x1024x512.size) (off' := ![1, 1, 0, 0]) (size' := S1x1x1024x512.size) (inb := inb_S3x2x1024x512_S1x1x1024x512_1_0_0_0) (inb' := inb_S3x2x1024x512_S1x1x1024x512_1_1_0_0) (1 : Fin 4) (Or.inl (by decide))
  · exact Rect.unit_disjoint (s := S3x2x1024x512) (off := ![1, 0, 0, 0]) (size := S1x1x1024x512.size) (off' := ![2, 0, 0, 0]) (size' := S1x1x1024x512.size) (inb := inb_S3x2x1024x512_S1x1x1024x512_1_0_0_0) (inb' := inb_S3x2x1024x512_S1x1x1024x512_2_0_0_0) (0 : Fin 4) (Or.inl (by decide))
  · exact Rect.unit_disjoint (s := S3x2x1024x512) (off := ![1, 0, 0, 0]) (size := S1x1x1024x512.size) (off' := ![2, 1, 0, 0]) (size' := S1x1x1024x512.size) (inb := inb_S3x2x1024x512_S1x1x1024x512_1_0_0_0) (inb' := inb_S3x2x1024x512_S1x1x1024x512_2_1_0_0) (0 : Fin 4) (Or.inl (by decide))
  · exact Rect.unit_disjoint (s := S3x2x1024x512) (off := ![1, 1, 0, 0]) (size := S1x1x1024x512.size) (off' := ![0, 0, 0, 0]) (size' := S1x1x1024x512.size) (inb := inb_S3x2x1024x512_S1x1x1024x512_1_1_0_0) (inb' := inb_S3x2x1024x512_S1x1x1024x512_0_0_0_0) (0 : Fin 4) (Or.inr (by decide))
  · exact Rect.unit_disjoint (s := S3x2x1024x512) (off := ![1, 1, 0, 0]) (size := S1x1x1024x512.size) (off' := ![0, 1, 0, 0]) (size' := S1x1x1024x512.size) (inb := inb_S3x2x1024x512_S1x1x1024x512_1_1_0_0) (inb' := inb_S3x2x1024x512_S1x1x1024x512_0_1_0_0) (0 : Fin 4) (Or.inr (by decide))
  · exact Rect.unit_disjoint (s := S3x2x1024x512) (off := ![1, 1, 0, 0]) (size := S1x1x1024x512.size) (off' := ![1, 0, 0, 0]) (size' := S1x1x1024x512.size) (inb := inb_S3x2x1024x512_S1x1x1024x512_1_1_0_0) (inb' := inb_S3x2x1024x512_S1x1x1024x512_1_0_0_0) (1 : Fin 4) (Or.inr (by decide))
  · exact absurd rfl h
  · exact Rect.unit_disjoint (s := S3x2x1024x512) (off := ![1, 1, 0, 0]) (size := S1x1x1024x512.size) (off' := ![2, 0, 0, 0]) (size' := S1x1x1024x512.size) (inb := inb_S3x2x1024x512_S1x1x1024x512_1_1_0_0) (inb' := inb_S3x2x1024x512_S1x1x1024x512_2_0_0_0) (0 : Fin 4) (Or.inl (by decide))
  · exact Rect.unit_disjoint (s := S3x2x1024x512) (off := ![1, 1, 0, 0]) (size := S1x1x1024x512.size) (off' := ![2, 1, 0, 0]) (size' := S1x1x1024x512.size) (inb := inb_S3x2x1024x512_S1x1x1024x512_1_1_0_0) (inb' := inb_S3x2x1024x512_S1x1x1024x512_2_1_0_0) (0 : Fin 4) (Or.inl (by decide))
  · exact Rect.unit_disjoint (s := S3x2x1024x512) (off := ![2, 0, 0, 0]) (size := S1x1x1024x512.size) (off' := ![0, 0, 0, 0]) (size' := S1x1x1024x512.size) (inb := inb_S3x2x1024x512_S1x1x1024x512_2_0_0_0) (inb' := inb_S3x2x1024x512_S1x1x1024x512_0_0_0_0) (0 : Fin 4) (Or.inr (by decide))
  · exact Rect.unit_disjoint (s := S3x2x1024x512) (off := ![2, 0, 0, 0]) (size := S1x1x1024x512.size) (off' := ![0, 1, 0, 0]) (size' := S1x1x1024x512.size) (inb := inb_S3x2x1024x512_S1x1x1024x512_2_0_0_0) (inb' := inb_S3x2x1024x512_S1x1x1024x512_0_1_0_0) (0 : Fin 4) (Or.inr (by decide))
  · exact Rect.unit_disjoint (s := S3x2x1024x512) (off := ![2, 0, 0, 0]) (size := S1x1x1024x512.size) (off' := ![1, 0, 0, 0]) (size' := S1x1x1024x512.size) (inb := inb_S3x2x1024x512_S1x1x1024x512_2_0_0_0) (inb' := inb_S3x2x1024x512_S1x1x1024x512_1_0_0_0) (0 : Fin 4) (Or.inr (by decide))
  · exact Rect.unit_disjoint (s := S3x2x1024x512) (off := ![2, 0, 0, 0]) (size := S1x1x1024x512.size) (off' := ![1, 1, 0, 0]) (size' := S1x1x1024x512.size) (inb := inb_S3x2x1024x512_S1x1x1024x512_2_0_0_0) (inb' := inb_S3x2x1024x512_S1x1x1024x512_1_1_0_0) (0 : Fin 4) (Or.inr (by decide))
  · exact absurd rfl h
  · exact Rect.unit_disjoint (s := S3x2x1024x512) (off := ![2, 0, 0, 0]) (size := S1x1x1024x512.size) (off' := ![2, 1, 0, 0]) (size' := S1x1x1024x512.size) (inb := inb_S3x2x1024x512_S1x1x1024x512_2_0_0_0) (inb' := inb_S3x2x1024x512_S1x1x1024x512_2_1_0_0) (1 : Fin 4) (Or.inl (by decide))
  · exact Rect.unit_disjoint (s := S3x2x1024x512) (off := ![2, 1, 0, 0]) (size := S1x1x1024x512.size) (off' := ![0, 0, 0, 0]) (size' := S1x1x1024x512.size) (inb := inb_S3x2x1024x512_S1x1x1024x512_2_1_0_0) (inb' := inb_S3x2x1024x512_S1x1x1024x512_0_0_0_0) (0 : Fin 4) (Or.inr (by decide))
  · exact Rect.unit_disjoint (s := S3x2x1024x512) (off := ![2, 1, 0, 0]) (size := S1x1x1024x512.size) (off' := ![0, 1, 0, 0]) (size' := S1x1x1024x512.size) (inb := inb_S3x2x1024x512_S1x1x1024x512_2_1_0_0) (inb' := inb_S3x2x1024x512_S1x1x1024x512_0_1_0_0) (0 : Fin 4) (Or.inr (by decide))
  · exact Rect.unit_disjoint (s := S3x2x1024x512) (off := ![2, 1, 0, 0]) (size := S1x1x1024x512.size) (off' := ![1, 0, 0, 0]) (size' := S1x1x1024x512.size) (inb := inb_S3x2x1024x512_S1x1x1024x512_2_1_0_0) (inb' := inb_S3x2x1024x512_S1x1x1024x512_1_0_0_0) (0 : Fin 4) (Or.inr (by decide))
  · exact Rect.unit_disjoint (s := S3x2x1024x512) (off := ![2, 1, 0, 0]) (size := S1x1x1024x512.size) (off' := ![1, 1, 0, 0]) (size' := S1x1x1024x512.size) (inb := inb_S3x2x1024x512_S1x1x1024x512_2_1_0_0) (inb' := inb_S3x2x1024x512_S1x1x1024x512_1_1_0_0) (0 : Fin 4) (Or.inr (by decide))
  · exact Rect.unit_disjoint (s := S3x2x1024x512) (off := ![2, 1, 0, 0]) (size := S1x1x1024x512.size) (off' := ![2, 0, 0, 0]) (size' := S1x1x1024x512.size) (inb := inb_S3x2x1024x512_S1x1x1024x512_2_1_0_0) (inb' := inb_S3x2x1024x512_S1x1x1024x512_2_0_0_0) (1 : Fin 4) (Or.inr (by decide))
  · exact absurd rfl h
theorem r6_cover : (Finset.univ : Finset (Fin 6)).biUnion (fun t => (r6 t).set) = Finset.univ := by
  refine Finset.eq_univ_of_forall fun i => Finset.mem_biUnion.mpr ?_
  have h0 : (i 0).val < 3 := (i 0).isLt
  have h1 : (i 1).val < 2 := (i 1).isLt
  have h2 : (i 2).val < 1024 := (i 2).isLt
  have h3 : (i 3).val < 512 := (i 3).isLt
  have key : (0 ≤ (i 0).val ∧ (i 0).val < 0 + 1 ∧ 0 ≤ (i 1).val ∧ (i 1).val < 0 + 1 ∧ 0 ≤ (i 2).val ∧ (i 2).val < 0 + 1024 ∧ 0 ≤ (i 3).val ∧ (i 3).val < 0 + 512) ∨ (0 ≤ (i 0).val ∧ (i 0).val < 0 + 1 ∧ 1 ≤ (i 1).val ∧ (i 1).val < 1 + 1 ∧ 0 ≤ (i 2).val ∧ (i 2).val < 0 + 1024 ∧ 0 ≤ (i 3).val ∧ (i 3).val < 0 + 512) ∨ (1 ≤ (i 0).val ∧ (i 0).val < 1 + 1 ∧ 0 ≤ (i 1).val ∧ (i 1).val < 0 + 1 ∧ 0 ≤ (i 2).val ∧ (i 2).val < 0 + 1024 ∧ 0 ≤ (i 3).val ∧ (i 3).val < 0 + 512) ∨ (1 ≤ (i 0).val ∧ (i 0).val < 1 + 1 ∧ 1 ≤ (i 1).val ∧ (i 1).val < 1 + 1 ∧ 0 ≤ (i 2).val ∧ (i 2).val < 0 + 1024 ∧ 0 ≤ (i 3).val ∧ (i 3).val < 0 + 512) ∨ (2 ≤ (i 0).val ∧ (i 0).val < 2 + 1 ∧ 0 ≤ (i 1).val ∧ (i 1).val < 0 + 1 ∧ 0 ≤ (i 2).val ∧ (i 2).val < 0 + 1024 ∧ 0 ≤ (i 3).val ∧ (i 3).val < 0 + 512) ∨ (2 ≤ (i 0).val ∧ (i 0).val < 2 + 1 ∧ 1 ≤ (i 1).val ∧ (i 1).val < 1 + 1 ∧ 0 ≤ (i 2).val ∧ (i 2).val < 0 + 1024 ∧ 0 ≤ (i 3).val ∧ (i 3).val < 0 + 512) := by omega
  rcases key with h | h | h | h | h | h
  · refine ⟨0, Finset.mem_univ _, (Rect.mem_set_unit (s := S3x2x1024x512) (off := ![0, 0, 0, 0]) (size := S1x1x1024x512.size) (inb := inb_S3x2x1024x512_S1x1x1024x512_0_0_0_0)).mpr fun a => ?_⟩
    fin_cases a
    · show 0 ≤ (i 0).val ∧ (i 0).val < 0 + 1; omega
    · show 0 ≤ (i 1).val ∧ (i 1).val < 0 + 1; omega
    · show 0 ≤ (i 2).val ∧ (i 2).val < 0 + 1024; omega
    · show 0 ≤ (i 3).val ∧ (i 3).val < 0 + 512; omega
  · refine ⟨1, Finset.mem_univ _, (Rect.mem_set_unit (s := S3x2x1024x512) (off := ![0, 1, 0, 0]) (size := S1x1x1024x512.size) (inb := inb_S3x2x1024x512_S1x1x1024x512_0_1_0_0)).mpr fun a => ?_⟩
    fin_cases a
    · show 0 ≤ (i 0).val ∧ (i 0).val < 0 + 1; omega
    · show 1 ≤ (i 1).val ∧ (i 1).val < 1 + 1; omega
    · show 0 ≤ (i 2).val ∧ (i 2).val < 0 + 1024; omega
    · show 0 ≤ (i 3).val ∧ (i 3).val < 0 + 512; omega
  · refine ⟨2, Finset.mem_univ _, (Rect.mem_set_unit (s := S3x2x1024x512) (off := ![1, 0, 0, 0]) (size := S1x1x1024x512.size) (inb := inb_S3x2x1024x512_S1x1x1024x512_1_0_0_0)).mpr fun a => ?_⟩
    fin_cases a
    · show 1 ≤ (i 0).val ∧ (i 0).val < 1 + 1; omega
    · show 0 ≤ (i 1).val ∧ (i 1).val < 0 + 1; omega
    · show 0 ≤ (i 2).val ∧ (i 2).val < 0 + 1024; omega
    · show 0 ≤ (i 3).val ∧ (i 3).val < 0 + 512; omega
  · refine ⟨3, Finset.mem_univ _, (Rect.mem_set_unit (s := S3x2x1024x512) (off := ![1, 1, 0, 0]) (size := S1x1x1024x512.size) (inb := inb_S3x2x1024x512_S1x1x1024x512_1_1_0_0)).mpr fun a => ?_⟩
    fin_cases a
    · show 1 ≤ (i 0).val ∧ (i 0).val < 1 + 1; omega
    · show 1 ≤ (i 1).val ∧ (i 1).val < 1 + 1; omega
    · show 0 ≤ (i 2).val ∧ (i 2).val < 0 + 1024; omega
    · show 0 ≤ (i 3).val ∧ (i 3).val < 0 + 512; omega
  · refine ⟨4, Finset.mem_univ _, (Rect.mem_set_unit (s := S3x2x1024x512) (off := ![2, 0, 0, 0]) (size := S1x1x1024x512.size) (inb := inb_S3x2x1024x512_S1x1x1024x512_2_0_0_0)).mpr fun a => ?_⟩
    fin_cases a
    · show 2 ≤ (i 0).val ∧ (i 0).val < 2 + 1; omega
    · show 0 ≤ (i 1).val ∧ (i 1).val < 0 + 1; omega
    · show 0 ≤ (i 2).val ∧ (i 2).val < 0 + 1024; omega
    · show 0 ≤ (i 3).val ∧ (i 3).val < 0 + 512; omega
  · refine ⟨5, Finset.mem_univ _, (Rect.mem_set_unit (s := S3x2x1024x512) (off := ![2, 1, 0, 0]) (size := S1x1x1024x512.size) (inb := inb_S3x2x1024x512_S1x1x1024x512_2_1_0_0)).mpr fun a => ?_⟩
    fin_cases a
    · show 2 ≤ (i 0).val ∧ (i 0).val < 2 + 1; omega
    · show 1 ≤ (i 1).val ∧ (i 1).val < 1 + 1; omega
    · show 0 ≤ (i 2).val ∧ (i 2).val < 0 + 1024; omega
    · show 0 ≤ (i 3).val ∧ (i 3).val < 0 + 512; omega
/-- The two halves of a buffer of column blocks. -/
def r2 : Fin 2 → Rect S2x1024x512 := ![Rect.unit (s := S2x1024x512) ![0, 0, 0] S1x1024x512.size inb_S2x1024x512_S1x1024x512_0_0_0,
    Rect.unit (s := S2x1024x512) ![1, 0, 0] S1x1024x512.size inb_S2x1024x512_S1x1024x512_1_0_0]
theorem r2_stride (t : Fin 2) (a : Fin 3) : (r2 t).stride a = 1 := by fin_cases t <;> rfl
theorem r2_disj (t t' : Fin 2) (h : t ≠ t') : Disjoint (r2 t).set (r2 t').set := by
  fin_cases t <;> fin_cases t'
  · exact absurd rfl h
  · exact Rect.unit_disjoint (s := S2x1024x512) (off := ![0, 0, 0]) (size := S1x1024x512.size) (off' := ![1, 0, 0]) (size' := S1x1024x512.size) (inb := inb_S2x1024x512_S1x1024x512_0_0_0) (inb' := inb_S2x1024x512_S1x1024x512_1_0_0) (0 : Fin 3) (Or.inl (by decide))
  · exact Rect.unit_disjoint (s := S2x1024x512) (off := ![1, 0, 0]) (size := S1x1024x512.size) (off' := ![0, 0, 0]) (size' := S1x1024x512.size) (inb := inb_S2x1024x512_S1x1024x512_1_0_0) (inb' := inb_S2x1024x512_S1x1024x512_0_0_0) (0 : Fin 3) (Or.inr (by decide))
  · exact absurd rfl h
theorem r2_cover : (Finset.univ : Finset (Fin 2)).biUnion (fun t => (r2 t).set) = Finset.univ := by
  refine Finset.eq_univ_of_forall fun i => Finset.mem_biUnion.mpr ?_
  have h0 : (i 0).val < 2 := (i 0).isLt
  have h1 : (i 1).val < 1024 := (i 1).isLt
  have h2 : (i 2).val < 512 := (i 2).isLt
  have key : (0 ≤ (i 0).val ∧ (i 0).val < 0 + 1 ∧ 0 ≤ (i 1).val ∧ (i 1).val < 0 + 1024 ∧ 0 ≤ (i 2).val ∧ (i 2).val < 0 + 512) ∨ (1 ≤ (i 0).val ∧ (i 0).val < 1 + 1 ∧ 0 ≤ (i 1).val ∧ (i 1).val < 0 + 1024 ∧ 0 ≤ (i 2).val ∧ (i 2).val < 0 + 512) := by omega
  rcases key with h | h
  · refine ⟨0, Finset.mem_univ _, (Rect.mem_set_unit (s := S2x1024x512) (off := ![0, 0, 0]) (size := S1x1024x512.size) (inb := inb_S2x1024x512_S1x1024x512_0_0_0)).mpr fun a => ?_⟩
    fin_cases a
    · show 0 ≤ (i 0).val ∧ (i 0).val < 0 + 1; omega
    · show 0 ≤ (i 1).val ∧ (i 1).val < 0 + 1024; omega
    · show 0 ≤ (i 2).val ∧ (i 2).val < 0 + 512; omega
  · refine ⟨1, Finset.mem_univ _, (Rect.mem_set_unit (s := S2x1024x512) (off := ![1, 0, 0]) (size := S1x1024x512.size) (inb := inb_S2x1024x512_S1x1024x512_1_0_0)).mpr fun a => ?_⟩
    fin_cases a
    · show 1 ≤ (i 0).val ∧ (i 0).val < 1 + 1; omega
    · show 0 ≤ (i 1).val ∧ (i 1).val < 0 + 1024; omega
    · show 0 ≤ (i 2).val ∧ (i 2).val < 0 + 512; omega
/-- The four tiles. -/
def r4 : Fin 4 → Rect S4x8x128 := ![Rect.unit (s := S4x8x128) ![0, 0, 0] S1x8x128.size inb_S4x8x128_S1x8x128_0_0_0,
    Rect.unit (s := S4x8x128) ![1, 0, 0] S1x8x128.size inb_S4x8x128_S1x8x128_1_0_0,
    Rect.unit (s := S4x8x128) ![2, 0, 0] S1x8x128.size inb_S4x8x128_S1x8x128_2_0_0,
    Rect.unit (s := S4x8x128) ![3, 0, 0] S1x8x128.size inb_S4x8x128_S1x8x128_3_0_0]
theorem r4_stride (t : Fin 4) (a : Fin 3) : (r4 t).stride a = 1 := by fin_cases t <;> rfl
theorem r4_disj (t t' : Fin 4) (h : t ≠ t') : Disjoint (r4 t).set (r4 t').set := by
  fin_cases t <;> fin_cases t'
  · exact absurd rfl h
  · exact Rect.unit_disjoint (s := S4x8x128) (off := ![0, 0, 0]) (size := S1x8x128.size) (off' := ![1, 0, 0]) (size' := S1x8x128.size) (inb := inb_S4x8x128_S1x8x128_0_0_0) (inb' := inb_S4x8x128_S1x8x128_1_0_0) (0 : Fin 3) (Or.inl (by decide))
  · exact Rect.unit_disjoint (s := S4x8x128) (off := ![0, 0, 0]) (size := S1x8x128.size) (off' := ![2, 0, 0]) (size' := S1x8x128.size) (inb := inb_S4x8x128_S1x8x128_0_0_0) (inb' := inb_S4x8x128_S1x8x128_2_0_0) (0 : Fin 3) (Or.inl (by decide))
  · exact Rect.unit_disjoint (s := S4x8x128) (off := ![0, 0, 0]) (size := S1x8x128.size) (off' := ![3, 0, 0]) (size' := S1x8x128.size) (inb := inb_S4x8x128_S1x8x128_0_0_0) (inb' := inb_S4x8x128_S1x8x128_3_0_0) (0 : Fin 3) (Or.inl (by decide))
  · exact Rect.unit_disjoint (s := S4x8x128) (off := ![1, 0, 0]) (size := S1x8x128.size) (off' := ![0, 0, 0]) (size' := S1x8x128.size) (inb := inb_S4x8x128_S1x8x128_1_0_0) (inb' := inb_S4x8x128_S1x8x128_0_0_0) (0 : Fin 3) (Or.inr (by decide))
  · exact absurd rfl h
  · exact Rect.unit_disjoint (s := S4x8x128) (off := ![1, 0, 0]) (size := S1x8x128.size) (off' := ![2, 0, 0]) (size' := S1x8x128.size) (inb := inb_S4x8x128_S1x8x128_1_0_0) (inb' := inb_S4x8x128_S1x8x128_2_0_0) (0 : Fin 3) (Or.inl (by decide))
  · exact Rect.unit_disjoint (s := S4x8x128) (off := ![1, 0, 0]) (size := S1x8x128.size) (off' := ![3, 0, 0]) (size' := S1x8x128.size) (inb := inb_S4x8x128_S1x8x128_1_0_0) (inb' := inb_S4x8x128_S1x8x128_3_0_0) (0 : Fin 3) (Or.inl (by decide))
  · exact Rect.unit_disjoint (s := S4x8x128) (off := ![2, 0, 0]) (size := S1x8x128.size) (off' := ![0, 0, 0]) (size' := S1x8x128.size) (inb := inb_S4x8x128_S1x8x128_2_0_0) (inb' := inb_S4x8x128_S1x8x128_0_0_0) (0 : Fin 3) (Or.inr (by decide))
  · exact Rect.unit_disjoint (s := S4x8x128) (off := ![2, 0, 0]) (size := S1x8x128.size) (off' := ![1, 0, 0]) (size' := S1x8x128.size) (inb := inb_S4x8x128_S1x8x128_2_0_0) (inb' := inb_S4x8x128_S1x8x128_1_0_0) (0 : Fin 3) (Or.inr (by decide))
  · exact absurd rfl h
  · exact Rect.unit_disjoint (s := S4x8x128) (off := ![2, 0, 0]) (size := S1x8x128.size) (off' := ![3, 0, 0]) (size' := S1x8x128.size) (inb := inb_S4x8x128_S1x8x128_2_0_0) (inb' := inb_S4x8x128_S1x8x128_3_0_0) (0 : Fin 3) (Or.inl (by decide))
  · exact Rect.unit_disjoint (s := S4x8x128) (off := ![3, 0, 0]) (size := S1x8x128.size) (off' := ![0, 0, 0]) (size' := S1x8x128.size) (inb := inb_S4x8x128_S1x8x128_3_0_0) (inb' := inb_S4x8x128_S1x8x128_0_0_0) (0 : Fin 3) (Or.inr (by decide))
  · exact Rect.unit_disjoint (s := S4x8x128) (off := ![3, 0, 0]) (size := S1x8x128.size) (off' := ![1, 0, 0]) (size' := S1x8x128.size) (inb := inb_S4x8x128_S1x8x128_3_0_0) (inb' := inb_S4x8x128_S1x8x128_1_0_0) (0 : Fin 3) (Or.inr (by decide))
  · exact Rect.unit_disjoint (s := S4x8x128) (off := ![3, 0, 0]) (size := S1x8x128.size) (off' := ![2, 0, 0]) (size' := S1x8x128.size) (inb := inb_S4x8x128_S1x8x128_3_0_0) (inb' := inb_S4x8x128_S1x8x128_2_0_0) (0 : Fin 3) (Or.inr (by decide))
  · exact absurd rfl h
theorem r4_cover : (Finset.univ : Finset (Fin 4)).biUnion (fun t => (r4 t).set) = Finset.univ := by
  refine Finset.eq_univ_of_forall fun i => Finset.mem_biUnion.mpr ?_
  have h0 : (i 0).val < 4 := (i 0).isLt
  have h1 : (i 1).val < 8 := (i 1).isLt
  have h2 : (i 2).val < 128 := (i 2).isLt
  have key : (0 ≤ (i 0).val ∧ (i 0).val < 0 + 1 ∧ 0 ≤ (i 1).val ∧ (i 1).val < 0 + 8 ∧ 0 ≤ (i 2).val ∧ (i 2).val < 0 + 128) ∨ (1 ≤ (i 0).val ∧ (i 0).val < 1 + 1 ∧ 0 ≤ (i 1).val ∧ (i 1).val < 0 + 8 ∧ 0 ≤ (i 2).val ∧ (i 2).val < 0 + 128) ∨ (2 ≤ (i 0).val ∧ (i 0).val < 2 + 1 ∧ 0 ≤ (i 1).val ∧ (i 1).val < 0 + 8 ∧ 0 ≤ (i 2).val ∧ (i 2).val < 0 + 128) ∨ (3 ≤ (i 0).val ∧ (i 0).val < 3 + 1 ∧ 0 ≤ (i 1).val ∧ (i 1).val < 0 + 8 ∧ 0 ≤ (i 2).val ∧ (i 2).val < 0 + 128) := by omega
  rcases key with h | h | h | h
  · refine ⟨0, Finset.mem_univ _, (Rect.mem_set_unit (s := S4x8x128) (off := ![0, 0, 0]) (size := S1x8x128.size) (inb := inb_S4x8x128_S1x8x128_0_0_0)).mpr fun a => ?_⟩
    fin_cases a
    · show 0 ≤ (i 0).val ∧ (i 0).val < 0 + 1; omega
    · show 0 ≤ (i 1).val ∧ (i 1).val < 0 + 8; omega
    · show 0 ≤ (i 2).val ∧ (i 2).val < 0 + 128; omega
  · refine ⟨1, Finset.mem_univ _, (Rect.mem_set_unit (s := S4x8x128) (off := ![1, 0, 0]) (size := S1x8x128.size) (inb := inb_S4x8x128_S1x8x128_1_0_0)).mpr fun a => ?_⟩
    fin_cases a
    · show 1 ≤ (i 0).val ∧ (i 0).val < 1 + 1; omega
    · show 0 ≤ (i 1).val ∧ (i 1).val < 0 + 8; omega
    · show 0 ≤ (i 2).val ∧ (i 2).val < 0 + 128; omega
  · refine ⟨2, Finset.mem_univ _, (Rect.mem_set_unit (s := S4x8x128) (off := ![2, 0, 0]) (size := S1x8x128.size) (inb := inb_S4x8x128_S1x8x128_2_0_0)).mpr fun a => ?_⟩
    fin_cases a
    · show 2 ≤ (i 0).val ∧ (i 0).val < 2 + 1; omega
    · show 0 ≤ (i 1).val ∧ (i 1).val < 0 + 8; omega
    · show 0 ≤ (i 2).val ∧ (i 2).val < 0 + 128; omega
  · refine ⟨3, Finset.mem_univ _, (Rect.mem_set_unit (s := S4x8x128) (off := ![3, 0, 0]) (size := S1x8x128.size) (inb := inb_S4x8x128_S1x8x128_3_0_0)).mpr fun a => ?_⟩
    fin_cases a
    · show 3 ≤ (i 0).val ∧ (i 0).val < 3 + 1; omega
    · show 0 ≤ (i 1).val ∧ (i 1).val < 0 + 8; omega
    · show 0 ≤ (i 2).val ∧ (i 2).val < 0 + 128; omega
/-- The four row blocks of half the result. -/
def r4y : Fin 4 → Rect S4x1024x1024 := ![Rect.unit (s := S4x1024x1024) ![0, 0, 0] S1x1024x1024.size inb_S4x1024x1024_S1x1024x1024_0_0_0,
    Rect.unit (s := S4x1024x1024) ![1, 0, 0] S1x1024x1024.size inb_S4x1024x1024_S1x1024x1024_1_0_0,
    Rect.unit (s := S4x1024x1024) ![2, 0, 0] S1x1024x1024.size inb_S4x1024x1024_S1x1024x1024_2_0_0,
    Rect.unit (s := S4x1024x1024) ![3, 0, 0] S1x1024x1024.size inb_S4x1024x1024_S1x1024x1024_3_0_0]
theorem r4y_stride (t : Fin 4) (a : Fin 3) : (r4y t).stride a = 1 := by fin_cases t <;> rfl
theorem r4y_disj (t t' : Fin 4) (h : t ≠ t') : Disjoint (r4y t).set (r4y t').set := by
  fin_cases t <;> fin_cases t'
  · exact absurd rfl h
  · exact Rect.unit_disjoint (s := S4x1024x1024) (off := ![0, 0, 0]) (size := S1x1024x1024.size) (off' := ![1, 0, 0]) (size' := S1x1024x1024.size) (inb := inb_S4x1024x1024_S1x1024x1024_0_0_0) (inb' := inb_S4x1024x1024_S1x1024x1024_1_0_0) (0 : Fin 3) (Or.inl (by decide))
  · exact Rect.unit_disjoint (s := S4x1024x1024) (off := ![0, 0, 0]) (size := S1x1024x1024.size) (off' := ![2, 0, 0]) (size' := S1x1024x1024.size) (inb := inb_S4x1024x1024_S1x1024x1024_0_0_0) (inb' := inb_S4x1024x1024_S1x1024x1024_2_0_0) (0 : Fin 3) (Or.inl (by decide))
  · exact Rect.unit_disjoint (s := S4x1024x1024) (off := ![0, 0, 0]) (size := S1x1024x1024.size) (off' := ![3, 0, 0]) (size' := S1x1024x1024.size) (inb := inb_S4x1024x1024_S1x1024x1024_0_0_0) (inb' := inb_S4x1024x1024_S1x1024x1024_3_0_0) (0 : Fin 3) (Or.inl (by decide))
  · exact Rect.unit_disjoint (s := S4x1024x1024) (off := ![1, 0, 0]) (size := S1x1024x1024.size) (off' := ![0, 0, 0]) (size' := S1x1024x1024.size) (inb := inb_S4x1024x1024_S1x1024x1024_1_0_0) (inb' := inb_S4x1024x1024_S1x1024x1024_0_0_0) (0 : Fin 3) (Or.inr (by decide))
  · exact absurd rfl h
  · exact Rect.unit_disjoint (s := S4x1024x1024) (off := ![1, 0, 0]) (size := S1x1024x1024.size) (off' := ![2, 0, 0]) (size' := S1x1024x1024.size) (inb := inb_S4x1024x1024_S1x1024x1024_1_0_0) (inb' := inb_S4x1024x1024_S1x1024x1024_2_0_0) (0 : Fin 3) (Or.inl (by decide))
  · exact Rect.unit_disjoint (s := S4x1024x1024) (off := ![1, 0, 0]) (size := S1x1024x1024.size) (off' := ![3, 0, 0]) (size' := S1x1024x1024.size) (inb := inb_S4x1024x1024_S1x1024x1024_1_0_0) (inb' := inb_S4x1024x1024_S1x1024x1024_3_0_0) (0 : Fin 3) (Or.inl (by decide))
  · exact Rect.unit_disjoint (s := S4x1024x1024) (off := ![2, 0, 0]) (size := S1x1024x1024.size) (off' := ![0, 0, 0]) (size' := S1x1024x1024.size) (inb := inb_S4x1024x1024_S1x1024x1024_2_0_0) (inb' := inb_S4x1024x1024_S1x1024x1024_0_0_0) (0 : Fin 3) (Or.inr (by decide))
  · exact Rect.unit_disjoint (s := S4x1024x1024) (off := ![2, 0, 0]) (size := S1x1024x1024.size) (off' := ![1, 0, 0]) (size' := S1x1024x1024.size) (inb := inb_S4x1024x1024_S1x1024x1024_2_0_0) (inb' := inb_S4x1024x1024_S1x1024x1024_1_0_0) (0 : Fin 3) (Or.inr (by decide))
  · exact absurd rfl h
  · exact Rect.unit_disjoint (s := S4x1024x1024) (off := ![2, 0, 0]) (size := S1x1024x1024.size) (off' := ![3, 0, 0]) (size' := S1x1024x1024.size) (inb := inb_S4x1024x1024_S1x1024x1024_2_0_0) (inb' := inb_S4x1024x1024_S1x1024x1024_3_0_0) (0 : Fin 3) (Or.inl (by decide))
  · exact Rect.unit_disjoint (s := S4x1024x1024) (off := ![3, 0, 0]) (size := S1x1024x1024.size) (off' := ![0, 0, 0]) (size' := S1x1024x1024.size) (inb := inb_S4x1024x1024_S1x1024x1024_3_0_0) (inb' := inb_S4x1024x1024_S1x1024x1024_0_0_0) (0 : Fin 3) (Or.inr (by decide))
  · exact Rect.unit_disjoint (s := S4x1024x1024) (off := ![3, 0, 0]) (size := S1x1024x1024.size) (off' := ![1, 0, 0]) (size' := S1x1024x1024.size) (inb := inb_S4x1024x1024_S1x1024x1024_3_0_0) (inb' := inb_S4x1024x1024_S1x1024x1024_1_0_0) (0 : Fin 3) (Or.inr (by decide))
  · exact Rect.unit_disjoint (s := S4x1024x1024) (off := ![3, 0, 0]) (size := S1x1024x1024.size) (off' := ![2, 0, 0]) (size' := S1x1024x1024.size) (inb := inb_S4x1024x1024_S1x1024x1024_3_0_0) (inb' := inb_S4x1024x1024_S1x1024x1024_2_0_0) (0 : Fin 3) (Or.inr (by decide))
  · exact absurd rfl h
theorem r4y_cover : (Finset.univ : Finset (Fin 4)).biUnion (fun t => (r4y t).set) = Finset.univ := by
  refine Finset.eq_univ_of_forall fun i => Finset.mem_biUnion.mpr ?_
  have h0 : (i 0).val < 4 := (i 0).isLt
  have h1 : (i 1).val < 1024 := (i 1).isLt
  have h2 : (i 2).val < 1024 := (i 2).isLt
  have key : (0 ≤ (i 0).val ∧ (i 0).val < 0 + 1 ∧ 0 ≤ (i 1).val ∧ (i 1).val < 0 + 1024 ∧ 0 ≤ (i 2).val ∧ (i 2).val < 0 + 1024) ∨ (1 ≤ (i 0).val ∧ (i 0).val < 1 + 1 ∧ 0 ≤ (i 1).val ∧ (i 1).val < 0 + 1024 ∧ 0 ≤ (i 2).val ∧ (i 2).val < 0 + 1024) ∨ (2 ≤ (i 0).val ∧ (i 0).val < 2 + 1 ∧ 0 ≤ (i 1).val ∧ (i 1).val < 0 + 1024 ∧ 0 ≤ (i 2).val ∧ (i 2).val < 0 + 1024) ∨ (3 ≤ (i 0).val ∧ (i 0).val < 3 + 1 ∧ 0 ≤ (i 1).val ∧ (i 1).val < 0 + 1024 ∧ 0 ≤ (i 2).val ∧ (i 2).val < 0 + 1024) := by omega
  rcases key with h | h | h | h
  · refine ⟨0, Finset.mem_univ _, (Rect.mem_set_unit (s := S4x1024x1024) (off := ![0, 0, 0]) (size := S1x1024x1024.size) (inb := inb_S4x1024x1024_S1x1024x1024_0_0_0)).mpr fun a => ?_⟩
    fin_cases a
    · show 0 ≤ (i 0).val ∧ (i 0).val < 0 + 1; omega
    · show 0 ≤ (i 1).val ∧ (i 1).val < 0 + 1024; omega
    · show 0 ≤ (i 2).val ∧ (i 2).val < 0 + 1024; omega
  · refine ⟨1, Finset.mem_univ _, (Rect.mem_set_unit (s := S4x1024x1024) (off := ![1, 0, 0]) (size := S1x1024x1024.size) (inb := inb_S4x1024x1024_S1x1024x1024_1_0_0)).mpr fun a => ?_⟩
    fin_cases a
    · show 1 ≤ (i 0).val ∧ (i 0).val < 1 + 1; omega
    · show 0 ≤ (i 1).val ∧ (i 1).val < 0 + 1024; omega
    · show 0 ≤ (i 2).val ∧ (i 2).val < 0 + 1024; omega
  · refine ⟨2, Finset.mem_univ _, (Rect.mem_set_unit (s := S4x1024x1024) (off := ![2, 0, 0]) (size := S1x1024x1024.size) (inb := inb_S4x1024x1024_S1x1024x1024_2_0_0)).mpr fun a => ?_⟩
    fin_cases a
    · show 2 ≤ (i 0).val ∧ (i 0).val < 2 + 1; omega
    · show 0 ≤ (i 1).val ∧ (i 1).val < 0 + 1024; omega
    · show 0 ≤ (i 2).val ∧ (i 2).val < 0 + 1024; omega
  · refine ⟨3, Finset.mem_univ _, (Rect.mem_set_unit (s := S4x1024x1024) (off := ![3, 0, 0]) (size := S1x1024x1024.size) (inb := inb_S4x1024x1024_S1x1024x1024_3_0_0)).mpr fun a => ?_⟩
    fin_cases a
    · show 3 ≤ (i 0).val ∧ (i 0).val < 3 + 1; omega
    · show 0 ≤ (i 1).val ∧ (i 1).val < 0 + 1024; omega
    · show 0 ≤ (i 2).val ∧ (i 2).val < 0 + 1024; omega
/-- The same, the own block by its two column halves. -/
def r5y : Fin 5 → Rect S4x1024x1024 := ![Rect.unit (s := S4x1024x1024) ![0, 0, 0] S1x1024x512.size inb_S4x1024x1024_S1x1024x512_0_0_0,
    Rect.unit (s := S4x1024x1024) ![0, 0, 512] S1x1024x512.size inb_S4x1024x1024_S1x1024x512_0_0_512,
    Rect.unit (s := S4x1024x1024) ![1, 0, 0] S1x1024x1024.size inb_S4x1024x1024_S1x1024x1024_1_0_0,
    Rect.unit (s := S4x1024x1024) ![2, 0, 0] S1x1024x1024.size inb_S4x1024x1024_S1x1024x1024_2_0_0,
    Rect.unit (s := S4x1024x1024) ![3, 0, 0] S1x1024x1024.size inb_S4x1024x1024_S1x1024x1024_3_0_0]
theorem r5y_stride (t : Fin 5) (a : Fin 3) : (r5y t).stride a = 1 := by fin_cases t <;> rfl
theorem r5y_disj (t t' : Fin 5) (h : t ≠ t') : Disjoint (r5y t).set (r5y t').set := by
  fin_cases t <;> fin_cases t'
  · exact absurd rfl h
  · exact Rect.unit_disjoint (s := S4x1024x1024) (off := ![0, 0, 0]) (size := S1x1024x512.size) (off' := ![0, 0, 512]) (size' := S1x1024x512.size) (inb := inb_S4x1024x1024_S1x1024x512_0_0_0) (inb' := inb_S4x1024x1024_S1x1024x512_0_0_512) (2 : Fin 3) (Or.inl (by decide))
  · exact Rect.unit_disjoint (s := S4x1024x1024) (off := ![0, 0, 0]) (size := S1x1024x512.size) (off' := ![1, 0, 0]) (size' := S1x1024x1024.size) (inb := inb_S4x1024x1024_S1x1024x512_0_0_0) (inb' := inb_S4x1024x1024_S1x1024x1024_1_0_0) (0 : Fin 3) (Or.inl (by decide))
  · exact Rect.unit_disjoint (s := S4x1024x1024) (off := ![0, 0, 0]) (size := S1x1024x512.size) (off' := ![2, 0, 0]) (size' := S1x1024x1024.size) (inb := inb_S4x1024x1024_S1x1024x512_0_0_0) (inb' := inb_S4x1024x1024_S1x1024x1024_2_0_0) (0 : Fin 3) (Or.inl (by decide))
  · exact Rect.unit_disjoint (s := S4x1024x1024) (off := ![0, 0, 0]) (size := S1x1024x512.size) (off' := ![3, 0, 0]) (size' := S1x1024x1024.size) (inb := inb_S4x1024x1024_S1x1024x512_0_0_0) (inb' := inb_S4x1024x1024_S1x1024x1024_3_0_0) (0 : Fin 3) (Or.inl (by decide))
  · exact Rect.unit_disjoint (s := S4x1024x1024) (off := ![0, 0, 512]) (size := S1x1024x512.size) (off' := ![0, 0, 0]) (size' := S1x1024x512.size) (inb := inb_S4x1024x1024_S1x1024x512_0_0_512) (inb' := inb_S4x1024x1024_S1x1024x512_0_0_0) (2 : Fin 3) (Or.inr (by decide))
  · exact absurd rfl h
  · exact Rect.unit_disjoint (s := S4x1024x1024) (off := ![0, 0, 512]) (size := S1x1024x512.size) (off' := ![1, 0, 0]) (size' := S1x1024x1024.size) (inb := inb_S4x1024x1024_S1x1024x512_0_0_512) (inb' := inb_S4x1024x1024_S1x1024x1024_1_0_0) (0 : Fin 3) (Or.inl (by decide))
  · exact Rect.unit_disjoint (s := S4x1024x1024) (off := ![0, 0, 512]) (size := S1x1024x512.size) (off' := ![2, 0, 0]) (size' := S1x1024x1024.size) (inb := inb_S4x1024x1024_S1x1024x512_0_0_512) (inb' := inb_S4x1024x1024_S1x1024x1024_2_0_0) (0 : Fin 3) (Or.inl (by decide))
  · exact Rect.unit_disjoint (s := S4x1024x1024) (off := ![0, 0, 512]) (size := S1x1024x512.size) (off' := ![3, 0, 0]) (size' := S1x1024x1024.size) (inb := inb_S4x1024x1024_S1x1024x512_0_0_512) (inb' := inb_S4x1024x1024_S1x1024x1024_3_0_0) (0 : Fin 3) (Or.inl (by decide))
  · exact Rect.unit_disjoint (s := S4x1024x1024) (off := ![1, 0, 0]) (size := S1x1024x1024.size) (off' := ![0, 0, 0]) (size' := S1x1024x512.size) (inb := inb_S4x1024x1024_S1x1024x1024_1_0_0) (inb' := inb_S4x1024x1024_S1x1024x512_0_0_0) (0 : Fin 3) (Or.inr (by decide))
  · exact Rect.unit_disjoint (s := S4x1024x1024) (off := ![1, 0, 0]) (size := S1x1024x1024.size) (off' := ![0, 0, 512]) (size' := S1x1024x512.size) (inb := inb_S4x1024x1024_S1x1024x1024_1_0_0) (inb' := inb_S4x1024x1024_S1x1024x512_0_0_512) (0 : Fin 3) (Or.inr (by decide))
  · exact absurd rfl h
  · exact Rect.unit_disjoint (s := S4x1024x1024) (off := ![1, 0, 0]) (size := S1x1024x1024.size) (off' := ![2, 0, 0]) (size' := S1x1024x1024.size) (inb := inb_S4x1024x1024_S1x1024x1024_1_0_0) (inb' := inb_S4x1024x1024_S1x1024x1024_2_0_0) (0 : Fin 3) (Or.inl (by decide))
  · exact Rect.unit_disjoint (s := S4x1024x1024) (off := ![1, 0, 0]) (size := S1x1024x1024.size) (off' := ![3, 0, 0]) (size' := S1x1024x1024.size) (inb := inb_S4x1024x1024_S1x1024x1024_1_0_0) (inb' := inb_S4x1024x1024_S1x1024x1024_3_0_0) (0 : Fin 3) (Or.inl (by decide))
  · exact Rect.unit_disjoint (s := S4x1024x1024) (off := ![2, 0, 0]) (size := S1x1024x1024.size) (off' := ![0, 0, 0]) (size' := S1x1024x512.size) (inb := inb_S4x1024x1024_S1x1024x1024_2_0_0) (inb' := inb_S4x1024x1024_S1x1024x512_0_0_0) (0 : Fin 3) (Or.inr (by decide))
  · exact Rect.unit_disjoint (s := S4x1024x1024) (off := ![2, 0, 0]) (size := S1x1024x1024.size) (off' := ![0, 0, 512]) (size' := S1x1024x512.size) (inb := inb_S4x1024x1024_S1x1024x1024_2_0_0) (inb' := inb_S4x1024x1024_S1x1024x512_0_0_512) (0 : Fin 3) (Or.inr (by decide))
  · exact Rect.unit_disjoint (s := S4x1024x1024) (off := ![2, 0, 0]) (size := S1x1024x1024.size) (off' := ![1, 0, 0]) (size' := S1x1024x1024.size) (inb := inb_S4x1024x1024_S1x1024x1024_2_0_0) (inb' := inb_S4x1024x1024_S1x1024x1024_1_0_0) (0 : Fin 3) (Or.inr (by decide))
  · exact absurd rfl h
  · exact Rect.unit_disjoint (s := S4x1024x1024) (off := ![2, 0, 0]) (size := S1x1024x1024.size) (off' := ![3, 0, 0]) (size' := S1x1024x1024.size) (inb := inb_S4x1024x1024_S1x1024x1024_2_0_0) (inb' := inb_S4x1024x1024_S1x1024x1024_3_0_0) (0 : Fin 3) (Or.inl (by decide))
  · exact Rect.unit_disjoint (s := S4x1024x1024) (off := ![3, 0, 0]) (size := S1x1024x1024.size) (off' := ![0, 0, 0]) (size' := S1x1024x512.size) (inb := inb_S4x1024x1024_S1x1024x1024_3_0_0) (inb' := inb_S4x1024x1024_S1x1024x512_0_0_0) (0 : Fin 3) (Or.inr (by decide))
  · exact Rect.unit_disjoint (s := S4x1024x1024) (off := ![3, 0, 0]) (size := S1x1024x1024.size) (off' := ![0, 0, 512]) (size' := S1x1024x512.size) (inb := inb_S4x1024x1024_S1x1024x1024_3_0_0) (inb' := inb_S4x1024x1024_S1x1024x512_0_0_512) (0 : Fin 3) (Or.inr (by decide))
  · exact Rect.unit_disjoint (s := S4x1024x1024) (off := ![3, 0, 0]) (size := S1x1024x1024.size) (off' := ![1, 0, 0]) (size' := S1x1024x1024.size) (inb := inb_S4x1024x1024_S1x1024x1024_3_0_0) (inb' := inb_S4x1024x1024_S1x1024x1024_1_0_0) (0 : Fin 3) (Or.inr (by decide))
  · exact Rect.unit_disjoint (s := S4x1024x1024) (off := ![3, 0, 0]) (size := S1x1024x1024.size) (off' := ![2, 0, 0]) (size' := S1x1024x1024.size) (inb := inb_S4x1024x1024_S1x1024x1024_3_0_0) (inb' := inb_S4x1024x1024_S1x1024x1024_2_0_0) (0 : Fin 3) (Or.inr (by decide))
  · exact absurd rfl h
theorem r5y_cover : (Finset.univ : Finset (Fin 5)).biUnion (fun t => (r5y t).set) = Finset.univ := by
  refine Finset.eq_univ_of_forall fun i => Finset.mem_biUnion.mpr ?_
  have h0 : (i 0).val < 4 := (i 0).isLt
  have h1 : (i 1).val < 1024 := (i 1).isLt
  have h2 : (i 2).val < 1024 := (i 2).isLt
  have key : (0 ≤ (i 0).val ∧ (i 0).val < 0 + 1 ∧ 0 ≤ (i 1).val ∧ (i 1).val < 0 + 1024 ∧ 0 ≤ (i 2).val ∧ (i 2).val < 0 + 512) ∨ (0 ≤ (i 0).val ∧ (i 0).val < 0 + 1 ∧ 0 ≤ (i 1).val ∧ (i 1).val < 0 + 1024 ∧ 512 ≤ (i 2).val ∧ (i 2).val < 512 + 512) ∨ (1 ≤ (i 0).val ∧ (i 0).val < 1 + 1 ∧ 0 ≤ (i 1).val ∧ (i 1).val < 0 + 1024 ∧ 0 ≤ (i 2).val ∧ (i 2).val < 0 + 1024) ∨ (2 ≤ (i 0).val ∧ (i 0).val < 2 + 1 ∧ 0 ≤ (i 1).val ∧ (i 1).val < 0 + 1024 ∧ 0 ≤ (i 2).val ∧ (i 2).val < 0 + 1024) ∨ (3 ≤ (i 0).val ∧ (i 0).val < 3 + 1 ∧ 0 ≤ (i 1).val ∧ (i 1).val < 0 + 1024 ∧ 0 ≤ (i 2).val ∧ (i 2).val < 0 + 1024) := by omega
  rcases key with h | h | h | h | h
  · refine ⟨0, Finset.mem_univ _, (Rect.mem_set_unit (s := S4x1024x1024) (off := ![0, 0, 0]) (size := S1x1024x512.size) (inb := inb_S4x1024x1024_S1x1024x512_0_0_0)).mpr fun a => ?_⟩
    fin_cases a
    · show 0 ≤ (i 0).val ∧ (i 0).val < 0 + 1; omega
    · show 0 ≤ (i 1).val ∧ (i 1).val < 0 + 1024; omega
    · show 0 ≤ (i 2).val ∧ (i 2).val < 0 + 512; omega
  · refine ⟨1, Finset.mem_univ _, (Rect.mem_set_unit (s := S4x1024x1024) (off := ![0, 0, 512]) (size := S1x1024x512.size) (inb := inb_S4x1024x1024_S1x1024x512_0_0_512)).mpr fun a => ?_⟩
    fin_cases a
    · show 0 ≤ (i 0).val ∧ (i 0).val < 0 + 1; omega
    · show 0 ≤ (i 1).val ∧ (i 1).val < 0 + 1024; omega
    · show 512 ≤ (i 2).val ∧ (i 2).val < 512 + 512; omega
  · refine ⟨2, Finset.mem_univ _, (Rect.mem_set_unit (s := S4x1024x1024) (off := ![1, 0, 0]) (size := S1x1024x1024.size) (inb := inb_S4x1024x1024_S1x1024x1024_1_0_0)).mpr fun a => ?_⟩
    fin_cases a
    · show 1 ≤ (i 0).val ∧ (i 0).val < 1 + 1; omega
    · show 0 ≤ (i 1).val ∧ (i 1).val < 0 + 1024; omega
    · show 0 ≤ (i 2).val ∧ (i 2).val < 0 + 1024; omega
  · refine ⟨3, Finset.mem_univ _, (Rect.mem_set_unit (s := S4x1024x1024) (off := ![2, 0, 0]) (size := S1x1024x1024.size) (inb := inb_S4x1024x1024_S1x1024x1024_2_0_0)).mpr fun a => ?_⟩
    fin_cases a
    · show 2 ≤ (i 0).val ∧ (i 0).val < 2 + 1; omega
    · show 0 ≤ (i 1).val ∧ (i 1).val < 0 + 1024; omega
    · show 0 ≤ (i 2).val ∧ (i 2).val < 0 + 1024; omega
  · refine ⟨4, Finset.mem_univ _, (Rect.mem_set_unit (s := S4x1024x1024) (off := ![3, 0, 0]) (size := S1x1024x1024.size) (inb := inb_S4x1024x1024_S1x1024x1024_3_0_0)).mpr fun a => ?_⟩
    fin_cases a
    · show 3 ≤ (i 0).val ∧ (i 0).val < 3 + 1; omega
    · show 0 ≤ (i 1).val ∧ (i 1).val < 0 + 1024; omega
    · show 0 ≤ (i 2).val ∧ (i 2).val < 0 + 1024; omega
/-- The one word of the scale. -/
def r1s : Fin 1 → Rect S1x1 := ![Rect.unit (s := S1x1) ![0, 0] S1x1.size inb_S1x1_S1x1_0_0]
theorem r1s_stride (t : Fin 1) (a : Fin 2) : (r1s t).stride a = 1 := by fin_cases t <;> rfl
theorem r1s_disj (t t' : Fin 1) (h : t ≠ t') : Disjoint (r1s t).set (r1s t').set := by
  fin_cases t <;> fin_cases t'
  · exact absurd rfl h
theorem r1s_cover : (Finset.univ : Finset (Fin 1)).biUnion (fun t => (r1s t).set) = Finset.univ := by
  refine Finset.eq_univ_of_forall fun i => Finset.mem_biUnion.mpr ?_
  have h0 : (i 0).val < 1 := (i 0).isLt
  have h1 : (i 1).val < 1 := (i 1).isLt
  have key : (0 ≤ (i 0).val ∧ (i 0).val < 0 + 1 ∧ 0 ≤ (i 1).val ∧ (i 1).val < 0 + 1) := by omega
  rcases key with h
  · refine ⟨0, Finset.mem_univ _, (Rect.mem_set_unit (s := S1x1) (off := ![0, 0]) (size := S1x1.size) (inb := inb_S1x1_S1x1_0_0)).mpr fun a => ?_⟩
    fin_cases a
    · show 0 ≤ (i 0).val ∧ (i 0).val < 0 + 1; omega
    · show 0 ≤ (i 1).val ∧ (i 1).val < 0 + 1; omega
/-- The two column halves of the own block. -/
def r2y : Fin 2 → Rect S4x1024x1024 := ![Rect.unit (s := S4x1024x1024) ![0, 0, 0] S1x1024x512.size inb_S4x1024x1024_S1x1024x512_0_0_0,
    Rect.unit (s := S4x1024x1024) ![0, 0, 512] S1x1024x512.size inb_S4x1024x1024_S1x1024x512_0_0_512]
theorem r2y_stride (t : Fin 2) (a : Fin 3) : (r2y t).stride a = 1 := by fin_cases t <;> rfl
theorem r2y_disj (t t' : Fin 2) (h : t ≠ t') : Disjoint (r2y t).set (r2y t').set := by
  have hd : Disjoint (r2y 0).set (r2y 1).set :=
    Rect.unit_disjoint (s := S4x1024x1024) (off := ![0, 0, 0]) (size := S1x1024x512.size) (off' := ![0, 0, 512]) (size' := S1x1024x512.size)
      (inb := inb_S4x1024x1024_S1x1024x512_0_0_0) (inb' := inb_S4x1024x1024_S1x1024x512_0_0_512) (2 : Fin 3) (Or.inl (by decide))
  fin_cases t <;> fin_cases t'
  · exact absurd rfl h
  · exact hd
  · exact hd.symm
  · exact absurd rfl h
theorem r2y_union : (r2y 0).set ∪ (r2y 1).set
    = (Rect.unit (s := S4x1024x1024) ![0, 0, 0] S1x1024x1024.size inb_S4x1024x1024_S1x1024x1024_0_0_0).set := by
  ext i
  have h2 : (i 2).val < 1024 := (i 2).isLt
  rw [Finset.mem_union]
  show i ∈ (Rect.unit (s := S4x1024x1024) ![0, 0, 0] S1x1024x512.size inb_S4x1024x1024_S1x1024x512_0_0_0).set
    ∨ i ∈ (Rect.unit (s := S4x1024x1024) ![0, 0, 512] S1x1024x512.size inb_S4x1024x1024_S1x1024x512_0_0_512).set ↔ _
  rw [Rect.mem_set_unit, Rect.mem_set_unit, Rect.mem_set_unit]
  constructor
  · rintro (h | h) a <;> have h0 := h 0 <;> have h1 := h 1 <;> have h2 := h 2 <;> fin_cases a
    · exact h0
    · exact h1
    · exact ⟨Nat.zero_le _, by show (i 2).val < 0 + 1024; omega⟩
    · exact h0
    · exact h1
    · exact ⟨Nat.zero_le _, by show (i 2).val < 0 + 1024; omega⟩
  · intro h
    have h0 := h 0
    have h1 := h 1
    by_cases hi : (i 2).val < 512
    · left; intro a; fin_cases a
      · exact h0
      · exact h1
      · exact ⟨Nat.zero_le _, by show (i 2).val < 0 + 512; omega⟩
    · right; intro a; fin_cases a
      · exact h0
      · exact h1
      · exact ⟨by show 512 ≤ (i 2).val; omega, by show (i 2).val < 512 + 512; omega⟩

/-! Each buffer by its slots. -/

theorem split_rc (c : Dev nD) : (any (F := F) c (Memref.whole cc0_scratch0) : sProp 𝕄) ⊢ iprop(any (F := F) c rc00 ∗ any (F := F) c rc01 ∗ any (F := F) c rc10 ∗ any (F := F) c rc11 ∗ any (F := F) c rc20 ∗ any (F := F) c rc21) :=
  (any_split c (Memref.whole cc0_scratch0) r6 r6_stride r6_disj r6_cover).trans
    (Entails.of_eq (bigSep_univ_eq_bigSepL [0, 1, 2, 3, 4, 5] (by decide) (by decide) _))
theorem join_rc (c : Dev nD) : (iprop(any (F := F) c rc00 ∗ any (F := F) c rc01 ∗ any (F := F) c rc10 ∗ any (F := F) c rc11 ∗ any (F := F) c rc20 ∗ any (F := F) c rc21) : sProp 𝕄) ⊢ any (F := F) c (Memref.whole cc0_scratch0) :=
  (Entails.of_eq (bigSep_univ_eq_bigSepL [0, 1, 2, 3, 4, 5] (by decide) (by decide) (fun t => any (F := F) c ((Memref.whole cc0_scratch0).slice (r6 t) (r6_stride t)))).symm).trans
    (any_join c (Memref.whole cc0_scratch0) r6 r6_stride r6_disj r6_cover)
theorem split_rd (c : Dev nD) : (any (F := F) c (Memref.whole cc0_scratch1) : sProp 𝕄) ⊢ iprop(any (F := F) c rd00 ∗ any (F := F) c rd01 ∗ any (F := F) c rd10 ∗ any (F := F) c rd11 ∗ any (F := F) c rd20 ∗ any (F := F) c rd21) :=
  (any_split c (Memref.whole cc0_scratch1) r6 r6_stride r6_disj r6_cover).trans
    (Entails.of_eq (bigSep_univ_eq_bigSepL [0, 1, 2, 3, 4, 5] (by decide) (by decide) _))
theorem join_rd (c : Dev nD) : (iprop(any (F := F) c rd00 ∗ any (F := F) c rd01 ∗ any (F := F) c rd10 ∗ any (F := F) c rd11 ∗ any (F := F) c rd20 ∗ any (F := F) c rd21) : sProp 𝕄) ⊢ any (F := F) c (Memref.whole cc0_scratch1) :=
  (Entails.of_eq (bigSep_univ_eq_bigSepL [0, 1, 2, 3, 4, 5] (by decide) (by decide) (fun t => any (F := F) c ((Memref.whole cc0_scratch1).slice (r6 t) (r6_stride t)))).symm).trans
    (any_join c (Memref.whole cc0_scratch1) r6 r6_stride r6_disj r6_cover)
theorem split_sc (c : Dev nD) : (any (F := F) c (Memref.whole cc0_scratch2) : sProp 𝕄) ⊢ iprop(any (F := F) c sc0 ∗ any (F := F) c sc1) :=
  (any_split c (Memref.whole cc0_scratch2) r2 r2_stride r2_disj r2_cover).trans
    (Entails.of_eq (bigSep_univ_eq_bigSepL [0, 1] (by decide) (by decide) _))
theorem join_sc (c : Dev nD) : (iprop(any (F := F) c sc0 ∗ any (F := F) c sc1) : sProp 𝕄) ⊢ any (F := F) c (Memref.whole cc0_scratch2) :=
  (Entails.of_eq (bigSep_univ_eq_bigSepL [0, 1] (by decide) (by decide) (fun t => any (F := F) c ((Memref.whole cc0_scratch2).slice (r2 t) (r2_stride t)))).symm).trans
    (any_join c (Memref.whole cc0_scratch2) r2 r2_stride r2_disj r2_cover)
theorem split_sd (c : Dev nD) : (any (F := F) c (Memref.whole cc0_scratch3) : sProp 𝕄) ⊢ iprop(any (F := F) c sd0 ∗ any (F := F) c sd1) :=
  (any_split c (Memref.whole cc0_scratch3) r2 r2_stride r2_disj r2_cover).trans
    (Entails.of_eq (bigSep_univ_eq_bigSepL [0, 1] (by decide) (by decide) _))
theorem join_sd (c : Dev nD) : (iprop(any (F := F) c sd0 ∗ any (F := F) c sd1) : sProp 𝕄) ⊢ any (F := F) c (Memref.whole cc0_scratch3) :=
  (Entails.of_eq (bigSep_univ_eq_bigSepL [0, 1] (by decide) (by decide) (fun t => any (F := F) c ((Memref.whole cc0_scratch3).slice (r2 t) (r2_stride t)))).symm).trans
    (any_join c (Memref.whole cc0_scratch3) r2 r2_stride r2_disj r2_cover)
theorem split_oc (c : Dev nD) : (any (F := F) c (Memref.whole cc0_scratch4) : sProp 𝕄) ⊢ iprop(any (F := F) c oc0 ∗ any (F := F) c oc1) :=
  (any_split c (Memref.whole cc0_scratch4) r2 r2_stride r2_disj r2_cover).trans
    (Entails.of_eq (bigSep_univ_eq_bigSepL [0, 1] (by decide) (by decide) _))
theorem join_oc (c : Dev nD) : (iprop(any (F := F) c oc0 ∗ any (F := F) c oc1) : sProp 𝕄) ⊢ any (F := F) c (Memref.whole cc0_scratch4) :=
  (Entails.of_eq (bigSep_univ_eq_bigSepL [0, 1] (by decide) (by decide) (fun t => any (F := F) c ((Memref.whole cc0_scratch4).slice (r2 t) (r2_stride t)))).symm).trans
    (any_join c (Memref.whole cc0_scratch4) r2 r2_stride r2_disj r2_cover)
theorem split_od (c : Dev nD) : (any (F := F) c (Memref.whole cc0_scratch5) : sProp 𝕄) ⊢ iprop(any (F := F) c od0 ∗ any (F := F) c od1) :=
  (any_split c (Memref.whole cc0_scratch5) r2 r2_stride r2_disj r2_cover).trans
    (Entails.of_eq (bigSep_univ_eq_bigSepL [0, 1] (by decide) (by decide) _))
theorem join_od (c : Dev nD) : (iprop(any (F := F) c od0 ∗ any (F := F) c od1) : sProp 𝕄) ⊢ any (F := F) c (Memref.whole cc0_scratch5) :=
  (Entails.of_eq (bigSep_univ_eq_bigSepL [0, 1] (by decide) (by decide) (fun t => any (F := F) c ((Memref.whole cc0_scratch5).slice (r2 t) (r2_stride t)))).symm).trans
    (any_join c (Memref.whole cc0_scratch5) r2 r2_stride r2_disj r2_cover)
theorem split_am (c : Dev nD) : (any (F := F) c (Memref.whole cc0_scratch6) : sProp 𝕄) ⊢ iprop(any (F := F) c am0 ∗ any (F := F) c am1 ∗ any (F := F) c am2 ∗ any (F := F) c am3) :=
  (any_split c (Memref.whole cc0_scratch6) r4 r4_stride r4_disj r4_cover).trans
    (Entails.of_eq (bigSep_univ_eq_bigSepL [0, 1, 2, 3] (by decide) (by decide) _))
theorem join_am (c : Dev nD) : (iprop(any (F := F) c am0 ∗ any (F := F) c am1 ∗ any (F := F) c am2 ∗ any (F := F) c am3) : sProp 𝕄) ⊢ any (F := F) c (Memref.whole cc0_scratch6) :=
  (Entails.of_eq (bigSep_univ_eq_bigSepL [0, 1, 2, 3] (by decide) (by decide) (fun t => any (F := F) c ((Memref.whole cc0_scratch6).slice (r4 t) (r4_stride t)))).symm).trans
    (any_join c (Memref.whole cc0_scratch6) r4 r4_stride r4_disj r4_cover)
theorem split_yc (c : Dev nD) : (any (F := F) c (Memref.whole cc0_stg2_0) : sProp 𝕄) ⊢ iprop(any (F := F) c ycl ∗ any (F := F) c ycr ∗ any (F := F) c yc1 ∗ any (F := F) c yc2 ∗ any (F := F) c yc3) :=
  (any_split c (Memref.whole cc0_stg2_0) r5y r5y_stride r5y_disj r5y_cover).trans
    (Entails.of_eq (bigSep_univ_eq_bigSepL [0, 1, 2, 3, 4] (by decide) (by decide) _))
theorem join_yc (c : Dev nD) : (iprop(any (F := F) c ycl ∗ any (F := F) c ycr ∗ any (F := F) c yc1 ∗ any (F := F) c yc2 ∗ any (F := F) c yc3) : sProp 𝕄) ⊢ any (F := F) c (Memref.whole cc0_stg2_0) :=
  (Entails.of_eq (bigSep_univ_eq_bigSepL [0, 1, 2, 3, 4] (by decide) (by decide) (fun t => any (F := F) c ((Memref.whole cc0_stg2_0).slice (r5y t) (r5y_stride t)))).symm).trans
    (any_join c (Memref.whole cc0_stg2_0) r5y r5y_stride r5y_disj r5y_cover)
theorem split_yd (c : Dev nD) : (any (F := F) c (Memref.whole cc0_stg3_0) : sProp 𝕄) ⊢ iprop(any (F := F) c ydl ∗ any (F := F) c ydr ∗ any (F := F) c yd1 ∗ any (F := F) c yd2 ∗ any (F := F) c yd3) :=
  (any_split c (Memref.whole cc0_stg3_0) r5y r5y_stride r5y_disj r5y_cover).trans
    (Entails.of_eq (bigSep_univ_eq_bigSepL [0, 1, 2, 3, 4] (by decide) (by decide) _))
theorem join_yd (c : Dev nD) : (iprop(any (F := F) c ydl ∗ any (F := F) c ydr ∗ any (F := F) c yd1 ∗ any (F := F) c yd2 ∗ any (F := F) c yd3) : sProp 𝕄) ⊢ any (F := F) c (Memref.whole cc0_stg3_0) :=
  (Entails.of_eq (bigSep_univ_eq_bigSepL [0, 1, 2, 3, 4] (by decide) (by decide) (fun t => any (F := F) c ((Memref.whole cc0_stg3_0).slice (r5y t) (r5y_stride t)))).symm).trans
    (any_join c (Memref.whole cc0_stg3_0) r5y r5y_stride r5y_disj r5y_cover)

/-- The scale's word, owned through the rectangle that names it. -/
abbrev sm0 : Memref sig .tc .smem S1x1 .f32 :=
  (Memref.whole cc0_stg4_0).slice (Rect.unit (s := S1x1) ![0, 0] S1x1.size inb_S1x1_S1x1_0_0) (fun _ => rfl)
theorem split_sm (c : Dev nD) : (any (F := F) c (Memref.whole cc0_stg4_0) : sProp 𝕄) ⊢ any c sm0 :=
  (any_split c (Memref.whole cc0_stg4_0) r1s r1s_stride r1s_disj r1s_cover).trans
    (Entails.of_eq (bigSep_univ_eq_bigSepL [0] (by decide) (by decide) _))

section Joins

variable (A : Dev nD → Vec F S4x1024x1024 .bf16) (B : Dev nD → Vec F S1024x2048 .bf16)

/-- A word in place. -/
theorem join_word (c : Dev nD) (X : Vec F S1x1 .f32) :
    (ow c sm0 (fun j => X ((Rect.unit (s := S1x1) ![0, 0] S1x1.size inb_S1x1_S1x1_0_0).emb j)) : sProp 𝕄) ⊢ ow c (Memref.whole cc0_stg4_0) X :=
  (Entails.of_eq (bigSep_univ_eq_bigSepL [0] (by decide) (by decide)
    (fun t => owns (c : Thread nD τ) ((Memref.whole cc0_stg4_0).slice (r1s t) (r1s_stride t)) fullShare (fun j => X ((r1s t).emb j)))).symm).trans
    (owns_of_rects (c : Thread nD τ) (Memref.whole cc0_stg4_0) fullShare r1s r1s_stride r1s_disj r1s_cover X)
/-- The scale in place. -/
theorem join_sm (c : Dev nD) (x : F .f32) : (ow c sm0 (fun _ => x) : sProp 𝕄) ⊢ ow c (Memref.whole cc0_stg4_0) (fun _ => x) :=
  join_word c (fun _ => x)

/-- The four blocks of half the result in place. -/
theorem put_yc (c : Dev nD) : (iprop(ow c yc0 (yL0 A B c) ∗ ow c yc1 (yL1 A B c) ∗ ow c yc2 (yL2 A B c) ∗ ow c yc3 (yL3 A B c)) : sProp 𝕄)
    ⊢ ow c (Memref.whole cc0_stg2_0) (yL A B c) :=
  (Entails.of_eq (bigSep_univ_eq_bigSepL [0, 1, 2, 3] (by decide) (by decide)
    (fun t => owns (c : Thread nD τ) ((Memref.whole cc0_stg2_0).slice (r4y t) (r4y_stride t)) fullShare (fun j => yL A B c ((r4y t).emb j)))).symm).trans
    (owns_of_rects (c : Thread nD τ) (Memref.whole cc0_stg2_0) fullShare r4y r4y_stride r4y_disj r4y_cover (yL A B c))
/-- The four blocks of half the result in place. -/
theorem put_yd (c : Dev nD) : (iprop(ow c yd0 (yR0 A B c) ∗ ow c yd1 (yR1 A B c) ∗ ow c yd2 (yR2 A B c) ∗ ow c yd3 (yR3 A B c)) : sProp 𝕄)
    ⊢ ow c (Memref.whole cc0_stg3_0) (yR A B c) :=
  (Entails.of_eq (bigSep_univ_eq_bigSepL [0, 1, 2, 3] (by decide) (by decide)
    (fun t => owns (c : Thread nD τ) ((Memref.whole cc0_stg3_0).slice (r4y t) (r4y_stride t)) fullShare (fun j => yR A B c ((r4y t).emb j)))).symm).trans
    (owns_of_rects (c : Thread nD τ) (Memref.whole cc0_stg3_0) fullShare r4y r4y_stride r4y_disj r4y_cover (yR A B c))
/-- The four tiles in place. -/
theorem put_am (c : Dev nD) : (iprop(ow c am0 (tl0 A B c) ∗ ow c am1 (tl1 A B c) ∗ ow c am2 (tl2 A B c) ∗ ow c am3 (tl3 A B c)) : sProp 𝕄)
    ⊢ ow c (Memref.whole cc0_scratch6) (tiles A B c) :=
  (Entails.of_eq (bigSep_univ_eq_bigSepL [0, 1, 2, 3] (by decide) (by decide)
    (fun t => owns (c : Thread nD τ) ((Memref.whole cc0_scratch6).slice (r4 t) (r4_stride t)) fullShare (fun j => tiles A B c ((r4 t).emb j)))).symm).trans
    (owns_of_rects (c : Thread nD τ) (Memref.whole cc0_scratch6) fullShare r4 r4_stride r4_disj r4_cover (tiles A B c))
/-- The first of them is the device's own. -/
theorem tile_eq (c : Dev nD) : tile A B c = tl0 A B c := by
  funext j
  show tile A B c j = tile A B (rot ((Rect.unit (s := S4x8x128) ![0, 0, 0] S1x8x128.size inb_S4x8x128_S1x8x128_0_0_0).emb j 0) c) (ix3 0 ((Rect.unit (s := S4x8x128) ![0, 0, 0] S1x8x128.size inb_S4x8x128_S1x8x128_0_0_0).emb j 1)
    ((Rect.unit (s := S4x8x128) ![0, 0, 0] S1x8x128.size inb_S4x8x128_S1x8x128_0_0_0).emb j 2))
  have h0 : (j 0).val < 1 := (j 0).isLt
  have hr : rot ((Rect.unit (s := S4x8x128) ![0, 0, 0] S1x8x128.size inb_S4x8x128_S1x8x128_0_0_0).emb j 0) c = c := by
    apply Fin.ext
    show (c.val + (0 + 1 * (j 0).val)) % 4 = c.val
    have := c.isLt
    have : c.val < 4 := this
    omega
  rw [hr]
  have hj : (ix3 0 ((Rect.unit (s := S4x8x128) ![0, 0, 0] S1x8x128.size inb_S4x8x128_S1x8x128_0_0_0).emb j 1)
      ((Rect.unit (s := S4x8x128) ![0, 0, 0] S1x8x128.size inb_S4x8x128_S1x8x128_0_0_0).emb j 2) : S1x8x128.Idx) = j := by
    funext a
    fin_cases a
    · apply Fin.ext; show 0 = (j 0).val; omega
    · apply Fin.ext; show 0 + 1 * (j 1).val = (j 1).val; omega
    · apply Fin.ext; show 0 + 1 * (j 2).val = (j 2).val; omega
  exact (congrArg (tile A B c) hj).symm

/-- A place in the left half of a stack. -/
theorem stack_lo (h : Fin 4 → Dev nD) (l r : Dev nD → Vec F S1x1024x512 .i8) (i : S4x1024x1024.Idx) (hi : (i 2).val < 512)
    (d : Dev nD) (hd : h (i 0) = d) (j : S1x1024x512.Idx) (hj : ix3 0 (i 1) ⟨(i 2).val, hi⟩ = j) : stack h l r i = l d j := by
  subst hd hj
  exact dif_pos hi
/-- A place in the right half of a stack. -/
theorem stack_hi (h : Fin 4 → Dev nD) (l r : Dev nD → Vec F S1x1024x512 .i8) (i : S4x1024x1024.Idx) (hi : ¬ (i 2).val < 512)
    (d : Dev nD) (hd : h (i 0) = d) (j : S1x1024x512.Idx)
    (hj : ix3 0 (i 1) ⟨(i 2).val - 512, Nat.sub_lt_left_of_lt_add (Nat.not_lt.1 hi) (i 2).isLt⟩ = j) : stack h l r i = r d j := by
  subst hd hj
  exact dif_neg hi

/-- The own block of half the result, from its two column halves. -/
theorem own_yc (c : Dev nD) : (iprop(ow c ycl (qa A B c) ∗ ow c ycr (qb A B c)) : sProp 𝕄) ⊢ ow c yc0 (yL0 A B c) := by
  have e0 : qa A B c = fun j => yL A B c ((r2y 0).emb j) := by
    funext j
    have h0 : (j 0).val < 1 := (j 0).isLt
    have h2 : (j 2).val < 512 := (j 2).isLt
    have hc : c.val < 4 := c.isLt
    refine (stack_lo _ _ _ _ (show (0 + 1 * (j 2).val : ℕ) < 512 by omega) c ?_ j ?_).symm
    · apply Fin.ext
      show (c.val + (4 - (0 + 1 * (j 0).val))) % 4 = c.val
      omega
    · funext a
      fin_cases a
      · apply Fin.ext; show 0 = (j 0).val; omega
      · apply Fin.ext; show 0 + 1 * (j 1).val = (j 1).val; omega
      · apply Fin.ext; show 0 + 1 * (j 2).val = (j 2).val; omega
  have e1 : qb A B c = fun j => yL A B c ((r2y 1).emb j) := by
    funext j
    have h0 : (j 0).val < 1 := (j 0).isLt
    have h2 : (j 2).val < 512 := (j 2).isLt
    have hc : c.val < 4 := c.isLt
    refine (stack_hi _ _ _ _ (show ¬ (512 + 1 * (j 2).val : ℕ) < 512 by omega) c ?_ j ?_).symm
    · apply Fin.ext
      show (c.val + (4 - (0 + 1 * (j 0).val))) % 4 = c.val
      omega
    · funext a
      fin_cases a
      · apply Fin.ext; show 0 = (j 0).val; omega
      · apply Fin.ext; show 0 + 1 * (j 1).val = (j 1).val; omega
      · apply Fin.ext; show 512 + 1 * (j 2).val - 512 = (j 2).val; omega
  rw [e0, e1]
  refine (Entails.of_eq (bigSep_univ_eq_bigSepL [0, 1] (by decide) (by decide)
    (fun t => owns (c : Thread nD τ) ((Memref.whole cc0_stg2_0).slice (r2y t) (r2y_stride t)) fullShare (fun j => yL A B c ((r2y t).emb j)))).symm).trans ?_
  refine (owns_rects_join (c : Thread nD τ) (Memref.whole cc0_stg2_0) fullShare r2y r2y_stride r2y_disj (yL A B c) Finset.univ).trans ?_
  refine (show _ ⊢ iprop(∃ f, ⌜yc0.view.read (Elt F) f = yL0 A B c⌝ ∗ (yc0.view.loc (c : Thread nD τ) ↦[yc0.view.set]{fullShare} f)) from ?_)
  iintro ⟨%g, %hg, H⟩
  iexists g
  isplitr
  · ipureintro
    funext j
    have hm : (Rect.unit (s := S4x1024x1024) ![0, 0, 0] S1x1024x1024.size inb_S4x1024x1024_S1x1024x1024_0_0_0).emb j ∈ (r2y 0).set ∪ (r2y 1).set := by
      rw [r2y_union]; exact mem_of_emb _ _
    rcases Finset.mem_union.mp hm with h | h
    · obtain ⟨x, hx⟩ := emb_of_mem _ h
      have := hg 0 (Finset.mem_univ _) x
      rw [hx] at this
      exact this
    · obtain ⟨x, hx⟩ := emb_of_mem _ h
      have := hg 1 (Finset.mem_univ _) x
      rw [hx] at this
      exact this
  · have hs : ((Finset.univ : Finset (Fin 2)).biUnion fun t => ((Memref.whole cc0_stg2_0 : Memref sig .tc .vmem S4x1024x1024 .i8).view.slice (r2y t)).set) = yc0.view.set := by
      show _ = ((Memref.whole cc0_stg2_0 : Memref sig .tc .vmem S4x1024x1024 .i8).view.slice _).set
      rw [View.set_slice, ← r2y_union, Finset.map_union]
      ext i
      simp only [View.set_slice, Finset.mem_biUnion, Finset.mem_union, Finset.mem_univ, _root_.true_and, Fin.exists_fin_two]
    rw [← hs]
    iexact H

/-- The own block of half the result, from its two column halves. -/
theorem own_yd (c : Dev nD) : (iprop(ow c ydl (qd A B c) ∗ ow c ydr (qe A B c)) : sProp 𝕄) ⊢ ow c yd0 (yR0 A B c) := by
  have e0 : qd A B c = fun j => yR A B c ((r2y 0).emb j) := by
    funext j
    have h0 : (j 0).val < 1 := (j 0).isLt
    have h2 : (j 2).val < 512 := (j 2).isLt
    have hc : c.val < 4 := c.isLt
    refine (stack_lo _ _ _ _ (show (0 + 1 * (j 2).val : ℕ) < 512 by omega) c ?_ j ?_).symm
    · apply Fin.ext
      show (c.val + (0 + 1 * (j 0).val)) % 4 = c.val
      omega
    · funext a
      fin_cases a
      · apply Fin.ext; show 0 = (j 0).val; omega
      · apply Fin.ext; show 0 + 1 * (j 1).val = (j 1).val; omega
      · apply Fin.ext; show 0 + 1 * (j 2).val = (j 2).val; omega
  have e1 : qe A B c = fun j => yR A B c ((r2y 1).emb j) := by
    funext j
    have h0 : (j 0).val < 1 := (j 0).isLt
    have h2 : (j 2).val < 512 := (j 2).isLt
    have hc : c.val < 4 := c.isLt
    refine (stack_hi _ _ _ _ (show ¬ (512 + 1 * (j 2).val : ℕ) < 512 by omega) c ?_ j ?_).symm
    · apply Fin.ext
      show (c.val + (0 + 1 * (j 0).val)) % 4 = c.val
      omega
    · funext a
      fin_cases a
      · apply Fin.ext; show 0 = (j 0).val; omega
      · apply Fin.ext; show 0 + 1 * (j 1).val = (j 1).val; omega
      · apply Fin.ext; show 512 + 1 * (j 2).val - 512 = (j 2).val; omega
  rw [e0, e1]
  refine (Entails.of_eq (bigSep_univ_eq_bigSepL [0, 1] (by decide) (by decide)
    (fun t => owns (c : Thread nD τ) ((Memref.whole cc0_stg3_0).slice (r2y t) (r2y_stride t)) fullShare (fun j => yR A B c ((r2y t).emb j)))).symm).trans ?_
  refine (owns_rects_join (c : Thread nD τ) (Memref.whole cc0_stg3_0) fullShare r2y r2y_stride r2y_disj (yR A B c) Finset.univ).trans ?_
  refine (show _ ⊢ iprop(∃ f, ⌜yd0.view.read (Elt F) f = yR0 A B c⌝ ∗ (yd0.view.loc (c : Thread nD τ) ↦[yd0.view.set]{fullShare} f)) from ?_)
  iintro ⟨%g, %hg, H⟩
  iexists g
  isplitr
  · ipureintro
    funext j
    have hm : (Rect.unit (s := S4x1024x1024) ![0, 0, 0] S1x1024x1024.size inb_S4x1024x1024_S1x1024x1024_0_0_0).emb j ∈ (r2y 0).set ∪ (r2y 1).set := by
      rw [r2y_union]; exact mem_of_emb _ _
    rcases Finset.mem_union.mp hm with h | h
    · obtain ⟨x, hx⟩ := emb_of_mem _ h
      have := hg 0 (Finset.mem_univ _) x
      rw [hx] at this
      exact this
    · obtain ⟨x, hx⟩ := emb_of_mem _ h
      have := hg 1 (Finset.mem_univ _) x
      rw [hx] at this
      exact this
  · have hs : ((Finset.univ : Finset (Fin 2)).biUnion fun t => ((Memref.whole cc0_stg3_0 : Memref sig .tc .vmem S4x1024x1024 .i8).view.slice (r2y t)).set) = yd0.view.set := by
      show _ = ((Memref.whole cc0_stg3_0 : Memref sig .tc .vmem S4x1024x1024 .i8).view.slice _).set
      rw [View.set_slice, ← r2y_union, Finset.map_union]
      ext i
      simp only [View.set_slice, Finset.mem_biUnion, Finset.mem_union, Finset.mem_univ, _root_.true_and, Fin.exists_fin_two]
    rw [← hs]
    iexact H

end Joins

end Cert.KernelIdeal.Talk
-- ==== Proof.Land.lean ====
/- What each copy hands over on landing, in the words of its receiver; and the meeting of neighbours before anything is sent. -/
module

public import proofs.«01_k».proof.Proof.Slots

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

/-! ## Slots of neighbours compared -/

/-- Stacks agree at places that name the same device's block. -/
theorem stack_at (h h' : Fin 4 → Dev nD) (l r : Dev nD → Vec F S1x1024x512 .i8) (i i' : S4x1024x1024.Idx)
    (h0 : h (i 0) = h' (i' 0)) (h1 : i 1 = i' 1) (h2 : i 2 = i' 2) : stack h l r i = stack h' l r i' := by
  unfold stack
  simp only [h0, h1, h2]

theorem yL0_next (c : Dev nD) : yL1 A B (nx c) = yL0 A B c := by
  funext j
  have h0 : (j 0).val < 1 := (j 0).isLt
  have hc : c.val < 4 := c.isLt
  refine stack_at (F := F) (fun k => tor k (nx c)) (fun k => tor k c) (qa A B) (qb A B)
    ((Rect.unit (s := S4x1024x1024) ![1, 0, 0] S1x1024x1024.size inb_S4x1024x1024_S1x1024x1024_1_0_0).emb j)
    ((Rect.unit (s := S4x1024x1024) ![0, 0, 0] S1x1024x1024.size inb_S4x1024x1024_S1x1024x1024_0_0_0).emb j) (Fin.ext ?_) rfl rfl
  show ((c.val + 1) % 4 + (4 - (1 + 1 * (j 0).val))) % 4 = (c.val + (4 - (0 + 1 * (j 0).val))) % 4
  omega

theorem yL1_next (c : Dev nD) : yL2 A B (nx c) = yL1 A B c := by
  funext j
  have h0 : (j 0).val < 1 := (j 0).isLt
  have hc : c.val < 4 := c.isLt
  refine stack_at (F := F) (fun k => tor k (nx c)) (fun k => tor k c) (qa A B) (qb A B)
    ((Rect.unit (s := S4x1024x1024) ![2, 0, 0] S1x1024x1024.size inb_S4x1024x1024_S1x1024x1024_2_0_0).emb j)
    ((Rect.unit (s := S4x1024x1024) ![1, 0, 0] S1x1024x1024.size inb_S4x1024x1024_S1x1024x1024_1_0_0).emb j) (Fin.ext ?_) rfl rfl
  show ((c.val + 1) % 4 + (4 - (2 + 1 * (j 0).val))) % 4 = (c.val + (4 - (1 + 1 * (j 0).val))) % 4
  omega

theorem yL2_next (c : Dev nD) : yL3 A B (nx c) = yL2 A B c := by
  funext j
  have h0 : (j 0).val < 1 := (j 0).isLt
  have hc : c.val < 4 := c.isLt
  refine stack_at (F := F) (fun k => tor k (nx c)) (fun k => tor k c) (qa A B) (qb A B)
    ((Rect.unit (s := S4x1024x1024) ![3, 0, 0] S1x1024x1024.size inb_S4x1024x1024_S1x1024x1024_3_0_0).emb j)
    ((Rect.unit (s := S4x1024x1024) ![2, 0, 0] S1x1024x1024.size inb_S4x1024x1024_S1x1024x1024_2_0_0).emb j) (Fin.ext ?_) rfl rfl
  show ((c.val + 1) % 4 + (4 - (3 + 1 * (j 0).val))) % 4 = (c.val + (4 - (2 + 1 * (j 0).val))) % 4
  omega

theorem yR0_next (c : Dev nD) : yR1 A B (pv c) = yR0 A B c := by
  funext j
  have h0 : (j 0).val < 1 := (j 0).isLt
  have hc : c.val < 4 := c.isLt
  refine stack_at (F := F) (fun k => rot k (pv c)) (fun k => rot k c) (qd A B) (qe A B)
    ((Rect.unit (s := S4x1024x1024) ![1, 0, 0] S1x1024x1024.size inb_S4x1024x1024_S1x1024x1024_1_0_0).emb j)
    ((Rect.unit (s := S4x1024x1024) ![0, 0, 0] S1x1024x1024.size inb_S4x1024x1024_S1x1024x1024_0_0_0).emb j) (Fin.ext ?_) rfl rfl
  show ((c.val + 3) % 4 + (1 + 1 * (j 0).val)) % 4 = (c.val + (0 + 1 * (j 0).val)) % 4
  omega

theorem yR1_next (c : Dev nD) : yR2 A B (pv c) = yR1 A B c := by
  funext j
  have h0 : (j 0).val < 1 := (j 0).isLt
  have hc : c.val < 4 := c.isLt
  refine stack_at (F := F) (fun k => rot k (pv c)) (fun k => rot k c) (qd A B) (qe A B)
    ((Rect.unit (s := S4x1024x1024) ![2, 0, 0] S1x1024x1024.size inb_S4x1024x1024_S1x1024x1024_2_0_0).emb j)
    ((Rect.unit (s := S4x1024x1024) ![1, 0, 0] S1x1024x1024.size inb_S4x1024x1024_S1x1024x1024_1_0_0).emb j) (Fin.ext ?_) rfl rfl
  show ((c.val + 3) % 4 + (2 + 1 * (j 0).val)) % 4 = (c.val + (1 + 1 * (j 0).val)) % 4
  omega

theorem yR2_next (c : Dev nD) : yR3 A B (pv c) = yR2 A B c := by
  funext j
  have h0 : (j 0).val < 1 := (j 0).isLt
  have hc : c.val < 4 := c.isLt
  refine stack_at (F := F) (fun k => rot k (pv c)) (fun k => rot k c) (qd A B) (qe A B)
    ((Rect.unit (s := S4x1024x1024) ![3, 0, 0] S1x1024x1024.size inb_S4x1024x1024_S1x1024x1024_3_0_0).emb j)
    ((Rect.unit (s := S4x1024x1024) ![2, 0, 0] S1x1024x1024.size inb_S4x1024x1024_S1x1024x1024_2_0_0).emb j) (Fin.ext ?_) rfl rfl
  show ((c.val + 3) % 4 + (3 + 1 * (j 0).val)) % 4 = (c.val + (2 + 1 * (j 0).val)) % 4
  omega

/-- A tile's slot holds the tile of the device that many places to the right. -/
theorem tl_at (c d : Dev nD) (r : Rect S4x8x128) (hr : r.shape = S1x8x128) (j : r.shape.Idx) (j' : S1x8x128.Idx)
    (h0 : rot (r.emb j 0) d = c) (h1 : (ix3 0 (r.emb j 1) (r.emb j 2) : S1x8x128.Idx) = j') : tiles A B d (r.emb j) = tile A B c j' := by
  subst h0 h1; rfl

theorem tl1_of (c : Dev nD) : tl1 A B (pv c) = tile A B c := by
  funext j
  have h0 : (j 0).val < 1 := (j 0).isLt
  have hc : c.val < 4 := c.isLt
  refine tl_at A B c (pv c) (Rect.unit (s := S4x8x128) ![1, 0, 0] S1x8x128.size inb_S4x8x128_S1x8x128_1_0_0) rfl j j ?_ ?_
  · apply Fin.ext; show ((c.val + 3) % 4 + (1 + 1 * (j 0).val)) % 4 = c.val; omega
  · funext a
    fin_cases a
    · apply Fin.ext; show 0 = (j 0).val; omega
    · apply Fin.ext; show 0 + 1 * (j 1).val = (j 1).val; omega
    · apply Fin.ext; show 0 + 1 * (j 2).val = (j 2).val; omega

theorem tl2_of (c : Dev nD) : tl2 A B (op c) = tile A B c := by
  funext j
  have h0 : (j 0).val < 1 := (j 0).isLt
  have hc : c.val < 4 := c.isLt
  refine tl_at A B c (op c) (Rect.unit (s := S4x8x128) ![2, 0, 0] S1x8x128.size inb_S4x8x128_S1x8x128_2_0_0) rfl j j ?_ ?_
  · apply Fin.ext; show ((c.val + 2) % 4 + (2 + 1 * (j 0).val)) % 4 = c.val; omega
  · funext a
    fin_cases a
    · apply Fin.ext; show 0 = (j 0).val; omega
    · apply Fin.ext; show 0 + 1 * (j 1).val = (j 1).val; omega
    · apply Fin.ext; show 0 + 1 * (j 2).val = (j 2).val; omega

theorem tl3_of (c : Dev nD) : tl3 A B (nx c) = tile A B c := by
  funext j
  have h0 : (j 0).val < 1 := (j 0).isLt
  have hc : c.val < 4 := c.isLt
  refine tl_at A B c (nx c) (Rect.unit (s := S4x8x128) ![3, 0, 0] S1x8x128.size inb_S4x8x128_S1x8x128_3_0_0) rfl j j ?_ ?_
  · apply Fin.ext; show ((c.val + 1) % 4 + (3 + 1 * (j 0).val)) % 4 = c.val; omega
  · funext a
    fin_cases a
    · apply Fin.ext; show 0 = (j 0).val; omega
    · apply Fin.ext; show 0 + 1 * (j 1).val = (j 1).val; omega
    · apply Fin.ext; show 0 + 1 * (j 2).val = (j 2).val; omega

/-- All the tiles, read in one piece. -/
theorem tiles_whole (c : Dev nD) : tiles A B c = fun j => tiles A B c ((Rect.unit (s := S4x8x128) ![0, 0, 0] S4x8x128.size inb_S4x8x128_S4x8x128_0_0_0).emb j) := by
  funext j
  refine congrArg (tiles A B c) (funext fun a => Fin.ext ?_)
  fin_cases a
  · show (j 0).val = 0 + 1 * (j 0).val; omega
  · show (j 1).val = 0 + 1 * (j 1).val; omega
  · show (j 2).val = 0 + 1 * (j 2).val; omega

/-! ## Whom a copy goes to -/

theorem dev0 (c : Dev nD) : (⟨k0_dev3 c, k0_dev3_lt c⟩ : Dev nD) = tgt 0 c := by revert c; decide
theorem dev1 (c : Dev nD) : (⟨k0_dev4 c, k0_dev4_lt c⟩ : Dev nD) = tgt 1 c := by revert c; decide
theorem dev2 (c : Dev nD) : (⟨k0_dev5 c, k0_dev5_lt c⟩ : Dev nD) = tgt 2 c := by revert c; decide
theorem dev3 (c : Dev nD) : (⟨k0_dev6 c, k0_dev6_lt c⟩ : Dev nD) = tgt 3 c := by revert c; decide
theorem dev4 (c : Dev nD) : (⟨k0_dev7 c, k0_dev7_lt c⟩ : Dev nD) = tgt 4 c := by revert c; decide
theorem dev5 (c : Dev nD) : (⟨k0_dev8 c, k0_dev8_lt c⟩ : Dev nD) = tgt 5 c := by revert c; decide
theorem dev6 (c : Dev nD) : (⟨k0_dev9 c, k0_dev9_lt c⟩ : Dev nD) = tgt 6 c := by revert c; decide
theorem dev7 (c : Dev nD) : (⟨k0_dev10 c, k0_dev10_lt c⟩ : Dev nD) = tgt 7 c := by revert c; decide
theorem dev8 (c : Dev nD) : (⟨k0_dev11 c, k0_dev11_lt c⟩ : Dev nD) = tgt 8 c := by revert c; decide
theorem dev9 (c : Dev nD) : (⟨k0_dev12 c, k0_dev12_lt c⟩ : Dev nD) = tgt 9 c := by revert c; decide
theorem dev10 (c : Dev nD) : (⟨k0_dev13 c, k0_dev13_lt c⟩ : Dev nD) = tgt 10 c := by revert c; decide
theorem dev11 (c : Dev nD) : (⟨k0_dev14 c, k0_dev14_lt c⟩ : Dev nD) = tgt 11 c := by revert c; decide
theorem dev12 (c : Dev nD) : (⟨k0_dev15 c, k0_dev15_lt c⟩ : Dev nD) = tgt 12 c := by revert c; decide
theorem dev13 (c : Dev nD) : (⟨k0_dev16 c, k0_dev16_lt c⟩ : Dev nD) = tgt 13 c := by revert c; decide
theorem dev14 (c : Dev nD) : (⟨k0_dev17 c, k0_dev17_lt c⟩ : Dev nD) = tgt 14 c := by revert c; decide
theorem dev15 (c : Dev nD) : (⟨k0_dev18 c, k0_dev18_lt c⟩ : Dev nD) = tgt 15 c := by revert c; decide
theorem dev16 (c : Dev nD) : (⟨k0_dev19 c, k0_dev19_lt c⟩ : Dev nD) = tgt 16 c := by revert c; decide
theorem dev17 (c : Dev nD) : (⟨k0_dev20 c, k0_dev20_lt c⟩ : Dev nD) = tgt 17 c := by revert c; decide
theorem dev18 (c : Dev nD) : (⟨k0_dev21 c, k0_dev21_lt c⟩ : Dev nD) = tgt 18 c := by revert c; decide
theorem dev19 (c : Dev nD) : (⟨k0_dev22 c, k0_dev22_lt c⟩ : Dev nD) = tgt 19 c := by revert c; decide
theorem dev20 (c : Dev nD) : (⟨k0_dev23 c, k0_dev23_lt c⟩ : Dev nD) = tgt 20 c := by revert c; decide
theorem devL (c : Dev nD) : (⟨k0_dev1 c, k0_dev1_lt c⟩ : Dev nD) = pv c := by revert c; decide
theorem devR (c : Dev nD) : (⟨k0_dev2 c, k0_dev2_lt c⟩ : Dev nD) = nx c := by revert c; decide

/-! ## What lands -/

theorem land0 (c : Dev nD) : (ow (nx c) rc00 (up4 (ap0 A B c)) : sProp 𝕄) ⊢ recvPay A B 0 (nx c) :=
  Entails.of_eq (congrArg (ow (F := F) (nx c) rc00) (by rw [al0_eq, pv_nx]))
theorem land1 (c : Dev nD) : iprop((ow (pv c) rd00 (up4 (dp0 A B c)) : sProp 𝕄) ∗ (any (F := F) (nx c) am2 ∗ rch (F := F) (nx c))) ⊢ recvPay A B 1 (pv c) :=
  Entails.of_eq (by show _ = iprop(ow (pv c) rd00 (dl0 A B (pv c)) ∗ (any (F := F) (op (pv c)) am2 ∗ rch (F := F) (op (pv c)))); rw [dl0_eq, nx_pv, op_pv])
theorem land2 (c : Dev nD) : (ow (nx c) rc01 (up4 (bp0 A B c)) : sProp 𝕄) ⊢ recvPay A B 2 (nx c) :=
  Entails.of_eq (congrArg (ow (F := F) (nx c) rc01) (by rw [bl0_eq, pv_nx]))
theorem land3 (c : Dev nD) : (ow (pv c) rd01 (up4 (ep0 A B c)) : sProp 𝕄) ⊢ recvPay A B 3 (pv c) :=
  Entails.of_eq (congrArg (ow (F := F) (pv c) rd01) (by rw [el0_eq, nx_pv]))
theorem land4 (c : Dev nD) : (ow (nx c) rc10 (ap1 A B c) : sProp 𝕄) ⊢ recvPay A B 4 (nx c) :=
  Entails.of_eq (congrArg (ow (F := F) (nx c) rc10) (by rw [al1_eq, pv_nx]))
theorem land5 (c : Dev nD) : (ow (pv c) rd10 (dp1 A B c) : sProp 𝕄) ⊢ recvPay A B 5 (pv c) :=
  Entails.of_eq (congrArg (ow (F := F) (pv c) rd10) (by rw [dl1_eq, nx_pv]))
theorem land6 (c : Dev nD) : (ow (nx c) rc11 (bp1 A B c) : sProp 𝕄) ⊢ recvPay A B 6 (nx c) :=
  Entails.of_eq (congrArg (ow (F := F) (nx c) rc11) (by rw [bl1_eq, pv_nx]))
theorem land7 (c : Dev nD) : (ow (pv c) rd11 (ep1 A B c) : sProp 𝕄) ⊢ recvPay A B 7 (pv c) :=
  Entails.of_eq (congrArg (ow (F := F) (pv c) rd11) (by rw [el1_eq, nx_pv]))
theorem land8 (c : Dev nD) : (ow (nx c) rc20 (ap2 A B c) : sProp 𝕄) ⊢ recvPay A B 8 (nx c) :=
  Entails.of_eq (congrArg (ow (F := F) (nx c) rc20) (by rw [al2_eq, pv_nx]))
theorem land9 (c : Dev nD) : (ow (pv c) rd20 (dp2 A B c) : sProp 𝕄) ⊢ recvPay A B 9 (pv c) :=
  Entails.of_eq (congrArg (ow (F := F) (pv c) rd20) (by rw [dl2_eq, nx_pv]))
theorem land10 (c : Dev nD) : (ow (nx c) rc21 (bp2 A B c) : sProp 𝕄) ⊢ recvPay A B 10 (nx c) :=
  Entails.of_eq (congrArg (ow (F := F) (nx c) rc21) (by rw [bl2_eq, pv_nx]))
theorem land11 (c : Dev nD) : (ow (pv c) rd21 (ep2 A B c) : sProp 𝕄) ⊢ recvPay A B 11 (pv c) :=
  Entails.of_eq (congrArg (ow (F := F) (pv c) rd21) (by rw [el2_eq, nx_pv]))
theorem land12 (c : Dev nD) : (ow (nx c) am3 (tile A B c) : sProp 𝕄) ⊢ recvPay A B 12 (nx c) :=
  Entails.of_eq (congrArg (ow (F := F) (nx c) am3) (tl3_of A B c).symm)
theorem land13 (c : Dev nD) : (ow (pv c) am1 (tile A B c) : sProp 𝕄) ⊢ recvPay A B 13 (pv c) :=
  Entails.of_eq (congrArg (ow (F := F) (pv c) am1) (tl1_of A B c).symm)
theorem land14 (c : Dev nD) : (ow (op c) am2 (tile A B c) : sProp 𝕄) ⊢ recvPay A B 14 (op c) :=
  Entails.of_eq (congrArg (ow (F := F) (op c) am2) (tl2_of A B c).symm)
theorem land15 (c : Dev nD) : (ow (nx c) yc1 (yL0 A B c) : sProp 𝕄) ⊢ recvPay A B 15 (nx c) :=
  Entails.of_eq (congrArg (ow (F := F) (nx c) yc1) (yL0_next A B c).symm)
theorem land16 (c : Dev nD) : (ow (pv c) yd1 (yR0 A B c) : sProp 𝕄) ⊢ recvPay A B 16 (pv c) :=
  Entails.of_eq (congrArg (ow (F := F) (pv c) yd1) (yR0_next A B c).symm)
theorem land17 (c : Dev nD) : (ow (nx c) yc2 (yL1 A B c) : sProp 𝕄) ⊢ recvPay A B 17 (nx c) :=
  Entails.of_eq (congrArg (ow (F := F) (nx c) yc2) (yL1_next A B c).symm)
theorem land18 (c : Dev nD) : (ow (pv c) yd2 (yR1 A B c) : sProp 𝕄) ⊢ recvPay A B 18 (pv c) :=
  Entails.of_eq (congrArg (ow (F := F) (pv c) yd2) (yR1_next A B c).symm)
theorem land19 (c : Dev nD) : (ow (nx c) yc3 (yL2 A B c) : sProp 𝕄) ⊢ recvPay A B 19 (nx c) :=
  Entails.of_eq (congrArg (ow (F := F) (nx c) yc3) (yL2_next A B c).symm)
theorem land20 (c : Dev nD) : (ow (pv c) yd3 (yR2 A B c) : sProp 𝕄) ⊢ recvPay A B 20 (pv c) :=
  Entails.of_eq (congrArg (ow (F := F) (pv c) yd3) (yR2_next A B c).symm)

/-! ## The meeting -/

/-- The signal to the left neighbour hands over the room that it writes into. -/
theorem wp_sigL {α : Type} {Q : α → sProp 𝕄} (c : Dev nD) {c' : Dev nD} {s : Sem sig} {kk : PUnit → Prog (TpuEff nD τ sig (Elt F) Λ₀ .tc) α}
    (hc : c' = pv c) (hs : s = barS) :
    iprop(recs A B K ∗ reached ER (barCell (pv c)) 0 ∗ dutyTok ER (barCell (pv c)) 0 false ∗ barPayF (F := F) (pv c)
        ∗ ∃ W : Waits sig Unit, owes (c : Thread nD τ) (O₀ c) W)
      ⊢ iprop(((∃ W : Waits sig Unit, owes (c : Thread nD τ) (Orem 0 c + tallyAt (barCell (nx c)) () 1) W)
            -∗ wp frame (wpE (defs₀ (F := F)) 𝒱₀ c none) Set.univ (kk ⟨⟩) Q)
        -∗ wp frame (wpE (defs₀ (F := F)) 𝒱₀ c none) Set.univ (.op (.semSignal (c' : Thread nD τ) s 1) kk) Q) := by
  subst hc hs
  iintro ⟨#HR, #Hr, Ht, Hp, ⟨%W, HO⟩⟩ Hk
  iapply (Rounds.wp_signal 𝒱₀ ER (rd A B) (c : Thread nD τ) none (dst := (pv c : Thread nD τ)) (sem := barS) (r := 0) (d := false) (κ := K (barCell (pv c)))
      (by rw [duties_bar]; exact Finset.mem_univ _) (amount_bar A B (pv c) false) () (O₀ := O₀ c) (Orem 0 c + tallyAt (barCell (nx c)) () 1) rfl (W := W)) $$ [Ht Hp HO]
  · isplitr; · iapply (recs_inv A B K (bar_mem (pv c))); iexact HR
    isplitl [HO]; · iexact HO
    isplitl [Ht]; · iexact Ht
    isplitl [Hp]; · iapply (Entails.of_eq (payload_barF A B (pv c)).symm); iexact Hp
    iexact Hr
  iintro HO
  iapply Hk
  iexists W; iexact HO

/-- The signal to the right neighbour does the same. -/
theorem wp_sigR {α : Type} {Q : α → sProp 𝕄} (c : Dev nD) {c' : Dev nD} {s : Sem sig} {kk : PUnit → Prog (TpuEff nD τ sig (Elt F) Λ₀ .tc) α}
    (hc : c' = nx c) (hs : s = barS) :
    iprop(recs A B K ∗ reached ER (barCell (nx c)) 0 ∗ dutyTok ER (barCell (nx c)) 0 true ∗ barPayT (F := F) (nx c)
        ∗ ∃ W : Waits sig Unit, owes (c : Thread nD τ) (Orem 0 c + tallyAt (barCell (nx c)) () 1) W)
      ⊢ iprop((dbt (F := F) c 0 -∗ wp frame (wpE (defs₀ (F := F)) 𝒱₀ c none) Set.univ (kk ⟨⟩) Q)
        -∗ wp frame (wpE (defs₀ (F := F)) 𝒱₀ c none) Set.univ (.op (.semSignal (c' : Thread nD τ) s 1) kk) Q) := by
  subst hc hs
  iintro ⟨#HR, #Hr, Ht, Hp, ⟨%W, HO⟩⟩ Hk
  iapply (Rounds.wp_signal 𝒱₀ ER (rd A B) (c : Thread nD τ) none (dst := (nx c : Thread nD τ)) (sem := barS) (r := 0) (d := true) (κ := K (barCell (nx c)))
      (by rw [duties_bar]; exact Finset.mem_univ _) (amount_bar A B (nx c) true) () (Orem 0 c) rfl (W := W)) $$ [Ht Hp HO]
  · isplitr; · iapply (recs_inv A B K (bar_mem (nx c))); iexact HR
    isplitl [HO]; · iexact HO
    isplitl [Ht]; · iexact Ht
    isplitl [Hp]; · iapply (Entails.of_eq (payload_barT A B (nx c)).symm); iexact Hp
    iexact Hr
  iintro HO
  iapply Hk
  unfold dbt
  iexists W; iexact HO

/-- Both neighbours' signals in, their rooms are the device's to write into. -/
theorem wp_meet {α : Type} {Q : α → sProp 𝕄} (c : Dev nD) {s : Sem sig} {kk : PUnit → Prog (TpuEff nD τ sig (Elt F) Λ₀ .tc) α} (hs : s = barS) :
    iprop(recs A B K ∗ cred (tallyAt (barCell c) () 2) ∗ atPos ER (barCell c) 0 ∅ 0 ∗ dbt (F := F) c 0)
      ⊢ iprop(((barPayF (F := F) c ∗ barPayT (F := F) c ∗ semVal (barCell c) 0 ∗ dbt (F := F) c 0)
            -∗ wp frame (wpE (defs₀ (F := F)) 𝒱₀ c none) Set.univ (kk ⟨⟩) Q)
        -∗ wp frame (wpE (defs₀ (F := F)) 𝒱₀ c none) Set.univ (.op (.semWait s 2) kk) Q) := by
  subst hs
  unfold dbt
  iintro ⟨#HR, Hc, Hat, ⟨%W, HO⟩⟩ Hk
  iapply (Rounds.wp_wait_rest_token 𝒱₀ ER (rd A B) (c : Thread nD τ) none (κ := K (barCell c))
      (wpE_semWait_eq 𝒱₀ (c : Thread nD τ) none Set.univ) (Set.mem_univ _) () (O := Orem 0 c) (W := W) (R := 0) (m := 0) (T := ∅)
      (by rw [Nat.zero_add, expect_bar])) $$ [Hc HO Hat]
  · isplitr; · iapply (recs_inv A B K (bar_mem c)); iexact HR
    isplitl [Hc]; · iexact Hc
    isplitl [HO]; · iexact HO
    isplitr; · iapply (mayWait 0 c (.reg barS) (by decide)); iapply (recs_lev A B K); iexact HR
    iexact Hat
  iintro ⟨HO, Hat, -, Hpay⟩
  ihave Hp := (Entails.of_eq (rest_bar A B c)) $$ Hpay
  icases Hp with ⟨HpF, HpT⟩
  imod (Rounds.cell_close ER (rd A B) (Set.mem_univ (K (barCell c))) id (duties_later A B (barCell c))) $$ [Hat] with Hz
  · isplitr; · iapply (recs_inv A B K (bar_mem c)); iexact HR
    iexact Hat
  iapply Hk
  isplitl [HpF]; · iexact HpF
  isplitl [HpT]; · iexact HpT
  isplitl [Hz]; · iexact Hz
  iexists _; iexact HO

end Cert.KernelIdeal.Talk
-- ==== Proof.Gets.lean ====
/- What each wait hands over, and what each store stores, in the words of the schedule. -/
module

public import proofs.«01_k».proof.Proof.Land

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

theorem st1_sc0 (c : Dev nD) : k0_pay1 (x0 A c) (w0 B c) = ap0 A B c := rfl
theorem st2_sd0 (c : Dev nD) : k0_pay4 (k0_pay2 (x0 A c)) (k0_pay3 (w2 B c)) = dp0 A B c := rfl
theorem st3_sc1 (c : Dev nD) : k0_pay5 (x0 A c) (w1 B c) = bp0 A B c := rfl
theorem st3_sd1 (c : Dev nD) : k0_pay6 (x0 A c) (w3 B c) = ep0 A B c := rfl
theorem get0_false (c : Dev nD) : (pay A B (0, false) c : sProp 𝕄) ⊢ any (F := F) c sc0 := .rfl
theorem get0_true (c : Dev nD) : (pay A B (0, true) c : sProp 𝕄) ⊢ ow c rc00 (al0 A B c) := .rfl
theorem st5_rc00 (c : Dev nD) : k0_pay8 (k0_pay7 (x1 A c) (w0 B c)) (al0 A B c) = ap1 A B c := rfl
theorem get1_false (c : Dev nD) : (pay A B (1, false) c : sProp 𝕄) ⊢ any (F := F) c sd0 := .rfl
theorem get1_true (c : Dev nD) : (pay A B (1, true) c : sProp 𝕄) ⊢ iprop(ow c rd00 (dl0 A B c) ∗ (any (F := F) (op c) am2 ∗ rch (F := F) (op c))) := .rfl
theorem st7_rd00 (c : Dev nD) : k0_pay10 (k0_pay9 (x3 A c) (w2 B c) (dl0 A B c)) = dp1 A B c := rfl
theorem get2_false (c : Dev nD) : (pay A B (2, false) c : sProp 𝕄) ⊢ any (F := F) c sc1 := .rfl
theorem get2_true (c : Dev nD) : (pay A B (2, true) c : sProp 𝕄) ⊢ ow c rc01 (bl0 A B c) := .rfl
theorem st8_rc01 (c : Dev nD) : k0_pay12 (k0_pay11 (x1 A c) (w1 B c)) (bl0 A B c) = bp1 A B c := rfl
theorem get3_false (c : Dev nD) : (pay A B (3, false) c : sProp 𝕄) ⊢ any (F := F) c sd1 := .rfl
theorem get3_true (c : Dev nD) : (pay A B (3, true) c : sProp 𝕄) ⊢ ow c rd01 (el0 A B c) := .rfl
theorem st10_rd01 (c : Dev nD) : k0_pay14 (k0_pay13 (x3 A c) (w3 B c)) (el0 A B c) = ep1 A B c := rfl
theorem get4_false (c : Dev nD) : (pay A B (4, false) c : sProp 𝕄) ⊢ any (F := F) c rc00 := .rfl
theorem get4_true (c : Dev nD) : (pay A B (4, true) c : sProp 𝕄) ⊢ ow c rc10 (al1 A B c) := .rfl
theorem st11_rc10 (c : Dev nD) : k0_pay16 (k0_pay15 (x2 A c) (w0 B c)) (al1 A B c) = ap2 A B c := rfl
theorem get5_false (c : Dev nD) : (pay A B (5, false) c : sProp 𝕄) ⊢ any (F := F) c rd00 := .rfl
theorem get5_true (c : Dev nD) : (pay A B (5, true) c : sProp 𝕄) ⊢ ow c rd10 (dl1 A B c) := .rfl
theorem st13_rd10 (c : Dev nD) : k0_pay18 (k0_pay17 (x2 A c) (w2 B c)) (dl1 A B c) = dp2 A B c := rfl
theorem get6_false (c : Dev nD) : (pay A B (6, false) c : sProp 𝕄) ⊢ any (F := F) c rc01 := .rfl
theorem get6_true (c : Dev nD) : (pay A B (6, true) c : sProp 𝕄) ⊢ ow c rc11 (bl1 A B c) := .rfl
theorem st15_rc11 (c : Dev nD) : k0_pay21 (k0_pay20 (k0_pay19 (x2 A c)) (w1 B c) (bl1 A B c)) = bp2 A B c := rfl
theorem get7_false (c : Dev nD) : (pay A B (7, false) c : sProp 𝕄) ⊢ any (F := F) c rd01 := .rfl
theorem get7_true (c : Dev nD) : (pay A B (7, true) c : sProp 𝕄) ⊢ ow c rd11 (el1 A B c) := .rfl
theorem st16_rd11 (c : Dev nD) : k0_pay23 (k0_pay22 (x2 A c) (w3 B c)) (el1 A B c) = ep2 A B c := rfl
theorem get8_false (c : Dev nD) : (pay A B (8, false) c : sProp 𝕄) ⊢ any (F := F) c rc10 := .rfl
theorem get8_true (c : Dev nD) : (pay A B (8, true) c : sProp 𝕄) ⊢ ow c rc20 (al2 A B c) := .rfl
theorem st18_oc0 (c : Dev nD) : k0_pay26 (k0_pay24 (x3 A c) (w0 B c)) (al2 A B c) = aow A B c := rfl
theorem get9_false (c : Dev nD) : (pay A B (9, false) c : sProp 𝕄) ⊢ any (F := F) c rd10 := .rfl
theorem get9_true (c : Dev nD) : (pay A B (9, true) c : sProp 𝕄) ⊢ ow c rd20 (dl2 A B c) := .rfl
theorem st19_od0 (c : Dev nD) : k0_pay30 (k0_pay28 (x1 A c) (w2 B c)) (dl2 A B c) = dow A B c := rfl
theorem get10_false (c : Dev nD) : (pay A B (10, false) c : sProp 𝕄) ⊢ any (F := F) c rc11 := .rfl
theorem get10_true (c : Dev nD) : (pay A B (10, true) c : sProp 𝕄) ⊢ ow c rc21 (bl2 A B c) := .rfl
theorem st20_oc1 (c : Dev nD) : k0_pay34 (k0_pay32 (x3 A c) (w1 B c)) (bl2 A B c) = bow A B c := rfl
theorem get11_false (c : Dev nD) : (pay A B (11, false) c : sProp 𝕄) ⊢ any (F := F) c rd11 := .rfl
theorem get11_true (c : Dev nD) : (pay A B (11, true) c : sProp 𝕄) ⊢ ow c rd21 (el2 A B c) := .rfl
theorem st21_od1 (c : Dev nD) : k0_pay38 (k0_pay36 (x1 A c) (w3 B c)) (el2 A B c) = eow A B c := rfl
theorem st22_am0 (c : Dev nD) : k0_pay40 (k0_pay27 (k0_pay24 (x3 A c) (w0 B c)) (al2 A B c)) (k0_pay31 (k0_pay28 (x1 A c) (w2 B c)) (dl2 A B c)) (k0_pay35 (k0_pay32 (x3 A c) (w1 B c)) (bl2 A B c)) (k0_pay39 (k0_pay36 (x1 A c) (w3 B c)) (el2 A B c)) = tile A B c := rfl
theorem get12_false (c : Dev nD) : (pay A B (12, false) c : sProp 𝕄) ⊢ owns (c : Thread nD τ) am0 fullShare.left (tile A B c) := .rfl
theorem get12_true (c : Dev nD) : (pay A B (12, true) c : sProp 𝕄) ⊢ ow c am3 (tl3 A B c) := .rfl
theorem get13_false (c : Dev nD) : (pay A B (13, false) c : sProp 𝕄) ⊢ owns (c : Thread nD τ) am0 fullShare.right.left (tile A B c) := .rfl
theorem get13_true (c : Dev nD) : (pay A B (13, true) c : sProp 𝕄) ⊢ ow c am1 (tl1 A B c) := .rfl
theorem get14_false (c : Dev nD) : (pay A B (14, false) c : sProp 𝕄) ⊢ owns (c : Thread nD τ) am0 fullShare.right.right (tile A B c) := .rfl
theorem get14_true (c : Dev nD) : (pay A B (14, true) c : sProp 𝕄) ⊢ ow c am2 (tl2 A B c) := .rfl
theorem st25_sm0 (c : Dev nD) : (fun _ : S1x1.Idx => (k0_pay42 (tiles A B c) : Elt F .f32)) = fun _ => scl A B c := rfl
theorem st26_ycl (c : Dev nD) : k0_pay46 (k0_pay45 (tiles A B c) (aow A B c)) = qa A B c := rfl
theorem st26_ydl (c : Dev nD) : k0_pay47 (k0_pay44 (tiles A B c) (dow A B c)) = qd A B c := rfl
theorem st26_ycr (c : Dev nD) : k0_pay48 (k0_pay43 (tiles A B c)) (bow A B c) = qb A B c := rfl
theorem st27_ydr (c : Dev nD) : k0_pay50 (k0_pay49 (k0_pay43 (tiles A B c)) (eow A B c)) = qe A B c := rfl
theorem get15_false (c : Dev nD) : (pay A B (15, false) c : sProp 𝕄) ⊢ ow c yc0 (yL0 A B c) := .rfl
theorem get15_true (c : Dev nD) : (pay A B (15, true) c : sProp 𝕄) ⊢ ow c yc1 (yL1 A B c) := .rfl
theorem get16_false (c : Dev nD) : (pay A B (16, false) c : sProp 𝕄) ⊢ ow c yd0 (yR0 A B c) := .rfl
theorem get16_true (c : Dev nD) : (pay A B (16, true) c : sProp 𝕄) ⊢ ow c yd1 (yR1 A B c) := .rfl
theorem get17_false (c : Dev nD) : (pay A B (17, false) c : sProp 𝕄) ⊢ ow c yc1 (yL1 A B c) := .rfl
theorem get17_true (c : Dev nD) : (pay A B (17, true) c : sProp 𝕄) ⊢ ow c yc2 (yL2 A B c) := .rfl
theorem get18_false (c : Dev nD) : (pay A B (18, false) c : sProp 𝕄) ⊢ ow c yd1 (yR1 A B c) := .rfl
theorem get18_true (c : Dev nD) : (pay A B (18, true) c : sProp 𝕄) ⊢ ow c yd2 (yR2 A B c) := .rfl
theorem get19_false (c : Dev nD) : (pay A B (19, false) c : sProp 𝕄) ⊢ ow c yc2 (yL2 A B c) := .rfl
theorem get19_true (c : Dev nD) : (pay A B (19, true) c : sProp 𝕄) ⊢ ow c yc3 (yL3 A B c) := .rfl
theorem get20_false (c : Dev nD) : (pay A B (20, false) c : sProp 𝕄) ⊢ ow c yd2 (yR2 A B c) := .rfl
theorem get20_true (c : Dev nD) : (pay A B (20, true) c : sProp 𝕄) ⊢ ow c yd3 (yR3 A B c) := .rfl

end Cert.KernelIdeal.Talk
-- ==== Proof.Part1.lean ====
/- One stretch of the body after another: what it takes and what it leaves. -/
module

public import proofs.«01_k».proof.Proof.Gets

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

theorem part1_run (c : Dev nD) (Q : (Σ' (d0 : Dev nD) (v2 : BitVec 32) (v4 : BitVec 32) (v7 : BitVec 32) (v23 : FVec F S1024x1024 .bf16), FVec F S1024x512 .bf16) → sProp 𝕄) :
    iprop(recs A B K ∗ reached ER (barCell (nx c)) 0 ∗ reached ER (barCell (pv c)) 0 ∗ dutyTok ER (barCell (pv c)) 0 false ∗ barPayF (F := F) (pv c) ∗ (∃ W : Waits sig Unit, owes (c : Thread nD τ) (O₀ c) W) ∗ dutyTok ER (barCell (nx c)) 0 true ∗ barPayT (F := F) (nx c) ∗ cred (tallyAt (barCell c) () 2) ∗ atPos ER (barCell c) 0 ∅ 0 ∗ ow c (Memref.whole cc0_stg0_0) (A c) ∗ ow c (Memref.whole cc0_stg1_0) (B c) ∗ any (F := F) c sc0
      ∗ (∀ v2, ∀ v4, ∀ v7, (dbt (F := F) c 0 ∗ barPayF (F := F) c ∗ barPayT (F := F) c ∗ semVal (barCell c) 0 ∗ ow c (Memref.whole cc0_stg0_0) (A c) ∗ ow c (Memref.whole cc0_stg1_0) (B c) ∗ ow c sc0 (ap0 A B c)) -∗ Q ⟨c, v2, v4, v7, k0_pay2 (x0 A c), k0_pay3 (w2 B c)⟩))
    ⊢ wp frame (wpE (defs₀ (F := F)) 𝒱₀ c none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 ) Q := by
  rw [k0_part1_eq_skeleton]
  unfold k0_part1_skel
  refine .trans ?_ (Entails.of_eq (wp_deviceId ..).symm)
  iintro ⟨#HR, #Hbn, #Hbp, HbL, HpL, HO, HbR, HpR, Hbc, Hba, HX, HW, Hsc0, Hk⟩
  iapply (wp_sigL A B K c (devL c) rfl) $$ [HbL HpL HO]
  · isplitr; · iexact HR
    isplitr; · iexact Hbp
    isplitl [HbL]; · iexact HbL
    isplitl [HpL]; · iexact HpL
    iexact HO
  iintro HO
  iapply (wp_sigR A B K c (devR c) rfl) $$ [HbR HpR HO]
  · isplitr; · iexact HR
    isplitr; · iexact Hbn
    isplitl [HbR]; · iexact HbR
    isplitl [HpR]; · iexact HpR
    iexact HO
  iintro HO
  iapply (wp_meet A B K c rfl) $$ [Hbc Hba HO]
  · isplitr; · iexact HR
    isplitl [Hbc]; · iexact Hbc
    isplitl [Hba]; · iexact Hba
    iexact HO
  iintro ⟨HpF, HpT, Hbz, HO⟩
  iapply (wp_load_at 𝒱₀ (c : Thread nD τ) none (x0 A c) rfl) $$ HX
  iintro HX
  iapply (wp_load_at 𝒱₀ (c : Thread nD τ) none (w0 B c) rfl) $$ HW
  iintro HW
  ihave Hsc0 := (any_ex (F := F) c sc0) $$ Hsc0
  icases Hsc0 with ⟨%X1, Hsc0⟩
  iapply (wp_load_slice 𝒱₀ (c : Thread nD τ) none (m := Memref.whole cc0_scratch2) (hr := fun _ => rfl)) $$ Hsc0
  iintro Hsc0
  iapply (wp_store_at 𝒱₀ (c : Thread nD τ) none (m := Memref.whole cc0_scratch2) (hr := fun _ => rfl) (ap0 A B c) (st1_sc0 A B c)) $$ Hsc0
  iintro Hsc0
  iapply (wp_load_at 𝒱₀ (c : Thread nD τ) none (x0 A c) rfl) $$ HX
  iintro HX
  iapply (wp_load_at 𝒱₀ (c : Thread nD τ) none (w2 B c) rfl) $$ HW
  iintro HW
  iapply (wp_done c)
  iapply Hk
  isplitl [HO]; · iexact HO
  isplitl [HpF]; · iexact HpF
  isplitl [HpT]; · iexact HpT
  isplitl [Hbz]; · iexact Hbz
  isplitl [HX]; · iexact HX
  isplitl [HW]; · iexact HW
  iexact Hsc0

theorem part2_run (c : Dev nD) (v4 v7 : BitVec 32) (Q : (PUnit) → sProp 𝕄) :
    iprop(recs A B K ∗ rch (F := F) c ∗ rch (F := F) (nx c) ∗ rch (F := F) (pv c) ∗ any (F := F) c sd0 ∗ ow c sc0 (ap0 A B c) ∗ any (F := F) (nx c) rc00 ∗ tok (F := F) 0 c ∗ dbt (F := F) c 0 ∗ any (F := F) (pv c) rd00 ∗ tok (F := F) 1 c ∗ any (F := F) (nx c) am2
      ∗ ((dbt (F := F) c 2 ∗ wt (F := F) (0, false) c ∗ wt (F := F) (1, false) c) -∗ Q ⟨⟩))
    ⊢ wp frame (wpE (defs₀ (F := F)) 𝒱₀ c none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4 v7 (k0_pay2 (x0 A c)) (k0_pay3 (w2 B c))) Q := by
  rw [k0_part2_eq_skeleton]
  unfold k0_part2_skel
  iintro ⟨#HR, #HCc, #HCn, #HCp, Hsd0, Hsc0, Hnrc00, Ht0, HO, Hprd00, Ht1, Hnam2, Hk⟩
  ihave Hsd0 := (any_ex (F := F) c sd0) $$ Hsd0
  icases Hsd0 with ⟨%X1, Hsd0⟩
  iapply (wp_load_slice 𝒱₀ (c : Thread nD τ) none (m := Memref.whole cc0_scratch3) (hr := fun _ => rfl)) $$ Hsd0
  iintro Hsd0
  iapply (wp_store_at 𝒱₀ (c : Thread nD τ) none (m := Memref.whole cc0_scratch3) (hr := fun _ => rfl) (dp0 A B c) (st2_sd0 A B c)) $$ Hsd0
  iintro Hsd0
  iapply (wp_send A B K 0 c (ms := sc0) (md := rc00) (X := ap0 A B c) (up4 (ap0 A B c)) (recast_recast _ _ _) (dev0 c) rfl rfl rfl (ow_any _ _ _) (land0 A B c)) $$ [Ht0 Hsc0 Hnrc00 HO]
  · isplitr; · iexact HR
    isplitr; · iexact HCc
    isplitr; · iexact HCn
    isplitl [Ht0]; · iexact Ht0
    isplitl [Hsc0]; · iexact Hsc0
    isplitl [Hnrc00]; · iexact Hnrc00
    iexact HO
  iintro ⟨Hw0s, HO⟩
  iapply (wp_sendR A B K 1 c (ms := sd0) (md := rd00) (X := dp0 A B c) (up4 (dp0 A B c)) _ (recast_recast _ _ _) (dev1 c) rfl rfl rfl (ow_any _ _ _) (land1 A B c)) $$ [Ht1 Hsd0 Hprd00 Hnam2 HO]
  · isplitr; · iexact HR
    isplitr; · iexact HCc
    isplitr; · iexact HCp
    isplitl [Ht1]; · iexact Ht1
    isplitl [Hsd0]; · iexact Hsd0
    isplitl [Hprd00]; · iexact Hprd00
    isplitl [Hnam2]
    · isplitl [Hnam2]; · iexact Hnam2
      iexact HCn
    iexact HO
  iintro ⟨Hw1s, HO⟩
  iapply (wp_done c)
  iapply Hk
  isplitl [HO]; · iexact HO
  isplitl [Hw0s]; · iexact Hw0s
  iexact Hw1s

theorem part3_run (c : Dev nD) (v4 : BitVec 32) (Q : (PUnit) → sProp 𝕄) :
    iprop(recs A B K ∗ rch (F := F) c ∗ rch (F := F) (nx c) ∗ ow c (Memref.whole cc0_stg0_0) (A c) ∗ ow c (Memref.whole cc0_stg1_0) (B c) ∗ any (F := F) c sc1 ∗ any (F := F) c sd1 ∗ any (F := F) (nx c) rc01 ∗ tok (F := F) 2 c ∗ dbt (F := F) c 2
      ∗ ((ow c (Memref.whole cc0_stg0_0) (A c) ∗ ow c (Memref.whole cc0_stg1_0) (B c) ∗ ow c sd1 (ep0 A B c) ∗ dbt (F := F) c 3 ∗ wt (F := F) (2, false) c) -∗ Q ⟨⟩))
    ⊢ wp frame (wpE (defs₀ (F := F)) 𝒱₀ c none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4) Q := by
  rw [k0_part3_eq_skeleton]
  unfold k0_part3_skel
  iintro ⟨#HR, #HCc, #HCn, HX, HW, Hsc1, Hsd1, Hnrc01, Ht2, HO, Hk⟩
  iapply (wp_load_at 𝒱₀ (c : Thread nD τ) none (x0 A c) rfl) $$ HX
  iintro HX
  iapply (wp_load_at 𝒱₀ (c : Thread nD τ) none (w1 B c) rfl) $$ HW
  iintro HW
  ihave Hsc1 := (any_ex (F := F) c sc1) $$ Hsc1
  icases Hsc1 with ⟨%X1, Hsc1⟩
  iapply (wp_load_slice 𝒱₀ (c : Thread nD τ) none (m := Memref.whole cc0_scratch2) (hr := fun _ => rfl)) $$ Hsc1
  iintro Hsc1
  iapply (wp_store_at 𝒱₀ (c : Thread nD τ) none (m := Memref.whole cc0_scratch2) (hr := fun _ => rfl) (bp0 A B c) (st3_sc1 A B c)) $$ Hsc1
  iintro Hsc1
  iapply (wp_load_at 𝒱₀ (c : Thread nD τ) none (x0 A c) rfl) $$ HX
  iintro HX
  iapply (wp_load_at 𝒱₀ (c : Thread nD τ) none (w3 B c) rfl) $$ HW
  iintro HW
  ihave Hsd1 := (any_ex (F := F) c sd1) $$ Hsd1
  icases Hsd1 with ⟨%X2, Hsd1⟩
  iapply (wp_load_slice 𝒱₀ (c : Thread nD τ) none (m := Memref.whole cc0_scratch3) (hr := fun _ => rfl)) $$ Hsd1
  iintro Hsd1
  iapply (wp_store_at 𝒱₀ (c : Thread nD τ) none (m := Memref.whole cc0_scratch3) (hr := fun _ => rfl) (ep0 A B c) (st3_sd1 A B c)) $$ Hsd1
  iintro Hsd1
  iapply (wp_send A B K 2 c (ms := sc1) (md := rc01) (X := bp0 A B c) (up4 (bp0 A B c)) (recast_recast _ _ _) (dev2 c) rfl rfl rfl (ow_any _ _ _) (land2 A B c)) $$ [Ht2 Hsc1 Hnrc01 HO]
  · isplitr; · iexact HR
    isplitr; · iexact HCc
    isplitr; · iexact HCn
    isplitl [Ht2]; · iexact Ht2
    isplitl [Hsc1]; · iexact Hsc1
    isplitl [Hnrc01]; · iexact Hnrc01
    iexact HO
  iintro ⟨Hw2s, HO⟩
  iapply (wp_done c)
  iapply Hk
  isplitl [HX]; · iexact HX
  isplitl [HW]; · iexact HW
  isplitl [Hsd1]; · iexact Hsd1
  isplitl [HO]; · iexact HO
  iexact Hw2s

theorem part4_run (c : Dev nD) (v7 : BitVec 32) (Q : (FVec F S1024x512 .f32) → sProp 𝕄) :
    iprop(recs A B K ∗ rch (F := F) c ∗ rch (F := F) (pv c) ∗ ow c sd1 (ep0 A B c) ∗ any (F := F) (pv c) rd01 ∗ tok (F := F) 3 c ∗ dbt (F := F) c 3 ∗ ow c (Memref.whole cc0_stg0_0) (A c) ∗ ow c (Memref.whole cc0_stg1_0) (B c) ∗ wt (F := F) (0, false) c
      ∗ ((dbt (F := F) c 4 ∗ wt (F := F) (3, false) c ∗ ow c (Memref.whole cc0_stg0_0) (A c) ∗ ow c (Memref.whole cc0_stg1_0) (B c) ∗ zr (F := F) (0, false) c ∗ any (F := F) c sc0) -∗ Q (k0_pay7 (x1 A c) (w0 B c))))
    ⊢ wp frame (wpE (defs₀ (F := F)) 𝒱₀ c none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v7) Q := by
  rw [k0_part4_eq_skeleton]
  unfold k0_part4_skel
  iintro ⟨#HR, #HCc, #HCp, Hsd1, Hprd01, Ht3, HO, HX, HW, Hw0s, Hk⟩
  iapply (wp_send A B K 3 c (ms := sd1) (md := rd01) (X := ep0 A B c) (up4 (ep0 A B c)) (recast_recast _ _ _) (dev3 c) rfl rfl rfl (ow_any _ _ _) (land3 A B c)) $$ [Ht3 Hsd1 Hprd01 HO]
  · isplitr; · iexact HR
    isplitr; · iexact HCc
    isplitr; · iexact HCp
    isplitl [Ht3]; · iexact Ht3
    isplitl [Hsd1]; · iexact Hsd1
    isplitl [Hprd01]; · iexact Hprd01
    iexact HO
  iintro ⟨Hw3s, HO⟩
  iapply (wp_load_at 𝒱₀ (c : Thread nD τ) none (x1 A c) rfl) $$ HX
  iintro HX
  iapply (wp_load_at 𝒱₀ (c : Thread nD τ) none (w0 B c) rfl) $$ HW
  iintro HW
  iapply (wp_wait A B K (0, false) 4 c (src := (rc00.squeeze S1024x512 squeezes_S1x1x1024x512_S1024x512)) (dst := (sc0.squeeze S1024x512 squeezes_S1x1024x512_S1024x512)) rfl rfl (by decide)) $$ [Hw0s HO]
  · isplitr; · iexact HR
    isplitl [Hw0s]; · iexact Hw0s
    iexact HO
  iintro ⟨Hp, Hz0s, HO⟩
  ihave Hsc0 := (get0_false A B c) $$ Hp
  iapply (wp_done c)
  iapply Hk
  isplitl [HO]; · iexact HO
  isplitl [Hw3s]; · iexact Hw3s
  isplitl [HX]; · iexact HX
  isplitl [HW]; · iexact HW
  isplitl [Hz0s]; · iexact Hz0s
  iexact Hsc0

theorem part5_run (c : Dev nD) (v4 : BitVec 32) (Q : (PUnit) → sProp 𝕄) :
    iprop(recs A B K ∗ rch (F := F) c ∗ rch (F := F) (nx c) ∗ wt (F := F) (0, true) c ∗ dbt (F := F) c 4 ∗ any (F := F) (nx c) rc10 ∗ tok (F := F) 4 c
      ∗ ((dbt (F := F) c 5 ∗ zr (F := F) (0, true) c ∗ wt (F := F) (4, false) c) -∗ Q ⟨⟩))
    ⊢ wp frame (wpE (defs₀ (F := F)) 𝒱₀ c none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4 (k0_pay7 (x1 A c) (w0 B c))) Q := by
  rw [k0_part5_eq_skeleton]
  unfold k0_part5_skel
  iintro ⟨#HR, #HCc, #HCn, Hw0r, HO, Hnrc10, Ht4, Hk⟩
  iapply (wp_wait A B K (0, true) 4 c (src := (sc0.squeeze S1024x512 squeezes_S1x1024x512_S1024x512)) (dst := (rc00.squeeze S1024x512 squeezes_S1x1x1024x512_S1024x512)) rfl rfl (by decide)) $$ [Hw0r HO]
  · isplitr; · iexact HR
    isplitl [Hw0r]; · iexact Hw0r
    iexact HO
  iintro ⟨Hp, Hz0r, HO⟩
  ihave Hrc00 := (get0_true A B c) $$ Hp
  iapply (wp_load_slice 𝒱₀ (c : Thread nD τ) none (m := Memref.whole cc0_scratch0) (hr := fun _ => rfl)) $$ Hrc00
  iintro Hrc00
  iapply (wp_load_slice 𝒱₀ (c : Thread nD τ) none (m := Memref.whole cc0_scratch0) (hr := fun _ => rfl)) $$ Hrc00
  iintro Hrc00
  iapply (wp_store_at 𝒱₀ (c : Thread nD τ) none (m := Memref.whole cc0_scratch0) (hr := fun _ => rfl) (ap1 A B c) (st5_rc00 A B c)) $$ Hrc00
  iintro Hrc00
  iapply (wp_send A B K 4 c (ms := rc00) (md := rc10) (X := ap1 A B c) (ap1 A B c) rfl (dev4 c) rfl rfl rfl (ow_any _ _ _) (land4 A B c)) $$ [Ht4 Hrc00 Hnrc10 HO]
  · isplitr; · iexact HR
    isplitr; · iexact HCc
    isplitr; · iexact HCn
    isplitl [Ht4]; · iexact Ht4
    isplitl [Hrc00]; · iexact Hrc00
    isplitl [Hnrc10]; · iexact Hnrc10
    iexact HO
  iintro ⟨Hw4s, HO⟩
  iapply (wp_done c)
  iapply Hk
  isplitl [HO]; · iexact HO
  isplitl [Hz0r]; · iexact Hz0r
  iexact Hw4s

theorem part6_run (c : Dev nD) (v7 : BitVec 32) (Q : (FVec F S1024x512 .bf16) → sProp 𝕄) :
    iprop(recs A B K ∗ ow c (Memref.whole cc0_stg0_0) (A c) ∗ ow c (Memref.whole cc0_stg1_0) (B c) ∗ wt (F := F) (1, false) c ∗ dbt (F := F) c 5 ∗ wt (F := F) (1, true) c
      ∗ ((ow c (Memref.whole cc0_stg0_0) (A c) ∗ ow c (Memref.whole cc0_stg1_0) (B c) ∗ dbt (F := F) c 5 ∗ zr (F := F) (1, false) c ∗ any (F := F) c sd0 ∗ zr (F := F) (1, true) c ∗ ow c rd00 (dl0 A B c) ∗ any (F := F) (op c) am2 ∗ rch (F := F) (op c)) -∗ Q (k0_pay9 (x3 A c) (w2 B c) (dl0 A B c))))
    ⊢ wp frame (wpE (defs₀ (F := F)) 𝒱₀ c none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v7) Q := by
  rw [k0_part6_eq_skeleton]
  unfold k0_part6_skel
  iintro ⟨#HR, HX, HW, Hw1s, HO, Hw1r, Hk⟩
  iapply (wp_load_at 𝒱₀ (c : Thread nD τ) none (x3 A c) rfl) $$ HX
  iintro HX
  iapply (wp_load_at 𝒱₀ (c : Thread nD τ) none (w2 B c) rfl) $$ HW
  iintro HW
  iapply (wp_wait A B K (1, false) 5 c (src := (rd00.squeeze S1024x512 squeezes_S1x1x1024x512_S1024x512)) (dst := (sd0.squeeze S1024x512 squeezes_S1x1024x512_S1024x512)) rfl rfl (by decide)) $$ [Hw1s HO]
  · isplitr; · iexact HR
    isplitl [Hw1s]; · iexact Hw1s
    iexact HO
  iintro ⟨Hp, Hz1s, HO⟩
  ihave Hsd0 := (get1_false A B c) $$ Hp
  iapply (wp_wait A B K (1, true) 5 c (src := (sd0.squeeze S1024x512 squeezes_S1x1024x512_S1024x512)) (dst := (rd00.squeeze S1024x512 squeezes_S1x1x1024x512_S1024x512)) rfl rfl (by decide)) $$ [Hw1r HO]
  · isplitr; · iexact HR
    isplitl [Hw1r]; · iexact Hw1r
    iexact HO
  iintro ⟨Hp, Hz1r, HO⟩
  ihave Hrd00 := (get1_true A B c) $$ Hp
  icases Hrd00 with ⟨Hrd00, Hoam2, #HCo⟩
  iapply (wp_load_slice 𝒱₀ (c : Thread nD τ) none (m := Memref.whole cc0_scratch1) (hr := fun _ => rfl)) $$ Hrd00
  iintro Hrd00
  iapply (wp_done c)
  iapply Hk
  isplitl [HX]; · iexact HX
  isplitl [HW]; · iexact HW
  isplitl [HO]; · iexact HO
  isplitl [Hz1s]; · iexact Hz1s
  isplitl [Hsd0]; · iexact Hsd0
  isplitl [Hz1r]; · iexact Hz1r
  isplitl [Hrd00]; · iexact Hrd00
  isplitl [Hoam2]; · iexact Hoam2
  iexact HCo

theorem part7_run (c : Dev nD) (v7 : BitVec 32) (Q : (FVec F S1024x512 .f32) → sProp 𝕄) :
    iprop(recs A B K ∗ rch (F := F) c ∗ rch (F := F) (pv c) ∗ ow c rd00 (dl0 A B c) ∗ any (F := F) (pv c) rd10 ∗ tok (F := F) 5 c ∗ dbt (F := F) c 5 ∗ ow c (Memref.whole cc0_stg0_0) (A c) ∗ ow c (Memref.whole cc0_stg1_0) (B c)
      ∗ ((dbt (F := F) c 6 ∗ wt (F := F) (5, false) c ∗ ow c (Memref.whole cc0_stg0_0) (A c) ∗ ow c (Memref.whole cc0_stg1_0) (B c)) -∗ Q (k0_pay11 (x1 A c) (w1 B c))))
    ⊢ wp frame (wpE (defs₀ (F := F)) 𝒱₀ c none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v7 (k0_pay9 (x3 A c) (w2 B c) (dl0 A B c))) Q := by
  rw [k0_part7_eq_skeleton]
  unfold k0_part7_skel
  iintro ⟨#HR, #HCc, #HCp, Hrd00, Hprd10, Ht5, HO, HX, HW, Hk⟩
  iapply (wp_load_slice 𝒱₀ (c : Thread nD τ) none (m := Memref.whole cc0_scratch1) (hr := fun _ => rfl)) $$ Hrd00
  iintro Hrd00
  iapply (wp_store_at 𝒱₀ (c : Thread nD τ) none (m := Memref.whole cc0_scratch1) (hr := fun _ => rfl) (dp1 A B c) (st7_rd00 A B c)) $$ Hrd00
  iintro Hrd00
  iapply (wp_send A B K 5 c (ms := rd00) (md := rd10) (X := dp1 A B c) (dp1 A B c) rfl (dev5 c) rfl rfl rfl (ow_any _ _ _) (land5 A B c)) $$ [Ht5 Hrd00 Hprd10 HO]
  · isplitr; · iexact HR
    isplitr; · iexact HCc
    isplitr; · iexact HCp
    isplitl [Ht5]; · iexact Ht5
    isplitl [Hrd00]; · iexact Hrd00
    isplitl [Hprd10]; · iexact Hprd10
    iexact HO
  iintro ⟨Hw5s, HO⟩
  iapply (wp_load_at 𝒱₀ (c : Thread nD τ) none (x1 A c) rfl) $$ HX
  iintro HX
  iapply (wp_load_at 𝒱₀ (c : Thread nD τ) none (w1 B c) rfl) $$ HW
  iintro HW
  iapply (wp_done c)
  iapply Hk
  isplitl [HO]; · iexact HO
  isplitl [Hw5s]; · iexact Hw5s
  isplitl [HX]; · iexact HX
  iexact HW

end Cert.KernelIdeal.Talk
-- ==== Proof.Part2.lean ====
/- One stretch of the body after another: what it takes and what it leaves. -/
module

public import proofs.«01_k».proof.Proof.Gets

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

theorem part8_run (c : Dev nD) (v4 : BitVec 32) (Q : (PUnit) → sProp 𝕄) :
    iprop(recs A B K ∗ wt (F := F) (2, false) c ∗ dbt (F := F) c 6 ∗ wt (F := F) (2, true) c
      ∗ ((dbt (F := F) c 6 ∗ zr (F := F) (2, false) c ∗ any (F := F) c sc1 ∗ zr (F := F) (2, true) c ∗ ow c rc01 (bp1 A B c)) -∗ Q ⟨⟩))
    ⊢ wp frame (wpE (defs₀ (F := F)) 𝒱₀ c none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v4 (k0_pay11 (x1 A c) (w1 B c))) Q := by
  rw [k0_part8_eq_skeleton]
  unfold k0_part8_skel
  iintro ⟨#HR, Hw2s, HO, Hw2r, Hk⟩
  iapply (wp_wait A B K (2, false) 6 c (src := (rc01.squeeze S1024x512 squeezes_S1x1x1024x512_S1024x512)) (dst := (sc1.squeeze S1024x512 squeezes_S1x1024x512_S1024x512)) rfl rfl (by decide)) $$ [Hw2s HO]
  · isplitr; · iexact HR
    isplitl [Hw2s]; · iexact Hw2s
    iexact HO
  iintro ⟨Hp, Hz2s, HO⟩
  ihave Hsc1 := (get2_false A B c) $$ Hp
  iapply (wp_wait A B K (2, true) 6 c (src := (sc1.squeeze S1024x512 squeezes_S1x1024x512_S1024x512)) (dst := (rc01.squeeze S1024x512 squeezes_S1x1x1024x512_S1024x512)) rfl rfl (by decide)) $$ [Hw2r HO]
  · isplitr; · iexact HR
    isplitl [Hw2r]; · iexact Hw2r
    iexact HO
  iintro ⟨Hp, Hz2r, HO⟩
  ihave Hrc01 := (get2_true A B c) $$ Hp
  iapply (wp_load_slice 𝒱₀ (c : Thread nD τ) none (m := Memref.whole cc0_scratch0) (hr := fun _ => rfl)) $$ Hrc01
  iintro Hrc01
  iapply (wp_load_slice 𝒱₀ (c : Thread nD τ) none (m := Memref.whole cc0_scratch0) (hr := fun _ => rfl)) $$ Hrc01
  iintro Hrc01
  iapply (wp_store_at 𝒱₀ (c : Thread nD τ) none (m := Memref.whole cc0_scratch0) (hr := fun _ => rfl) (bp1 A B c) (st8_rc01 A B c)) $$ Hrc01
  iintro Hrc01
  iapply (wp_done c)
  iapply Hk
  isplitl [HO]; · iexact HO
  isplitl [Hz2s]; · iexact Hz2s
  isplitl [Hsc1]; · iexact Hsc1
  isplitl [Hz2r]; · iexact Hz2r
  iexact Hrc01

theorem part9_run (c : Dev nD) (v7 : BitVec 32) (Q : (FVec F S1024x512 .f32) → sProp 𝕄) :
    iprop(recs A B K ∗ rch (F := F) c ∗ rch (F := F) (nx c) ∗ ow c rc01 (bp1 A B c) ∗ any (F := F) (nx c) rc11 ∗ tok (F := F) 6 c ∗ dbt (F := F) c 6 ∗ ow c (Memref.whole cc0_stg0_0) (A c) ∗ ow c (Memref.whole cc0_stg1_0) (B c) ∗ wt (F := F) (3, false) c ∗ wt (F := F) (3, true) c
      ∗ ((dbt (F := F) c 7 ∗ wt (F := F) (6, false) c ∗ ow c (Memref.whole cc0_stg0_0) (A c) ∗ ow c (Memref.whole cc0_stg1_0) (B c) ∗ zr (F := F) (3, false) c ∗ any (F := F) c sd1 ∗ zr (F := F) (3, true) c ∗ ow c rd01 (el0 A B c)) -∗ Q (k0_pay13 (x3 A c) (w3 B c))))
    ⊢ wp frame (wpE (defs₀ (F := F)) 𝒱₀ c none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v7) Q := by
  rw [k0_part9_eq_skeleton]
  unfold k0_part9_skel
  iintro ⟨#HR, #HCc, #HCn, Hrc01, Hnrc11, Ht6, HO, HX, HW, Hw3s, Hw3r, Hk⟩
  iapply (wp_send A B K 6 c (ms := rc01) (md := rc11) (X := bp1 A B c) (bp1 A B c) rfl (dev6 c) rfl rfl rfl (ow_any _ _ _) (land6 A B c)) $$ [Ht6 Hrc01 Hnrc11 HO]
  · isplitr; · iexact HR
    isplitr; · iexact HCc
    isplitr; · iexact HCn
    isplitl [Ht6]; · iexact Ht6
    isplitl [Hrc01]; · iexact Hrc01
    isplitl [Hnrc11]; · iexact Hnrc11
    iexact HO
  iintro ⟨Hw6s, HO⟩
  iapply (wp_load_at 𝒱₀ (c : Thread nD τ) none (x3 A c) rfl) $$ HX
  iintro HX
  iapply (wp_load_at 𝒱₀ (c : Thread nD τ) none (w3 B c) rfl) $$ HW
  iintro HW
  iapply (wp_wait A B K (3, false) 7 c (src := (rd01.squeeze S1024x512 squeezes_S1x1x1024x512_S1024x512)) (dst := (sd1.squeeze S1024x512 squeezes_S1x1024x512_S1024x512)) rfl rfl (by decide)) $$ [Hw3s HO]
  · isplitr; · iexact HR
    isplitl [Hw3s]; · iexact Hw3s
    iexact HO
  iintro ⟨Hp, Hz3s, HO⟩
  ihave Hsd1 := (get3_false A B c) $$ Hp
  iapply (wp_wait A B K (3, true) 7 c (src := (sd1.squeeze S1024x512 squeezes_S1x1024x512_S1024x512)) (dst := (rd01.squeeze S1024x512 squeezes_S1x1x1024x512_S1024x512)) rfl rfl (by decide)) $$ [Hw3r HO]
  · isplitr; · iexact HR
    isplitl [Hw3r]; · iexact Hw3r
    iexact HO
  iintro ⟨Hp, Hz3r, HO⟩
  ihave Hrd01 := (get3_true A B c) $$ Hp
  iapply (wp_done c)
  iapply Hk
  isplitl [HO]; · iexact HO
  isplitl [Hw6s]; · iexact Hw6s
  isplitl [HX]; · iexact HX
  isplitl [HW]; · iexact HW
  isplitl [Hz3s]; · iexact Hz3s
  isplitl [Hsd1]; · iexact Hsd1
  isplitl [Hz3r]; · iexact Hz3r
  iexact Hrd01

theorem part10_run (c : Dev nD) (v7 : BitVec 32) (Q : (FVec F S1024x512 .f32) → sProp 𝕄) :
    iprop(recs A B K ∗ rch (F := F) c ∗ rch (F := F) (pv c) ∗ ow c rd01 (el0 A B c) ∗ any (F := F) (pv c) rd11 ∗ tok (F := F) 7 c ∗ dbt (F := F) c 7 ∗ ow c (Memref.whole cc0_stg0_0) (A c) ∗ ow c (Memref.whole cc0_stg1_0) (B c)
      ∗ ((dbt (F := F) c 8 ∗ wt (F := F) (7, false) c ∗ ow c (Memref.whole cc0_stg0_0) (A c) ∗ ow c (Memref.whole cc0_stg1_0) (B c)) -∗ Q (k0_pay15 (x2 A c) (w0 B c))))
    ⊢ wp frame (wpE (defs₀ (F := F)) 𝒱₀ c none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v7 (k0_pay13 (x3 A c) (w3 B c))) Q := by
  rw [k0_part10_eq_skeleton]
  unfold k0_part10_skel
  iintro ⟨#HR, #HCc, #HCp, Hrd01, Hprd11, Ht7, HO, HX, HW, Hk⟩
  iapply (wp_load_slice 𝒱₀ (c : Thread nD τ) none (m := Memref.whole cc0_scratch1) (hr := fun _ => rfl)) $$ Hrd01
  iintro Hrd01
  iapply (wp_load_slice 𝒱₀ (c : Thread nD τ) none (m := Memref.whole cc0_scratch1) (hr := fun _ => rfl)) $$ Hrd01
  iintro Hrd01
  iapply (wp_store_at 𝒱₀ (c : Thread nD τ) none (m := Memref.whole cc0_scratch1) (hr := fun _ => rfl) (ep1 A B c) (st10_rd01 A B c)) $$ Hrd01
  iintro Hrd01
  iapply (wp_send A B K 7 c (ms := rd01) (md := rd11) (X := ep1 A B c) (ep1 A B c) rfl (dev7 c) rfl rfl rfl (ow_any _ _ _) (land7 A B c)) $$ [Ht7 Hrd01 Hprd11 HO]
  · isplitr; · iexact HR
    isplitr; · iexact HCc
    isplitr; · iexact HCp
    isplitl [Ht7]; · iexact Ht7
    isplitl [Hrd01]; · iexact Hrd01
    isplitl [Hprd11]; · iexact Hprd11
    iexact HO
  iintro ⟨Hw7s, HO⟩
  iapply (wp_load_at 𝒱₀ (c : Thread nD τ) none (x2 A c) rfl) $$ HX
  iintro HX
  iapply (wp_load_at 𝒱₀ (c : Thread nD τ) none (w0 B c) rfl) $$ HW
  iintro HW
  iapply (wp_done c)
  iapply Hk
  isplitl [HO]; · iexact HO
  isplitl [Hw7s]; · iexact Hw7s
  isplitl [HX]; · iexact HX
  iexact HW

theorem part11_run (c : Dev nD) (v4 : BitVec 32) (Q : (BitVec 32) → sProp 𝕄) :
    iprop(recs A B K ∗ wt (F := F) (4, false) c ∗ dbt (F := F) c 8 ∗ wt (F := F) (4, true) c
      ∗ ((dbt (F := F) c 8 ∗ zr (F := F) (4, false) c ∗ any (F := F) c rc00 ∗ zr (F := F) (4, true) c ∗ ow c rc10 (ap2 A B c)) -∗ Q 1#32))
    ⊢ wp frame (wpE (defs₀ (F := F)) 𝒱₀ c none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v4 (k0_pay15 (x2 A c) (w0 B c))) Q := by
  rw [k0_part11_eq_skeleton]
  unfold k0_part11_skel
  iintro ⟨#HR, Hw4s, HO, Hw4r, Hk⟩
  iapply (wp_wait A B K (4, false) 8 c (src := (rc10.squeeze S1024x512 squeezes_S1x1x1024x512_S1024x512)) (dst := (rc00.squeeze S1024x512 squeezes_S1x1x1024x512_S1024x512)) rfl rfl (by decide)) $$ [Hw4s HO]
  · isplitr; · iexact HR
    isplitl [Hw4s]; · iexact Hw4s
    iexact HO
  iintro ⟨Hp, Hz4s, HO⟩
  ihave Hrc00 := (get4_false A B c) $$ Hp
  iapply (wp_wait A B K (4, true) 8 c (src := (rc00.squeeze S1024x512 squeezes_S1x1x1024x512_S1024x512)) (dst := (rc10.squeeze S1024x512 squeezes_S1x1x1024x512_S1024x512)) rfl rfl (by decide)) $$ [Hw4r HO]
  · isplitr; · iexact HR
    isplitl [Hw4r]; · iexact Hw4r
    iexact HO
  iintro ⟨Hp, Hz4r, HO⟩
  ihave Hrc10 := (get4_true A B c) $$ Hp
  iapply (wp_load_slice 𝒱₀ (c : Thread nD τ) none (m := Memref.whole cc0_scratch0) (hr := fun _ => rfl)) $$ Hrc10
  iintro Hrc10
  iapply (wp_load_slice 𝒱₀ (c : Thread nD τ) none (m := Memref.whole cc0_scratch0) (hr := fun _ => rfl)) $$ Hrc10
  iintro Hrc10
  iapply (wp_store_at 𝒱₀ (c : Thread nD τ) none (m := Memref.whole cc0_scratch0) (hr := fun _ => rfl) (ap2 A B c) (st11_rc10 A B c)) $$ Hrc10
  iintro Hrc10
  iapply (wp_done c)
  iapply Hk
  isplitl [HO]; · iexact HO
  isplitl [Hz4s]; · iexact Hz4s
  isplitl [Hrc00]; · iexact Hrc00
  isplitl [Hz4r]; · iexact Hz4r
  iexact Hrc10

theorem part12_run (c : Dev nD) (v4 v7 v0 : BitVec 32) (Q : (FVec F S1024x512 .f32) → sProp 𝕄) :
    iprop(recs A B K ∗ rch (F := F) c ∗ rch (F := F) (nx c) ∗ ow c rc10 (ap2 A B c) ∗ any (F := F) (nx c) rc20 ∗ tok (F := F) 8 c ∗ dbt (F := F) c 8 ∗ ow c (Memref.whole cc0_stg0_0) (A c) ∗ ow c (Memref.whole cc0_stg1_0) (B c) ∗ wt (F := F) (5, false) c
      ∗ ((dbt (F := F) c 9 ∗ wt (F := F) (8, false) c ∗ ow c (Memref.whole cc0_stg0_0) (A c) ∗ ow c (Memref.whole cc0_stg1_0) (B c) ∗ zr (F := F) (5, false) c ∗ any (F := F) c rd00) -∗ Q (k0_pay17 (x2 A c) (w2 B c))))
    ⊢ wp frame (wpE (defs₀ (F := F)) 𝒱₀ c none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4 v7 v0) Q := by
  rw [k0_part12_eq_skeleton]
  unfold k0_part12_skel
  iintro ⟨#HR, #HCc, #HCn, Hrc10, Hnrc20, Ht8, HO, HX, HW, Hw5s, Hk⟩
  iapply (wp_send A B K 8 c (ms := rc10) (md := rc20) (X := ap2 A B c) (ap2 A B c) rfl (dev8 c) rfl rfl rfl (ow_any _ _ _) (land8 A B c)) $$ [Ht8 Hrc10 Hnrc20 HO]
  · isplitr; · iexact HR
    isplitr; · iexact HCc
    isplitr; · iexact HCn
    isplitl [Ht8]; · iexact Ht8
    isplitl [Hrc10]; · iexact Hrc10
    isplitl [Hnrc20]; · iexact Hnrc20
    iexact HO
  iintro ⟨Hw8s, HO⟩
  iapply (wp_load_at 𝒱₀ (c : Thread nD τ) none (x2 A c) rfl) $$ HX
  iintro HX
  iapply (wp_load_at 𝒱₀ (c : Thread nD τ) none (w2 B c) rfl) $$ HW
  iintro HW
  iapply (wp_wait A B K (5, false) 9 c (src := (rd10.squeeze S1024x512 squeezes_S1x1x1024x512_S1024x512)) (dst := (rd00.squeeze S1024x512 squeezes_S1x1x1024x512_S1024x512)) rfl rfl (by decide)) $$ [Hw5s HO]
  · isplitr; · iexact HR
    isplitl [Hw5s]; · iexact Hw5s
    iexact HO
  iintro ⟨Hp, Hz5s, HO⟩
  ihave Hrd00 := (get5_false A B c) $$ Hp
  iapply (wp_done c)
  iapply Hk
  isplitl [HO]; · iexact HO
  isplitl [Hw8s]; · iexact Hw8s
  isplitl [HX]; · iexact HX
  isplitl [HW]; · iexact HW
  isplitl [Hz5s]; · iexact Hz5s
  iexact Hrd00

theorem part13_run (c : Dev nD) (v7 : BitVec 32) (Q : (Σ' (v312 : FVec F S1024x1024 .bf16), Vec F S1024x512 .bf16) → sProp 𝕄) :
    iprop(recs A B K ∗ rch (F := F) c ∗ rch (F := F) (pv c) ∗ wt (F := F) (5, true) c ∗ dbt (F := F) c 9 ∗ any (F := F) (pv c) rd20 ∗ tok (F := F) 9 c ∗ ow c (Memref.whole cc0_stg0_0) (A c) ∗ ow c (Memref.whole cc0_stg1_0) (B c)
      ∗ ((dbt (F := F) c 10 ∗ zr (F := F) (5, true) c ∗ wt (F := F) (9, false) c ∗ ow c (Memref.whole cc0_stg0_0) (A c) ∗ ow c (Memref.whole cc0_stg1_0) (B c)) -∗ Q ⟨(k0_pay19 (x2 A c)), (w1 B c)⟩))
    ⊢ wp frame (wpE (defs₀ (F := F)) 𝒱₀ c none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v7 (k0_pay17 (x2 A c) (w2 B c))) Q := by
  rw [k0_part13_eq_skeleton]
  unfold k0_part13_skel
  iintro ⟨#HR, #HCc, #HCp, Hw5r, HO, Hprd20, Ht9, HX, HW, Hk⟩
  iapply (wp_wait A B K (5, true) 9 c (src := (rd00.squeeze S1024x512 squeezes_S1x1x1024x512_S1024x512)) (dst := (rd10.squeeze S1024x512 squeezes_S1x1x1024x512_S1024x512)) rfl rfl (by decide)) $$ [Hw5r HO]
  · isplitr; · iexact HR
    isplitl [Hw5r]; · iexact Hw5r
    iexact HO
  iintro ⟨Hp, Hz5r, HO⟩
  ihave Hrd10 := (get5_true A B c) $$ Hp
  iapply (wp_load_slice 𝒱₀ (c : Thread nD τ) none (m := Memref.whole cc0_scratch1) (hr := fun _ => rfl)) $$ Hrd10
  iintro Hrd10
  iapply (wp_load_slice 𝒱₀ (c : Thread nD τ) none (m := Memref.whole cc0_scratch1) (hr := fun _ => rfl)) $$ Hrd10
  iintro Hrd10
  iapply (wp_store_at 𝒱₀ (c : Thread nD τ) none (m := Memref.whole cc0_scratch1) (hr := fun _ => rfl) (dp2 A B c) (st13_rd10 A B c)) $$ Hrd10
  iintro Hrd10
  iapply (wp_send A B K 9 c (ms := rd10) (md := rd20) (X := dp2 A B c) (dp2 A B c) rfl (dev9 c) rfl rfl rfl (ow_any _ _ _) (land9 A B c)) $$ [Ht9 Hrd10 Hprd20 HO]
  · isplitr; · iexact HR
    isplitr; · iexact HCc
    isplitr; · iexact HCp
    isplitl [Ht9]; · iexact Ht9
    isplitl [Hrd10]; · iexact Hrd10
    isplitl [Hprd20]; · iexact Hprd20
    iexact HO
  iintro ⟨Hw9s, HO⟩
  iapply (wp_load_at 𝒱₀ (c : Thread nD τ) none (x2 A c) rfl) $$ HX
  iintro HX
  iapply (wp_load_at 𝒱₀ (c : Thread nD τ) none (w1 B c) rfl) $$ HW
  iintro HW
  iapply (wp_done c)
  iapply Hk
  isplitl [HO]; · iexact HO
  isplitl [Hz5r]; · iexact Hz5r
  isplitl [Hw9s]; · iexact Hw9s
  isplitl [HX]; · iexact HX
  iexact HW

end Cert.KernelIdeal.Talk
-- ==== Proof.Part3.lean ====
/- One stretch of the body after another: what it takes and what it leaves. -/
module

public import proofs.«01_k».proof.Proof.Gets

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

theorem part14_run (c : Dev nD) (v4 : BitVec 32) (Q : (Σ' (v334 : FVec F S1024x512 .bf16), Vec F S1x1x1024x512 .bf16) → sProp 𝕄) :
    iprop(recs A B K ∗ wt (F := F) (6, false) c ∗ dbt (F := F) c 10 ∗ wt (F := F) (6, true) c
      ∗ ((dbt (F := F) c 10 ∗ zr (F := F) (6, false) c ∗ any (F := F) c rc01 ∗ zr (F := F) (6, true) c ∗ ow c rc11 (bl1 A B c)) -∗ Q ⟨(k0_pay20 (k0_pay19 (x2 A c)) (w1 B c) (bl1 A B c)), (bl1 A B c)⟩))
    ⊢ wp frame (wpE (defs₀ (F := F)) 𝒱₀ c none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v4 (k0_pay19 (x2 A c)) (w1 B c)) Q := by
  rw [k0_part14_eq_skeleton]
  unfold k0_part14_skel
  iintro ⟨#HR, Hw6s, HO, Hw6r, Hk⟩
  iapply (wp_wait A B K (6, false) 10 c (src := (rc11.squeeze S1024x512 squeezes_S1x1x1024x512_S1024x512)) (dst := (rc01.squeeze S1024x512 squeezes_S1x1x1024x512_S1024x512)) rfl rfl (by decide)) $$ [Hw6s HO]
  · isplitr; · iexact HR
    isplitl [Hw6s]; · iexact Hw6s
    iexact HO
  iintro ⟨Hp, Hz6s, HO⟩
  ihave Hrc01 := (get6_false A B c) $$ Hp
  iapply (wp_wait A B K (6, true) 10 c (src := (rc01.squeeze S1024x512 squeezes_S1x1x1024x512_S1024x512)) (dst := (rc11.squeeze S1024x512 squeezes_S1x1x1024x512_S1024x512)) rfl rfl (by decide)) $$ [Hw6r HO]
  · isplitr; · iexact HR
    isplitl [Hw6r]; · iexact Hw6r
    iexact HO
  iintro ⟨Hp, Hz6r, HO⟩
  ihave Hrc11 := (get6_true A B c) $$ Hp
  iapply (wp_load_slice 𝒱₀ (c : Thread nD τ) none (m := Memref.whole cc0_scratch0) (hr := fun _ => rfl)) $$ Hrc11
  iintro Hrc11
  iapply (wp_load_slice 𝒱₀ (c : Thread nD τ) none (m := Memref.whole cc0_scratch0) (hr := fun _ => rfl)) $$ Hrc11
  iintro Hrc11
  iapply (wp_done c)
  iapply Hk
  isplitl [HO]; · iexact HO
  isplitl [Hz6s]; · iexact Hz6s
  isplitl [Hrc01]; · iexact Hrc01
  isplitl [Hz6r]; · iexact Hz6r
  iexact Hrc11

theorem part15_run (c : Dev nD) (v4 : BitVec 32) (Q : (FVec F S1024x512 .f32) → sProp 𝕄) :
    iprop(recs A B K ∗ rch (F := F) c ∗ rch (F := F) (nx c) ∗ ow c rc11 (bl1 A B c) ∗ any (F := F) (nx c) rc21 ∗ tok (F := F) 10 c ∗ dbt (F := F) c 10 ∗ ow c (Memref.whole cc0_stg0_0) (A c) ∗ ow c (Memref.whole cc0_stg1_0) (B c) ∗ wt (F := F) (7, false) c
      ∗ ((dbt (F := F) c 11 ∗ wt (F := F) (10, false) c ∗ ow c (Memref.whole cc0_stg0_0) (A c) ∗ ow c (Memref.whole cc0_stg1_0) (B c) ∗ zr (F := F) (7, false) c ∗ any (F := F) c rd01) -∗ Q (k0_pay22 (x2 A c) (w3 B c))))
    ⊢ wp frame (wpE (defs₀ (F := F)) 𝒱₀ c none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4 (k0_pay20 (k0_pay19 (x2 A c)) (w1 B c) (bl1 A B c)) (bl1 A B c)) Q := by
  rw [k0_part15_eq_skeleton]
  unfold k0_part15_skel
  iintro ⟨#HR, #HCc, #HCn, Hrc11, Hnrc21, Ht10, HO, HX, HW, Hw7s, Hk⟩
  iapply (wp_store_at 𝒱₀ (c : Thread nD τ) none (m := Memref.whole cc0_scratch0) (hr := fun _ => rfl) (bp2 A B c) (st15_rc11 A B c)) $$ Hrc11
  iintro Hrc11
  iapply (wp_send A B K 10 c (ms := rc11) (md := rc21) (X := bp2 A B c) (bp2 A B c) rfl (dev10 c) rfl rfl rfl (ow_any _ _ _) (land10 A B c)) $$ [Ht10 Hrc11 Hnrc21 HO]
  · isplitr; · iexact HR
    isplitr; · iexact HCc
    isplitr; · iexact HCn
    isplitl [Ht10]; · iexact Ht10
    isplitl [Hrc11]; · iexact Hrc11
    isplitl [Hnrc21]; · iexact Hnrc21
    iexact HO
  iintro ⟨Hw10s, HO⟩
  iapply (wp_load_at 𝒱₀ (c : Thread nD τ) none (x2 A c) rfl) $$ HX
  iintro HX
  iapply (wp_load_at 𝒱₀ (c : Thread nD τ) none (w3 B c) rfl) $$ HW
  iintro HW
  iapply (wp_wait A B K (7, false) 11 c (src := (rd11.squeeze S1024x512 squeezes_S1x1x1024x512_S1024x512)) (dst := (rd01.squeeze S1024x512 squeezes_S1x1x1024x512_S1024x512)) rfl rfl (by decide)) $$ [Hw7s HO]
  · isplitr; · iexact HR
    isplitl [Hw7s]; · iexact Hw7s
    iexact HO
  iintro ⟨Hp, Hz7s, HO⟩
  ihave Hrd01 := (get7_false A B c) $$ Hp
  iapply (wp_done c)
  iapply Hk
  isplitl [HO]; · iexact HO
  isplitl [Hw10s]; · iexact Hw10s
  isplitl [HX]; · iexact HX
  isplitl [HW]; · iexact HW
  isplitl [Hz7s]; · iexact Hz7s
  iexact Hrd01

theorem part16_run (c : Dev nD) (v7 : BitVec 32) (Q : (PUnit) → sProp 𝕄) :
    iprop(recs A B K ∗ wt (F := F) (7, true) c ∗ dbt (F := F) c 11
      ∗ ((dbt (F := F) c 11 ∗ zr (F := F) (7, true) c ∗ ow c rd11 (ep2 A B c)) -∗ Q ⟨⟩))
    ⊢ wp frame (wpE (defs₀ (F := F)) 𝒱₀ c none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v7 (k0_pay22 (x2 A c) (w3 B c))) Q := by
  rw [k0_part16_eq_skeleton]
  unfold k0_part16_skel
  iintro ⟨#HR, Hw7r, HO, Hk⟩
  iapply (wp_wait A B K (7, true) 11 c (src := (rd01.squeeze S1024x512 squeezes_S1x1x1024x512_S1024x512)) (dst := (rd11.squeeze S1024x512 squeezes_S1x1x1024x512_S1024x512)) rfl rfl (by decide)) $$ [Hw7r HO]
  · isplitr; · iexact HR
    isplitl [Hw7r]; · iexact Hw7r
    iexact HO
  iintro ⟨Hp, Hz7r, HO⟩
  ihave Hrd11 := (get7_true A B c) $$ Hp
  iapply (wp_load_slice 𝒱₀ (c : Thread nD τ) none (m := Memref.whole cc0_scratch1) (hr := fun _ => rfl)) $$ Hrd11
  iintro Hrd11
  iapply (wp_load_slice 𝒱₀ (c : Thread nD τ) none (m := Memref.whole cc0_scratch1) (hr := fun _ => rfl)) $$ Hrd11
  iintro Hrd11
  iapply (wp_store_at 𝒱₀ (c : Thread nD τ) none (m := Memref.whole cc0_scratch1) (hr := fun _ => rfl) (ep2 A B c) (st16_rd11 A B c)) $$ Hrd11
  iintro Hrd11
  iapply (wp_done c)
  iapply Hk
  isplitl [HO]; · iexact HO
  isplitl [Hz7r]; · iexact Hz7r
  iexact Hrd11

theorem part17_run (c : Dev nD) (v4 : BitVec 32) (Q : (FVec F S1024x512 .f32) → sProp 𝕄) :
    iprop(recs A B K ∗ rch (F := F) c ∗ rch (F := F) (pv c) ∗ ow c rd11 (ep2 A B c) ∗ any (F := F) (pv c) rd21 ∗ tok (F := F) 11 c ∗ dbt (F := F) c 11 ∗ ow c (Memref.whole cc0_stg0_0) (A c) ∗ ow c (Memref.whole cc0_stg1_0) (B c) ∗ wt (F := F) (8, false) c ∗ wt (F := F) (8, true) c
      ∗ ((dbt (F := F) c 12 ∗ wt (F := F) (11, false) c ∗ ow c (Memref.whole cc0_stg0_0) (A c) ∗ ow c (Memref.whole cc0_stg1_0) (B c) ∗ zr (F := F) (8, false) c ∗ any (F := F) c rc10 ∗ zr (F := F) (8, true) c ∗ ow c rc20 (al2 A B c)) -∗ Q (k0_pay24 (x3 A c) (w0 B c))))
    ⊢ wp frame (wpE (defs₀ (F := F)) 𝒱₀ c none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4) Q := by
  rw [k0_part17_eq_skeleton]
  unfold k0_part17_skel
  iintro ⟨#HR, #HCc, #HCp, Hrd11, Hprd21, Ht11, HO, HX, HW, Hw8s, Hw8r, Hk⟩
  iapply (wp_send A B K 11 c (ms := rd11) (md := rd21) (X := ep2 A B c) (ep2 A B c) rfl (dev11 c) rfl rfl rfl (ow_any _ _ _) (land11 A B c)) $$ [Ht11 Hrd11 Hprd21 HO]
  · isplitr; · iexact HR
    isplitr; · iexact HCc
    isplitr; · iexact HCp
    isplitl [Ht11]; · iexact Ht11
    isplitl [Hrd11]; · iexact Hrd11
    isplitl [Hprd21]; · iexact Hprd21
    iexact HO
  iintro ⟨Hw11s, HO⟩
  iapply (wp_load_at 𝒱₀ (c : Thread nD τ) none (x3 A c) rfl) $$ HX
  iintro HX
  iapply (wp_load_at 𝒱₀ (c : Thread nD τ) none (w0 B c) rfl) $$ HW
  iintro HW
  iapply (wp_wait A B K (8, false) 12 c (src := (rc20.squeeze S1024x512 squeezes_S1x1x1024x512_S1024x512)) (dst := (rc10.squeeze S1024x512 squeezes_S1x1x1024x512_S1024x512)) rfl rfl (by decide)) $$ [Hw8s HO]
  · isplitr; · iexact HR
    isplitl [Hw8s]; · iexact Hw8s
    iexact HO
  iintro ⟨Hp, Hz8s, HO⟩
  ihave Hrc10 := (get8_false A B c) $$ Hp
  iapply (wp_wait A B K (8, true) 12 c (src := (rc10.squeeze S1024x512 squeezes_S1x1x1024x512_S1024x512)) (dst := (rc20.squeeze S1024x512 squeezes_S1x1x1024x512_S1024x512)) rfl rfl (by decide)) $$ [Hw8r HO]
  · isplitr; · iexact HR
    isplitl [Hw8r]; · iexact Hw8r
    iexact HO
  iintro ⟨Hp, Hz8r, HO⟩
  ihave Hrc20 := (get8_true A B c) $$ Hp
  iapply (wp_done c)
  iapply Hk
  isplitl [HO]; · iexact HO
  isplitl [Hw11s]; · iexact Hw11s
  isplitl [HX]; · iexact HX
  isplitl [HW]; · iexact HW
  isplitl [Hz8s]; · iexact Hz8s
  isplitl [Hrc10]; · iexact Hrc10
  isplitl [Hz8r]; · iexact Hz8r
  iexact Hrc20

theorem part18_run (c : Dev nD) (v7 : BitVec 32) (Q : (Σ' (v414 : F .f32) (v419 : FVec F S1024x512 .f32) (v426 : BitVec 32), BitVec 32) → sProp 𝕄) :
    iprop(recs A B K ∗ ow c rc20 (al2 A B c) ∗ any (F := F) c oc0 ∗ ow c (Memref.whole cc0_stg0_0) (A c) ∗ ow c (Memref.whole cc0_stg1_0) (B c) ∗ wt (F := F) (9, false) c ∗ dbt (F := F) c 12
      ∗ (∀ v426, (ow c rc20 (al2 A B c) ∗ ow c oc0 (aow A B c) ∗ ow c (Memref.whole cc0_stg0_0) (A c) ∗ ow c (Memref.whole cc0_stg1_0) (B c) ∗ dbt (F := F) c 12 ∗ zr (F := F) (9, false) c ∗ any (F := F) c rd10) -∗ Q ⟨(k0_pay27 (k0_pay24 (x3 A c) (w0 B c)) (al2 A B c)), (k0_pay28 (x1 A c) (w2 B c)), v426, 0#32⟩))
    ⊢ wp frame (wpE (defs₀ (F := F)) 𝒱₀ c none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v7 (k0_pay24 (x3 A c) (w0 B c))) Q := by
  rw [k0_part18_eq_skeleton]
  unfold k0_part18_skel
  iintro ⟨#HR, Hrc20, Hoc0, HX, HW, Hw9s, HO, Hk⟩
  iapply (wp_load_slice 𝒱₀ (c : Thread nD τ) none (m := Memref.whole cc0_scratch0) (hr := fun _ => rfl)) $$ Hrc20
  iintro Hrc20
  ihave Hoc0 := (any_ex (F := F) c oc0) $$ Hoc0
  icases Hoc0 with ⟨%X1, Hoc0⟩
  iapply (wp_load_slice 𝒱₀ (c : Thread nD τ) none (m := Memref.whole cc0_scratch4) (hr := fun _ => rfl)) $$ Hoc0
  iintro Hoc0
  iapply (wp_store_at 𝒱₀ (c : Thread nD τ) none (m := Memref.whole cc0_scratch4) (hr := fun _ => rfl) (aow A B c) (st18_oc0 A B c)) $$ Hoc0
  iintro Hoc0
  iapply (wp_load_at 𝒱₀ (c : Thread nD τ) none (x1 A c) rfl) $$ HX
  iintro HX
  iapply (wp_load_at 𝒱₀ (c : Thread nD τ) none (w2 B c) rfl) $$ HW
  iintro HW
  iapply (wp_wait A B K (9, false) 12 c (src := (rd20.squeeze S1024x512 squeezes_S1x1x1024x512_S1024x512)) (dst := (rd10.squeeze S1024x512 squeezes_S1x1x1024x512_S1024x512)) rfl rfl (by decide)) $$ [Hw9s HO]
  · isplitr; · iexact HR
    isplitl [Hw9s]; · iexact Hw9s
    iexact HO
  iintro ⟨Hp, Hz9s, HO⟩
  ihave Hrd10 := (get9_false A B c) $$ Hp
  iapply (wp_done c)
  iapply Hk
  isplitl [Hrc20]; · iexact Hrc20
  isplitl [Hoc0]; · iexact Hoc0
  isplitl [HX]; · iexact HX
  isplitl [HW]; · iexact HW
  isplitl [HO]; · iexact HO
  isplitl [Hz9s]; · iexact Hz9s
  iexact Hrd10

theorem part19_run (c : Dev nD) (v426 v0 : BitVec 32) (Q : (Σ' (v444 : F .f32), FVec F S1024x512 .f32) → sProp 𝕄) :
    iprop(recs A B K ∗ wt (F := F) (9, true) c ∗ dbt (F := F) c 12 ∗ any (F := F) c od0 ∗ ow c (Memref.whole cc0_stg0_0) (A c) ∗ ow c (Memref.whole cc0_stg1_0) (B c)
      ∗ ((dbt (F := F) c 12 ∗ zr (F := F) (9, true) c ∗ ow c rd20 (dl2 A B c) ∗ ow c od0 (dow A B c) ∗ ow c (Memref.whole cc0_stg0_0) (A c) ∗ ow c (Memref.whole cc0_stg1_0) (B c)) -∗ Q ⟨(k0_pay31 (k0_pay28 (x1 A c) (w2 B c)) (dl2 A B c)), (k0_pay32 (x3 A c) (w1 B c))⟩))
    ⊢ wp frame (wpE (defs₀ (F := F)) 𝒱₀ c none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 (k0_pay28 (x1 A c) (w2 B c)) v426 v0) Q := by
  rw [k0_part19_eq_skeleton]
  unfold k0_part19_skel
  iintro ⟨#HR, Hw9r, HO, Hod0, HX, HW, Hk⟩
  iapply (wp_wait A B K (9, true) 12 c (src := (rd10.squeeze S1024x512 squeezes_S1x1x1024x512_S1024x512)) (dst := (rd20.squeeze S1024x512 squeezes_S1x1x1024x512_S1024x512)) rfl rfl (by decide)) $$ [Hw9r HO]
  · isplitr; · iexact HR
    isplitl [Hw9r]; · iexact Hw9r
    iexact HO
  iintro ⟨Hp, Hz9r, HO⟩
  ihave Hrd20 := (get9_true A B c) $$ Hp
  iapply (wp_load_slice 𝒱₀ (c : Thread nD τ) none (m := Memref.whole cc0_scratch1) (hr := fun _ => rfl)) $$ Hrd20
  iintro Hrd20
  ihave Hod0 := (any_ex (F := F) c od0) $$ Hod0
  icases Hod0 with ⟨%X1, Hod0⟩
  iapply (wp_load_slice 𝒱₀ (c : Thread nD τ) none (m := Memref.whole cc0_scratch5) (hr := fun _ => rfl)) $$ Hod0
  iintro Hod0
  iapply (wp_store_at 𝒱₀ (c : Thread nD τ) none (m := Memref.whole cc0_scratch5) (hr := fun _ => rfl) (dow A B c) (st19_od0 A B c)) $$ Hod0
  iintro Hod0
  iapply (wp_load_at 𝒱₀ (c : Thread nD τ) none (x3 A c) rfl) $$ HX
  iintro HX
  iapply (wp_load_at 𝒱₀ (c : Thread nD τ) none (w1 B c) rfl) $$ HW
  iintro HW
  iapply (wp_done c)
  iapply Hk
  isplitl [HO]; · iexact HO
  isplitl [Hz9r]; · iexact Hz9r
  isplitl [Hrd20]; · iexact Hrd20
  isplitl [Hod0]; · iexact Hod0
  isplitl [HX]; · iexact HX
  iexact HW

end Cert.KernelIdeal.Talk
-- ==== Proof.Part4.lean ====
/- One stretch of the body after another: what it takes and what it leaves. -/
module

public import proofs.«01_k».proof.Proof.Gets

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

theorem part20_run (c : Dev nD) (v4 : BitVec 32) (Q : (Σ' (v474 : F .f32), FVec F S1024x512 .f32) → sProp 𝕄) :
    iprop(recs A B K ∗ wt (F := F) (10, false) c ∗ dbt (F := F) c 12 ∗ wt (F := F) (10, true) c ∗ any (F := F) c oc1 ∗ ow c (Memref.whole cc0_stg0_0) (A c) ∗ ow c (Memref.whole cc0_stg1_0) (B c)
      ∗ ((dbt (F := F) c 12 ∗ zr (F := F) (10, false) c ∗ any (F := F) c rc11 ∗ zr (F := F) (10, true) c ∗ ow c rc21 (bl2 A B c) ∗ ow c oc1 (bow A B c) ∗ ow c (Memref.whole cc0_stg0_0) (A c) ∗ ow c (Memref.whole cc0_stg1_0) (B c)) -∗ Q ⟨(k0_pay35 (k0_pay32 (x3 A c) (w1 B c)) (bl2 A B c)), (k0_pay36 (x1 A c) (w3 B c))⟩))
    ⊢ wp frame (wpE (defs₀ (F := F)) 𝒱₀ c none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v4 (k0_pay32 (x3 A c) (w1 B c))) Q := by
  rw [k0_part20_eq_skeleton]
  unfold k0_part20_skel
  iintro ⟨#HR, Hw10s, HO, Hw10r, Hoc1, HX, HW, Hk⟩
  iapply (wp_wait A B K (10, false) 12 c (src := (rc21.squeeze S1024x512 squeezes_S1x1x1024x512_S1024x512)) (dst := (rc11.squeeze S1024x512 squeezes_S1x1x1024x512_S1024x512)) rfl rfl (by decide)) $$ [Hw10s HO]
  · isplitr; · iexact HR
    isplitl [Hw10s]; · iexact Hw10s
    iexact HO
  iintro ⟨Hp, Hz10s, HO⟩
  ihave Hrc11 := (get10_false A B c) $$ Hp
  iapply (wp_wait A B K (10, true) 12 c (src := (rc11.squeeze S1024x512 squeezes_S1x1x1024x512_S1024x512)) (dst := (rc21.squeeze S1024x512 squeezes_S1x1x1024x512_S1024x512)) rfl rfl (by decide)) $$ [Hw10r HO]
  · isplitr; · iexact HR
    isplitl [Hw10r]; · iexact Hw10r
    iexact HO
  iintro ⟨Hp, Hz10r, HO⟩
  ihave Hrc21 := (get10_true A B c) $$ Hp
  iapply (wp_load_slice 𝒱₀ (c : Thread nD τ) none (m := Memref.whole cc0_scratch0) (hr := fun _ => rfl)) $$ Hrc21
  iintro Hrc21
  ihave Hoc1 := (any_ex (F := F) c oc1) $$ Hoc1
  icases Hoc1 with ⟨%X1, Hoc1⟩
  iapply (wp_load_slice 𝒱₀ (c : Thread nD τ) none (m := Memref.whole cc0_scratch4) (hr := fun _ => rfl)) $$ Hoc1
  iintro Hoc1
  iapply (wp_store_at 𝒱₀ (c : Thread nD τ) none (m := Memref.whole cc0_scratch4) (hr := fun _ => rfl) (bow A B c) (st20_oc1 A B c)) $$ Hoc1
  iintro Hoc1
  iapply (wp_load_at 𝒱₀ (c : Thread nD τ) none (x1 A c) rfl) $$ HX
  iintro HX
  iapply (wp_load_at 𝒱₀ (c : Thread nD τ) none (w3 B c) rfl) $$ HW
  iintro HW
  iapply (wp_done c)
  iapply Hk
  isplitl [HO]; · iexact HO
  isplitl [Hz10s]; · iexact Hz10s
  isplitl [Hrc11]; · iexact Hrc11
  isplitl [Hz10r]; · iexact Hz10r
  isplitl [Hrc21]; · iexact Hrc21
  isplitl [Hoc1]; · iexact Hoc1
  isplitl [HX]; · iexact HX
  iexact HW

theorem part21_run (c : Dev nD) (v7 : BitVec 32) (Q : (F .f32) → sProp 𝕄) :
    iprop(recs A B K ∗ wt (F := F) (11, false) c ∗ dbt (F := F) c 12 ∗ wt (F := F) (11, true) c ∗ any (F := F) c od1
      ∗ ((dbt (F := F) c 12 ∗ zr (F := F) (11, false) c ∗ any (F := F) c rd11 ∗ zr (F := F) (11, true) c ∗ ow c rd21 (el2 A B c) ∗ ow c od1 (eow A B c)) -∗ Q (k0_pay39 (k0_pay36 (x1 A c) (w3 B c)) (el2 A B c))))
    ⊢ wp frame (wpE (defs₀ (F := F)) 𝒱₀ c none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v7 (k0_pay36 (x1 A c) (w3 B c))) Q := by
  rw [k0_part21_eq_skeleton]
  unfold k0_part21_skel
  iintro ⟨#HR, Hw11s, HO, Hw11r, Hod1, Hk⟩
  iapply (wp_wait A B K (11, false) 12 c (src := (rd21.squeeze S1024x512 squeezes_S1x1x1024x512_S1024x512)) (dst := (rd11.squeeze S1024x512 squeezes_S1x1x1024x512_S1024x512)) rfl rfl (by decide)) $$ [Hw11s HO]
  · isplitr; · iexact HR
    isplitl [Hw11s]; · iexact Hw11s
    iexact HO
  iintro ⟨Hp, Hz11s, HO⟩
  ihave Hrd11 := (get11_false A B c) $$ Hp
  iapply (wp_wait A B K (11, true) 12 c (src := (rd11.squeeze S1024x512 squeezes_S1x1x1024x512_S1024x512)) (dst := (rd21.squeeze S1024x512 squeezes_S1x1x1024x512_S1024x512)) rfl rfl (by decide)) $$ [Hw11r HO]
  · isplitr; · iexact HR
    isplitl [Hw11r]; · iexact Hw11r
    iexact HO
  iintro ⟨Hp, Hz11r, HO⟩
  ihave Hrd21 := (get11_true A B c) $$ Hp
  iapply (wp_load_slice 𝒱₀ (c : Thread nD τ) none (m := Memref.whole cc0_scratch1) (hr := fun _ => rfl)) $$ Hrd21
  iintro Hrd21
  ihave Hod1 := (any_ex (F := F) c od1) $$ Hod1
  icases Hod1 with ⟨%X1, Hod1⟩
  iapply (wp_load_slice 𝒱₀ (c : Thread nD τ) none (m := Memref.whole cc0_scratch5) (hr := fun _ => rfl)) $$ Hod1
  iintro Hod1
  iapply (wp_store_at 𝒱₀ (c : Thread nD τ) none (m := Memref.whole cc0_scratch5) (hr := fun _ => rfl) (eow A B c) (st21_od1 A B c)) $$ Hod1
  iintro Hod1
  iapply (wp_done c)
  iapply Hk
  isplitl [HO]; · iexact HO
  isplitl [Hz11s]; · iexact Hz11s
  isplitl [Hrd11]; · iexact Hrd11
  isplitl [Hz11r]; · iexact Hz11r
  isplitl [Hrd21]; · iexact Hrd21
  iexact Hod1

theorem part22_run (c : Dev nD) (v2 v4 v7 : BitVec 32) (Q : (BitVec 32) → sProp 𝕄) :
    iprop(recs A B K ∗ rch (F := F) c ∗ rch (F := F) (nx c) ∗ rch (F := F) (pv c) ∗ any (F := F) c am0 ∗ any (F := F) (nx c) am3 ∗ tok (F := F) 12 c ∗ dbt (F := F) c 12 ∗ any (F := F) (pv c) am1 ∗ tok (F := F) 13 c
      ∗ (∀ v514, (owns (c : Thread nD τ) am0 fullShare.right.right (tile A B c) ∗ dbt (F := F) c 14 ∗ wt (F := F) (12, false) c ∗ wt (F := F) (13, false) c) -∗ Q v514))
    ⊢ wp frame (wpE (defs₀ (F := F)) 𝒱₀ c none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v2 v4 v7 (k0_pay27 (k0_pay24 (x3 A c) (w0 B c)) (al2 A B c)) (k0_pay31 (k0_pay28 (x1 A c) (w2 B c)) (dl2 A B c)) (k0_pay35 (k0_pay32 (x3 A c) (w1 B c)) (bl2 A B c)) (k0_pay39 (k0_pay36 (x1 A c) (w3 B c)) (el2 A B c))) Q := by
  rw [k0_part22_eq_skeleton]
  unfold k0_part22_skel
  iintro ⟨#HR, #HCc, #HCn, #HCp, Ham0, Hnam3, Ht12, HO, Hpam1, Ht13, Hk⟩
  ihave Ham0 := (any_ex (F := F) c am0) $$ Ham0
  icases Ham0 with ⟨%X1, Ham0⟩
  iapply (wp_load_slice 𝒱₀ (c : Thread nD τ) none (m := Memref.whole cc0_scratch6) (hr := fun _ => rfl)) $$ Ham0
  iintro Ham0
  iapply (wp_store_at 𝒱₀ (c : Thread nD τ) none (m := Memref.whole cc0_scratch6) (hr := fun _ => rfl) (tile A B c) (st22_am0 A B c)) $$ Ham0
  iintro Ham0
  ihave Ham0 := (owns_halves (c : Thread nD τ) am0 fullShare (tile A B c)).1 $$ Ham0
  icases Ham0 with ⟨Ham0a, Ham0⟩
  ihave Ham0 := (owns_halves (c : Thread nD τ) am0 fullShare.right (tile A B c)).1 $$ Ham0
  icases Ham0 with ⟨Ham0b, Ham0c⟩
  iapply (wp_send A B K 12 c (ms := am0) (md := am3) (X := tile A B c) (tile A B c) rfl (dev12 c) rfl rfl rfl .rfl (land12 A B c)) $$ [Ht12 Ham0a Hnam3 HO]
  · isplitr; · iexact HR
    isplitr; · iexact HCc
    isplitr; · iexact HCn
    isplitl [Ht12]; · iexact Ht12
    isplitl [Ham0a]; · iexact Ham0a
    isplitl [Hnam3]; · iexact Hnam3
    iexact HO
  iintro ⟨Hw12s, HO⟩
  iapply (wp_send A B K 13 c (ms := am0) (md := am1) (X := tile A B c) (tile A B c) rfl (dev13 c) rfl rfl rfl .rfl (land13 A B c)) $$ [Ht13 Ham0b Hpam1 HO]
  · isplitr; · iexact HR
    isplitr; · iexact HCc
    isplitr; · iexact HCp
    isplitl [Ht13]; · iexact Ht13
    isplitl [Ham0b]; · iexact Ham0b
    isplitl [Hpam1]; · iexact Hpam1
    iexact HO
  iintro ⟨Hw13s, HO⟩
  iapply (wp_done c)
  iapply Hk
  isplitl [Ham0c]; · iexact Ham0c
  isplitl [HO]; · iexact HO
  isplitl [Hw12s]; · iexact Hw12s
  iexact Hw13s

theorem part23_run (c : Dev nD) (v4 v514 : BitVec 32) (Q : (PUnit) → sProp 𝕄) :
    iprop(recs A B K ∗ rch (F := F) c ∗ rch (F := F) (op c) ∗ owns (c : Thread nD τ) am0 fullShare.right.right (tile A B c) ∗ any (F := F) (op c) am2 ∗ tok (F := F) 14 c ∗ dbt (F := F) c 14 ∗ wt (F := F) (12, false) c ∗ wt (F := F) (12, true) c
      ∗ ((dbt (F := F) c 15 ∗ wt (F := F) (14, false) c ∗ zr (F := F) (12, false) c ∗ owns (c : Thread nD τ) am0 fullShare.left (tile A B c) ∗ zr (F := F) (12, true) c ∗ ow c am3 (tl3 A B c)) -∗ Q ⟨⟩))
    ⊢ wp frame (wpE (defs₀ (F := F)) 𝒱₀ c none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4 v514) Q := by
  rw [k0_part23_eq_skeleton]
  unfold k0_part23_skel
  iintro ⟨#HR, #HCc, #HCo, Ham0c, Hoam2, Ht14, HO, Hw12s, Hw12r, Hk⟩
  iapply (wp_send A B K 14 c (ms := am0) (md := am2) (X := tile A B c) (tile A B c) rfl (dev14 c) rfl rfl rfl .rfl (land14 A B c)) $$ [Ht14 Ham0c Hoam2 HO]
  · isplitr; · iexact HR
    isplitr; · iexact HCc
    isplitr; · iexact HCo
    isplitl [Ht14]; · iexact Ht14
    isplitl [Ham0c]; · iexact Ham0c
    isplitl [Hoam2]; · iexact Hoam2
    iexact HO
  iintro ⟨Hw14s, HO⟩
  iapply (wp_wait A B K (12, false) 15 c (src := (am3.squeeze S8x128 squeezes_S1x8x128_S8x128)) (dst := (am0.squeeze S8x128 squeezes_S1x8x128_S8x128)) rfl rfl (by decide)) $$ [Hw12s HO]
  · isplitr; · iexact HR
    isplitl [Hw12s]; · iexact Hw12s
    iexact HO
  iintro ⟨Hp, Hz12s, HO⟩
  ihave Ham0a := (get12_false A B c) $$ Hp
  iapply (wp_wait A B K (12, true) 15 c (src := (am0.squeeze S8x128 squeezes_S1x8x128_S8x128)) (dst := (am3.squeeze S8x128 squeezes_S1x8x128_S8x128)) rfl rfl (by decide)) $$ [Hw12r HO]
  · isplitr; · iexact HR
    isplitl [Hw12r]; · iexact Hw12r
    iexact HO
  iintro ⟨Hp, Hz12r, HO⟩
  ihave Ham3 := (get12_true A B c) $$ Hp
  iapply (wp_done c)
  iapply Hk
  isplitl [HO]; · iexact HO
  isplitl [Hw14s]; · iexact Hw14s
  isplitl [Hz12s]; · iexact Hz12s
  isplitl [Ham0a]; · iexact Ham0a
  isplitl [Hz12r]; · iexact Hz12r
  iexact Ham3

theorem part24_run (c : Dev nD) (v7 v514 : BitVec 32) (Q : (PUnit) → sProp 𝕄) :
    iprop(recs A B K ∗ wt (F := F) (13, false) c ∗ dbt (F := F) c 15 ∗ wt (F := F) (13, true) c ∗ wt (F := F) (14, false) c
      ∗ ((dbt (F := F) c 15 ∗ zr (F := F) (13, false) c ∗ owns (c : Thread nD τ) am0 fullShare.right.left (tile A B c) ∗ zr (F := F) (13, true) c ∗ ow c am1 (tl1 A B c) ∗ zr (F := F) (14, false) c ∗ owns (c : Thread nD τ) am0 fullShare.right.right (tile A B c)) -∗ Q ⟨⟩))
    ⊢ wp frame (wpE (defs₀ (F := F)) 𝒱₀ c none) Set.univ (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v7 v514) Q := by
  rw [k0_part24_eq_skeleton]
  unfold k0_part24_skel
  iintro ⟨#HR, Hw13s, HO, Hw13r, Hw14s, Hk⟩
  iapply (wp_wait A B K (13, false) 15 c (src := (am1.squeeze S8x128 squeezes_S1x8x128_S8x128)) (dst := (am0.squeeze S8x128 squeezes_S1x8x128_S8x128)) rfl rfl (by decide)) $$ [Hw13s HO]
  · isplitr; · iexact HR
    isplitl [Hw13s]; · iexact Hw13s
    iexact HO
  iintro ⟨Hp, Hz13s, HO⟩
  ihave Ham0b := (get13_false A B c) $$ Hp
  iapply (wp_wait A B K (13, true) 15 c (src := (am0.squeeze S8x128 squeezes_S1x8x128_S8x128)) (dst := (am1.squeeze S8x128 squeezes_S1x8x128_S8x128)) rfl rfl (by decide)) $$ [Hw13r HO]
  · isplitr; · iexact HR
    isplitl [Hw13r]; · iexact Hw13r
    iexact HO
  iintro ⟨Hp, Hz13r, HO⟩
  ihave Ham1 := (get13_true A B c) $$ Hp
  iapply (wp_wait A B K (14, false) 15 c (src := (am2.squeeze S8x128 squeezes_S1x8x128_S8x128)) (dst := (am0.squeeze S8x128 squeezes_S1x8x128_S8x128)) rfl rfl (by decide)) $$ [Hw14s HO]
  · isplitr; · iexact HR
    isplitl [Hw14s]; · iexact Hw14s
    iexact HO
  iintro ⟨Hp, Hz14s, HO⟩
  ihave Ham0c := (get14_false A B c) $$ Hp
  iapply (wp_done c)
  iapply Hk
  isplitl [HO]; · iexact HO
  isplitl [Hz13s]; · iexact Hz13s
  isplitl [Ham0b]; · iexact Ham0b
  isplitl [Hz13r]; · iexact Hz13r
  isplitl [Ham1]; · iexact Ham1
  isplitl [Hz14s]; · iexact Hz14s
  iexact Ham0c

theorem part25_run (c : Dev nD) (Q : (Σ' (v593 : F .f32) (v616 : FVec F S1024x512 .f32), IVec S1024x512 8) → sProp 𝕄) :
    iprop(recs A B K ∗ wt (F := F) (14, true) c ∗ dbt (F := F) c 15 ∗ owns (c : Thread nD τ) am0 fullShare.left (tile A B c) ∗ owns (c : Thread nD τ) am0 fullShare.right.left (tile A B c) ∗ owns (c : Thread nD τ) am0 fullShare.right.right (tile A B c) ∗ ow c am1 (tl1 A B c) ∗ ow c am3 (tl3 A B c) ∗ any (F := F) c sm0 ∗ ow c oc0 (aow A B c) ∗ ow c od0 (dow A B c)
      ∗ ((dbt (F := F) c 15 ∗ zr (F := F) (14, true) c ∗ ow c (Memref.whole cc0_scratch6) (tiles A B c) ∗ ow c sm0 (fun _ => scl A B c) ∗ ow c oc0 (aow A B c) ∗ ow c od0 (dow A B c)) -∗ Q ⟨(k0_pay43 (tiles A B c)), (k0_pay44 (tiles A B c) (dow A B c)), (k0_pay45 (tiles A B c) (aow A B c))⟩))
    ⊢ wp frame (wpE (defs₀ (F := F)) 𝒱₀ c none) Set.univ (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 ) Q := by
  rw [k0_part25_eq_skeleton]
  unfold k0_part25_skel
  iintro ⟨#HR, Hw14r, HO, Ham0a, Ham0b, Ham0c, Ham1, Ham3, Hsm0, Hoc0, Hod0, Hk⟩
  iapply (wp_wait A B K (14, true) 15 c (src := (am0.squeeze S8x128 squeezes_S1x8x128_S8x128)) (dst := (am2.squeeze S8x128 squeezes_S1x8x128_S8x128)) rfl rfl (by decide)) $$ [Hw14r HO]
  · isplitr; · iexact HR
    isplitl [Hw14r]; · iexact Hw14r
    iexact HO
  iintro ⟨Hp, Hz14r, HO⟩
  ihave Ham2 := (get14_true A B c) $$ Hp
  ihave Ham0 := (owns_halves (c : Thread nD τ) am0 fullShare.right (tile A B c)).2 $$ [Ham0b Ham0c]
  · isplitl [Ham0b] <;> iassumption
  ihave Ham0 := (owns_halves (c : Thread nD τ) am0 fullShare (tile A B c)).2 $$ [Ham0a Ham0]
  · isplitl [Ham0a] <;> iassumption
  ihave Ham0 := (Entails.of_eq (congrArg (ow (F := F) c am0) (tile_eq A B c))) $$ Ham0
  ihave Ham := (put_am A B c) $$ [Ham0 Ham1 Ham2 Ham3]
  · isplitl [Ham0]; · iexact Ham0
    isplitl [Ham1]; · iexact Ham1
    isplitl [Ham2]; · iexact Ham2
    iexact Ham3
  iapply (wp_load_at 𝒱₀ (c : Thread nD τ) none (tiles A B c) (tiles_whole A B c)) $$ Ham
  iintro Ham
  ihave Hsm0 := (any_ex (F := F) c sm0) $$ Hsm0
  icases Hsm0 with ⟨%X1, Hsm0⟩
  iapply (wp_load_slice 𝒱₀ (c : Thread nD τ) none (m := Memref.whole cc0_stg4_0) (hr := fun _ => rfl)) $$ Hsm0
  iintro Hsm0
  iapply (wp_store_at 𝒱₀ (c : Thread nD τ) none (m := Memref.whole cc0_stg4_0) (hr := fun _ => rfl) (fun _ => scl A B c) (st25_sm0 A B c)) $$ Hsm0
  iintro Hsm0
  iapply (wp_load_slice 𝒱₀ (c : Thread nD τ) none (m := Memref.whole cc0_scratch4) (hr := fun _ => rfl)) $$ Hoc0
  iintro Hoc0
  iapply (wp_load_slice 𝒱₀ (c : Thread nD τ) none (m := Memref.whole cc0_scratch5) (hr := fun _ => rfl)) $$ Hod0
  iintro Hod0
  iapply (wp_done c)
  iapply Hk
  isplitl [HO]; · iexact HO
  isplitl [Hz14r]; · iexact Hz14r
  isplitl [Ham]; · iexact Ham
  isplitl [Hsm0]; · iexact Hsm0
  isplitl [Hoc0]; · iexact Hoc0
  iexact Hod0

end Cert.KernelIdeal.Talk
-- ==== Proof.Part5.lean ====
/- One stretch of the body after another: what it takes and what it leaves. -/
module

public import proofs.«01_k».proof.Proof.Gets

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

theorem part26_run (c : Dev nD) (Q : (IVec S1024x512 8) → sProp 𝕄) :
    iprop(recs A B K ∗ any (F := F) c ycl ∗ any (F := F) c ydl ∗ ow c oc1 (bow A B c) ∗ ow c od1 (eow A B c) ∗ any (F := F) c ycr ∗ any (F := F) c ydr
      ∗ ((ow c ycl (qa A B c) ∗ ow c ydl (qd A B c) ∗ ow c oc1 (bow A B c) ∗ ow c od1 (eow A B c) ∗ ow c ycr (qb A B c) ∗ any (F := F) c ydr) -∗ Q (k0_pay49 (k0_pay43 (tiles A B c)) (eow A B c))))
    ⊢ wp frame (wpE (defs₀ (F := F)) 𝒱₀ c none) Set.univ (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 (k0_pay43 (tiles A B c)) (k0_pay44 (tiles A B c) (dow A B c)) (k0_pay45 (tiles A B c) (aow A B c))) Q := by
  rw [k0_part26_eq_skeleton]
  unfold k0_part26_skel
  iintro ⟨#HR, Hycl, Hydl, Hoc1, Hod1, Hycr, Hydr, Hk⟩
  ihave Hycl := (any_ex (F := F) c ycl) $$ Hycl
  icases Hycl with ⟨%X1, Hycl⟩
  iapply (wp_load_slice 𝒱₀ (c : Thread nD τ) none (m := Memref.whole cc0_stg2_0) (hr := fun _ => rfl)) $$ Hycl
  iintro Hycl
  iapply (wp_store_at 𝒱₀ (c : Thread nD τ) none (m := Memref.whole cc0_stg2_0) (hr := fun _ => rfl) (qa A B c) (st26_ycl A B c)) $$ Hycl
  iintro Hycl
  ihave Hydl := (any_ex (F := F) c ydl) $$ Hydl
  icases Hydl with ⟨%X2, Hydl⟩
  iapply (wp_load_slice 𝒱₀ (c : Thread nD τ) none (m := Memref.whole cc0_stg3_0) (hr := fun _ => rfl)) $$ Hydl
  iintro Hydl
  iapply (wp_store_at 𝒱₀ (c : Thread nD τ) none (m := Memref.whole cc0_stg3_0) (hr := fun _ => rfl) (qd A B c) (st26_ydl A B c)) $$ Hydl
  iintro Hydl
  iapply (wp_load_slice 𝒱₀ (c : Thread nD τ) none (m := Memref.whole cc0_scratch4) (hr := fun _ => rfl)) $$ Hoc1
  iintro Hoc1
  iapply (wp_load_slice 𝒱₀ (c : Thread nD τ) none (m := Memref.whole cc0_scratch5) (hr := fun _ => rfl)) $$ Hod1
  iintro Hod1
  ihave Hycr := (any_ex (F := F) c ycr) $$ Hycr
  icases Hycr with ⟨%X3, Hycr⟩
  iapply (wp_load_slice 𝒱₀ (c : Thread nD τ) none (m := Memref.whole cc0_stg2_0) (hr := fun _ => rfl)) $$ Hycr
  iintro Hycr
  iapply (wp_store_at 𝒱₀ (c : Thread nD τ) none (m := Memref.whole cc0_stg2_0) (hr := fun _ => rfl) (qb A B c) (st26_ycr A B c)) $$ Hycr
  iintro Hycr
  ihave Hydr := (any_ex (F := F) c ydr) $$ Hydr
  icases Hydr with ⟨%X4, Hydr⟩
  iapply (wp_load_slice 𝒱₀ (c : Thread nD τ) none (m := Memref.whole cc0_stg3_0) (hr := fun _ => rfl)) $$ Hydr
  iintro Hydr
  ihave Hydr := (ow_any (F := F) c ydr _) $$ Hydr
  iapply (wp_done c)
  iapply Hk
  isplitl [Hycl]; · iexact Hycl
  isplitl [Hydl]; · iexact Hydl
  isplitl [Hoc1]; · iexact Hoc1
  isplitl [Hod1]; · iexact Hod1
  isplitl [Hycr]; · iexact Hycr
  iexact Hydr

theorem part27_run (c : Dev nD) (v4 v7 : BitVec 32) (Q : (PUnit) → sProp 𝕄) :
    iprop(recs A B K ∗ rch (F := F) c ∗ rch (F := F) (nx c) ∗ rch (F := F) (pv c) ∗ any (F := F) c ydr ∗ ow c ycl (qa A B c) ∗ ow c ycr (qb A B c) ∗ ow c ydl (qd A B c) ∗ any (F := F) (nx c) yc1 ∗ tok (F := F) 15 c ∗ dbt (F := F) c 15 ∗ any (F := F) (pv c) yd1 ∗ tok (F := F) 16 c
      ∗ ((ow c yc0 (yL0 A B c) ∗ dbt (F := F) c 17 ∗ wt (F := F) (16, false) c ∗ zr (F := F) (15, false) c) -∗ Q ⟨⟩))
    ⊢ wp frame (wpE (defs₀ (F := F)) 𝒱₀ c none) Set.univ (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4 v7 (k0_pay49 (k0_pay43 (tiles A B c)) (eow A B c))) Q := by
  rw [k0_part27_eq_skeleton]
  unfold k0_part27_skel
  iintro ⟨#HR, #HCc, #HCn, #HCp, Hydr, Hycl, Hycr, Hydl, Hnyc1, Ht15, HO, Hpyd1, Ht16, Hk⟩
  ihave Hydr := (any_ex (F := F) c ydr) $$ Hydr
  icases Hydr with ⟨%X1, Hydr⟩
  iapply (wp_store_at 𝒱₀ (c : Thread nD τ) none (m := Memref.whole cc0_stg3_0) (hr := fun _ => rfl) (qe A B c) (st27_ydr A B c)) $$ Hydr
  iintro Hydr
  ihave Hyc0 := (own_yc A B c) $$ [Hycl Hycr]
  · isplitl [Hycl] <;> iassumption
  ihave Hyd0 := (own_yd A B c) $$ [Hydl Hydr]
  · isplitl [Hydl] <;> iassumption
  iapply (wp_send A B K 15 c (ms := yc0) (md := yc1) (X := yL0 A B c) (yL0 A B c) rfl (dev15 c) rfl rfl rfl .rfl (land15 A B c)) $$ [Ht15 Hyc0 Hnyc1 HO]
  · isplitr; · iexact HR
    isplitr; · iexact HCc
    isplitr; · iexact HCn
    isplitl [Ht15]; · iexact Ht15
    isplitl [Hyc0]; · iexact Hyc0
    isplitl [Hnyc1]; · iexact Hnyc1
    iexact HO
  iintro ⟨Hw15s, HO⟩
  iapply (wp_send A B K 16 c (ms := yd0) (md := yd1) (X := yR0 A B c) (yR0 A B c) rfl (dev16 c) rfl rfl rfl .rfl (land16 A B c)) $$ [Ht16 Hyd0 Hpyd1 HO]
  · isplitr; · iexact HR
    isplitr; · iexact HCc
    isplitr; · iexact HCp
    isplitl [Ht16]; · iexact Ht16
    isplitl [Hyd0]; · iexact Hyd0
    isplitl [Hpyd1]; · iexact Hpyd1
    iexact HO
  iintro ⟨Hw16s, HO⟩
  iapply (wp_wait A B K (15, false) 17 c (src := (yc1.squeeze S1024x1024 squeezes_S1x1024x1024_S1024x1024)) (dst := (yc0.squeeze S1024x1024 squeezes_S1x1024x1024_S1024x1024)) rfl rfl (by decide)) $$ [Hw15s HO]
  · isplitr; · iexact HR
    isplitl [Hw15s]; · iexact Hw15s
    iexact HO
  iintro ⟨Hp, Hz15s, HO⟩
  ihave Hyc0 := (get15_false A B c) $$ Hp
  iapply (wp_done c)
  iapply Hk
  isplitl [Hyc0]; · iexact Hyc0
  isplitl [HO]; · iexact HO
  isplitl [Hw16s]; · iexact Hw16s
  iexact Hz15s

theorem part28_run (c : Dev nD) (v4 v7 : BitVec 32) (Q : (BitVec 32) → sProp 𝕄) :
    iprop(recs A B K ∗ wt (F := F) (15, true) c ∗ dbt (F := F) c 17 ∗ wt (F := F) (16, false) c ∗ wt (F := F) (16, true) c
      ∗ (∀ v703, (dbt (F := F) c 17 ∗ zr (F := F) (15, true) c ∗ ow c yc1 (yL1 A B c) ∗ zr (F := F) (16, false) c ∗ ow c yd0 (yR0 A B c) ∗ zr (F := F) (16, true) c ∗ ow c yd1 (yR1 A B c)) -∗ Q v703))
    ⊢ wp frame (wpE (defs₀ (F := F)) 𝒱₀ c none) Set.univ (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v4 v7) Q := by
  rw [k0_part28_eq_skeleton]
  unfold k0_part28_skel
  iintro ⟨#HR, Hw15r, HO, Hw16s, Hw16r, Hk⟩
  iapply (wp_wait A B K (15, true) 17 c (src := (yc0.squeeze S1024x1024 squeezes_S1x1024x1024_S1024x1024)) (dst := (yc1.squeeze S1024x1024 squeezes_S1x1024x1024_S1024x1024)) rfl rfl (by decide)) $$ [Hw15r HO]
  · isplitr; · iexact HR
    isplitl [Hw15r]; · iexact Hw15r
    iexact HO
  iintro ⟨Hp, Hz15r, HO⟩
  ihave Hyc1 := (get15_true A B c) $$ Hp
  iapply (wp_wait A B K (16, false) 17 c (src := (yd1.squeeze S1024x1024 squeezes_S1x1024x1024_S1024x1024)) (dst := (yd0.squeeze S1024x1024 squeezes_S1x1024x1024_S1024x1024)) rfl rfl (by decide)) $$ [Hw16s HO]
  · isplitr; · iexact HR
    isplitl [Hw16s]; · iexact Hw16s
    iexact HO
  iintro ⟨Hp, Hz16s, HO⟩
  ihave Hyd0 := (get16_false A B c) $$ Hp
  iapply (wp_wait A B K (16, true) 17 c (src := (yd0.squeeze S1024x1024 squeezes_S1x1024x1024_S1024x1024)) (dst := (yd1.squeeze S1024x1024 squeezes_S1x1024x1024_S1024x1024)) rfl rfl (by decide)) $$ [Hw16r HO]
  · isplitr; · iexact HR
    isplitl [Hw16r]; · iexact Hw16r
    iexact HO
  iintro ⟨Hp, Hz16r, HO⟩
  ihave Hyd1 := (get16_true A B c) $$ Hp
  iapply (wp_done c)
  iapply Hk
  isplitl [HO]; · iexact HO
  isplitl [Hz15r]; · iexact Hz15r
  isplitl [Hyc1]; · iexact Hyc1
  isplitl [Hz16s]; · iexact Hz16s
  isplitl [Hyd0]; · iexact Hyd0
  isplitl [Hz16r]; · iexact Hz16r
  iexact Hyd1

theorem part29_run (c : Dev nD) (v4 v7 v703 : BitVec 32) (Q : (PUnit) → sProp 𝕄) :
    iprop(recs A B K ∗ rch (F := F) c ∗ rch (F := F) (nx c) ∗ rch (F := F) (pv c) ∗ ow c yc1 (yL1 A B c) ∗ any (F := F) (nx c) yc2 ∗ tok (F := F) 17 c ∗ dbt (F := F) c 17 ∗ ow c yd1 (yR1 A B c) ∗ any (F := F) (pv c) yd2 ∗ tok (F := F) 18 c
      ∗ ((ow c yc1 (yL1 A B c) ∗ dbt (F := F) c 19 ∗ wt (F := F) (18, false) c ∗ zr (F := F) (17, false) c) -∗ Q ⟨⟩))
    ⊢ wp frame (wpE (defs₀ (F := F)) 𝒱₀ c none) Set.univ (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4 v7 v703) Q := by
  rw [k0_part29_eq_skeleton]
  unfold k0_part29_skel
  iintro ⟨#HR, #HCc, #HCn, #HCp, Hyc1, Hnyc2, Ht17, HO, Hyd1, Hpyd2, Ht18, Hk⟩
  iapply (wp_send A B K 17 c (ms := yc1) (md := yc2) (X := yL1 A B c) (yL1 A B c) rfl (dev17 c) rfl rfl rfl .rfl (land17 A B c)) $$ [Ht17 Hyc1 Hnyc2 HO]
  · isplitr; · iexact HR
    isplitr; · iexact HCc
    isplitr; · iexact HCn
    isplitl [Ht17]; · iexact Ht17
    isplitl [Hyc1]; · iexact Hyc1
    isplitl [Hnyc2]; · iexact Hnyc2
    iexact HO
  iintro ⟨Hw17s, HO⟩
  iapply (wp_send A B K 18 c (ms := yd1) (md := yd2) (X := yR1 A B c) (yR1 A B c) rfl (dev18 c) rfl rfl rfl .rfl (land18 A B c)) $$ [Ht18 Hyd1 Hpyd2 HO]
  · isplitr; · iexact HR
    isplitr; · iexact HCc
    isplitr; · iexact HCp
    isplitl [Ht18]; · iexact Ht18
    isplitl [Hyd1]; · iexact Hyd1
    isplitl [Hpyd2]; · iexact Hpyd2
    iexact HO
  iintro ⟨Hw18s, HO⟩
  iapply (wp_wait A B K (17, false) 19 c (src := (yc2.squeeze S1024x1024 squeezes_S1x1024x1024_S1024x1024)) (dst := (yc1.squeeze S1024x1024 squeezes_S1x1024x1024_S1024x1024)) rfl rfl (by decide)) $$ [Hw17s HO]
  · isplitr; · iexact HR
    isplitl [Hw17s]; · iexact Hw17s
    iexact HO
  iintro ⟨Hp, Hz17s, HO⟩
  ihave Hyc1 := (get17_false A B c) $$ Hp
  iapply (wp_done c)
  iapply Hk
  isplitl [Hyc1]; · iexact Hyc1
  isplitl [HO]; · iexact HO
  isplitl [Hw18s]; · iexact Hw18s
  iexact Hz17s

theorem part30_run (c : Dev nD) (v4 v7 : BitVec 32) (Q : (PUnit) → sProp 𝕄) :
    iprop(recs A B K ∗ wt (F := F) (17, true) c ∗ dbt (F := F) c 19 ∗ wt (F := F) (18, false) c ∗ wt (F := F) (18, true) c
      ∗ ((dbt (F := F) c 19 ∗ zr (F := F) (17, true) c ∗ ow c yc2 (yL2 A B c) ∗ zr (F := F) (18, false) c ∗ ow c yd1 (yR1 A B c) ∗ zr (F := F) (18, true) c ∗ ow c yd2 (yR2 A B c)) -∗ Q ⟨⟩))
    ⊢ wp frame (wpE (defs₀ (F := F)) 𝒱₀ c none) Set.univ (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 v4 v7) Q := by
  rw [k0_part30_eq_skeleton]
  unfold k0_part30_skel
  iintro ⟨#HR, Hw17r, HO, Hw18s, Hw18r, Hk⟩
  iapply (wp_wait A B K (17, true) 19 c (src := (yc1.squeeze S1024x1024 squeezes_S1x1024x1024_S1024x1024)) (dst := (yc2.squeeze S1024x1024 squeezes_S1x1024x1024_S1024x1024)) rfl rfl (by decide)) $$ [Hw17r HO]
  · isplitr; · iexact HR
    isplitl [Hw17r]; · iexact Hw17r
    iexact HO
  iintro ⟨Hp, Hz17r, HO⟩
  ihave Hyc2 := (get17_true A B c) $$ Hp
  iapply (wp_wait A B K (18, false) 19 c (src := (yd2.squeeze S1024x1024 squeezes_S1x1024x1024_S1024x1024)) (dst := (yd1.squeeze S1024x1024 squeezes_S1x1024x1024_S1024x1024)) rfl rfl (by decide)) $$ [Hw18s HO]
  · isplitr; · iexact HR
    isplitl [Hw18s]; · iexact Hw18s
    iexact HO
  iintro ⟨Hp, Hz18s, HO⟩
  ihave Hyd1 := (get18_false A B c) $$ Hp
  iapply (wp_wait A B K (18, true) 19 c (src := (yd1.squeeze S1024x1024 squeezes_S1x1024x1024_S1024x1024)) (dst := (yd2.squeeze S1024x1024 squeezes_S1x1024x1024_S1024x1024)) rfl rfl (by decide)) $$ [Hw18r HO]
  · isplitr; · iexact HR
    isplitl [Hw18r]; · iexact Hw18r
    iexact HO
  iintro ⟨Hp, Hz18r, HO⟩
  ihave Hyd2 := (get18_true A B c) $$ Hp
  iapply (wp_done c)
  iapply Hk
  isplitl [HO]; · iexact HO
  isplitl [Hz17r]; · iexact Hz17r
  isplitl [Hyc2]; · iexact Hyc2
  isplitl [Hz18s]; · iexact Hz18s
  isplitl [Hyd1]; · iexact Hyd1
  isplitl [Hz18r]; · iexact Hz18r
  iexact Hyd2

theorem part31_run (c : Dev nD) (v4 v7 : BitVec 32) (Q : (PUnit) → sProp 𝕄) :
    iprop(recs A B K ∗ rch (F := F) c ∗ rch (F := F) (nx c) ∗ rch (F := F) (pv c) ∗ ow c yc2 (yL2 A B c) ∗ any (F := F) (nx c) yc3 ∗ tok (F := F) 19 c ∗ dbt (F := F) c 19 ∗ ow c yd2 (yR2 A B c) ∗ any (F := F) (pv c) yd3 ∗ tok (F := F) 20 c
      ∗ ((ow c yc2 (yL2 A B c) ∗ dbt (F := F) c 21 ∗ wt (F := F) (20, false) c ∗ zr (F := F) (19, false) c) -∗ Q ⟨⟩))
    ⊢ wp frame (wpE (defs₀ (F := F)) 𝒱₀ c none) Set.univ (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 c v4 v7) Q := by
  rw [k0_part31_eq_skeleton]
  unfold k0_part31_skel
  iintro ⟨#HR, #HCc, #HCn, #HCp, Hyc2, Hnyc3, Ht19, HO, Hyd2, Hpyd3, Ht20, Hk⟩
  iapply (wp_send A B K 19 c (ms := yc2) (md := yc3) (X := yL2 A B c) (yL2 A B c) rfl (dev19 c) rfl rfl rfl .rfl (land19 A B c)) $$ [Ht19 Hyc2 Hnyc3 HO]
  · isplitr; · iexact HR
    isplitr; · iexact HCc
    isplitr; · iexact HCn
    isplitl [Ht19]; · iexact Ht19
    isplitl [Hyc2]; · iexact Hyc2
    isplitl [Hnyc3]; · iexact Hnyc3
    iexact HO
  iintro ⟨Hw19s, HO⟩
  iapply (wp_send A B K 20 c (ms := yd2) (md := yd3) (X := yR2 A B c) (yR2 A B c) rfl (dev20 c) rfl rfl rfl .rfl (land20 A B c)) $$ [Ht20 Hyd2 Hpyd3 HO]
  · isplitr; · iexact HR
    isplitr; · iexact HCc
    isplitr; · iexact HCp
    isplitl [Ht20]; · iexact Ht20
    isplitl [Hyd2]; · iexact Hyd2
    isplitl [Hpyd3]; · iexact Hpyd3
    iexact HO
  iintro ⟨Hw20s, HO⟩
  iapply (wp_wait A B K (19, false) 21 c (src := (yc3.squeeze S1024x1024 squeezes_S1x1024x1024_S1024x1024)) (dst := (yc2.squeeze S1024x1024 squeezes_S1x1024x1024_S1024x1024)) rfl rfl (by decide)) $$ [Hw19s HO]
  · isplitr; · iexact HR
    isplitl [Hw19s]; · iexact Hw19s
    iexact HO
  iintro ⟨Hp, Hz19s, HO⟩
  ihave Hyc2 := (get19_false A B c) $$ Hp
  iapply (wp_done c)
  iapply Hk
  isplitl [Hyc2]; · iexact Hyc2
  isplitl [HO]; · iexact HO
  isplitl [Hw20s]; · iexact Hw20s
  iexact Hz19s

end Cert.KernelIdeal.Talk
-- ==== Proof.Body.lean ====
/- The body, one stretch after another. -/
module

public import proofs.«01_k».proof.Proof.Part1
public import proofs.«01_k».proof.Proof.Part2
public import proofs.«01_k».proof.Proof.Part3
public import proofs.«01_k».proof.Proof.Part4
public import proofs.«01_k».proof.Proof.Part5

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

/-- A resource for each of the twenty-one copies, spelled out. -/
theorem sep21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
/-- All of device `c`'s landings to wait for, -/
def wts (c : Dev nD) : sProp 𝕄 := bigSep Finset.univ fun n : Fin 21 => wt (F := F) (n, true) c
/-- and all it takes to issue its copies. -/
def toks (c : Dev nD) : sProp 𝕄 := bigSep Finset.univ fun n : Fin 21 => tok (F := F) n c
/-- All its counters back at zero. -/
def zeros (c : Dev nD) : sProp 𝕄 :=
  iprop((bigSep Finset.univ fun n : Fin 21 => zr (F := F) (n, false) c) ∗ (bigSep Finset.univ fun n : Fin 21 => zr (F := F) (n, true) c))
/-- What the launch gives device `c` for the talk, its counters' places apart: the meeting's duties, credit and place. -/
def meets (c : Dev nD) : sProp 𝕄 :=
  iprop(reached ER (barCell (nx c)) 0 ∗ reached ER (barCell (pv c)) 0 ∗ dutyTok ER (barCell (pv c)) 0 false ∗ dutyTok ER (barCell (nx c)) 0 true
    ∗ cred (tallyAt (barCell c) () 2) ∗ atPos ER (barCell c) 0 ∅ 0)
/-- The seven working buffers, at contents not chosen. -/
def work (c : Dev nD) : sProp 𝕄 :=
  iprop(buf (F := F) c cc0_scratch0 ∗ buf (F := F) c cc0_scratch1 ∗ buf (F := F) c cc0_scratch2 ∗ buf (F := F) c cc0_scratch3
    ∗ buf (F := F) c cc0_scratch4 ∗ buf (F := F) c cc0_scratch5 ∗ buf (F := F) c cc0_scratch6)

/-- What device `c` hands its left neighbour by the signal that meets it: its own room to the right, -/
theorem mk_F (c : Dev nD) :
    iprop(buf (F := F) c cc0_scratch0 ∗ any (F := F) c yc1 ∗ any (F := F) c yc2 ∗ any (F := F) c yc3 ∗ any (F := F) c am3 ∗ any (F := F) c am2 ∗ rch (F := F) c)
      ⊢ (barPayF (F := F) (pv c) : sProp 𝕄) := by
  unfold barPayF
  rw [show nx (pv c) = c from by revert c; decide]
/-- and its right neighbour: its own room to the left. -/
theorem mk_T (c : Dev nD) :
    iprop(buf (F := F) c cc0_scratch1 ∗ any (F := F) c yd1 ∗ any (F := F) c yd2 ∗ any (F := F) c yd3 ∗ any (F := F) c am1 ∗ rch (F := F) c)
      ⊢ (barPayT (F := F) (nx c) : sProp 𝕄) := by
  unfold barPayT
  rw [show pv (nx c) = c from by revert c; decide]

/-- The whole body on device `c`: from its rooms, duties and credits to the two halves of its results and the scale. -/
theorem body_run (c : Dev nD) (Q : PUnit → sProp 𝕄) :
    iprop(recs A B K ∗ meets (F := F) c ∗ rch (F := F) c ∗ toks (F := F) c ∗ wts (F := F) c ∗ (∃ W : Waits sig Unit, owes (c : Thread nD τ) (O₀ c) W)
      ∗ ow c (Memref.whole cc0_stg0_0) (A c) ∗ ow c (Memref.whole cc0_stg1_0) (B c)
      ∗ any (F := F) c (Memref.whole cc0_stg2_0) ∗ any (F := F) c (Memref.whole cc0_stg3_0) ∗ any (F := F) c (Memref.whole cc0_stg4_0) ∗ work (F := F) c
      ∗ ((semVal (barCell c) 0 ∗ zeros (F := F) c ∗ dbt (F := F) c 21 ∗ ow c (Memref.whole cc0_stg0_0) (A c) ∗ ow c (Memref.whole cc0_stg1_0) (B c)
          ∗ ow c (Memref.whole cc0_stg2_0) (yL A B c) ∗ ow c (Memref.whole cc0_stg3_0) (yR A B c) ∗ ow c (Memref.whole cc0_stg4_0) (fun _ => scl A B c) ∗ work (F := F) c) -∗ Q ⟨⟩))
    ⊢ wp frame (wpE (defs₀ (F := F)) 𝒱₀ c none) Set.univ (cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16) Q := by
  rw [cc0__body_eq_skeleton]
  unfold cc0__body_skel
  rw [k0_part32_eq_skeleton]
  unfold k0_part32_skel
  simp only [bind_assoc]
  unfold meets work toks wts
  rw [sep21 (fun n : Fin 21 => tok (F := F) n c)]
  rw [sep21 (fun n : Fin 21 => wt (F := F) (n, true) c)]
  iintro ⟨#HR, ⟨#Hbn, #Hbp, HbL, HbR, Hbc, Hba⟩, #HCc, HT, HV, HO, HX, HW, Hyc, Hyd, Hsm0, ⟨Hrc, Hrd, Hsc, Hsd, Hoc, Hod, Ham⟩, Hk⟩
  icases HT with ⟨Ht0, Ht1, Ht2, Ht3, Ht4, Ht5, Ht6, Ht7, Ht8, Ht9, Ht10, Ht11, Ht12, Ht13, Ht14, Ht15, Ht16, Ht17, Ht18, Ht19, Ht20⟩
  icases HV with ⟨Hw0r, Hw1r, Hw2r, Hw3r, Hw4r, Hw5r, Hw6r, Hw7r, Hw8r, Hw9r, Hw10r, Hw11r, Hw12r, Hw13r, Hw14r, Hw15r, Hw16r, Hw17r, Hw18r, Hw19r, Hw20r⟩
  ihave Hsc := ((buf_any (F := F) c cc0_scratch2).trans (split_sc (F := F) c)) $$ Hsc
  ihave Hsd := ((buf_any (F := F) c cc0_scratch3).trans (split_sd (F := F) c)) $$ Hsd
  ihave Hoc := ((buf_any (F := F) c cc0_scratch4).trans (split_oc (F := F) c)) $$ Hoc
  ihave Hod := ((buf_any (F := F) c cc0_scratch5).trans (split_od (F := F) c)) $$ Hod
  ihave Ham := ((buf_any (F := F) c cc0_scratch6).trans (split_am (F := F) c)) $$ Ham
  ihave Hyc := (split_yc (F := F) c) $$ Hyc
  ihave Hyd := (split_yd (F := F) c) $$ Hyd
  ihave Hsm0 := (split_sm (F := F) c) $$ Hsm0
  icases Hsc with ⟨Hsc0, Hsc1⟩
  icases Hsd with ⟨Hsd0, Hsd1⟩
  icases Hoc with ⟨Hoc0, Hoc1⟩
  icases Hod with ⟨Hod0, Hod1⟩
  icases Ham with ⟨Ham0, Ham1, Ham2, Ham3⟩
  icases Hyc with ⟨Hycl, Hycr, Hyc1, Hyc2, Hyc3⟩
  icases Hyd with ⟨Hydl, Hydr, Hyd1, Hyd2, Hyd3⟩
  ihave HpL := (mk_F (F := F) c) $$ [Hrc Hyc1 Hyc2 Hyc3 Ham3 Ham2]
  · isplitl [Hrc]; · iexact Hrc
    isplitl [Hyc1]; · iexact Hyc1
    isplitl [Hyc2]; · iexact Hyc2
    isplitl [Hyc3]; · iexact Hyc3
    isplitl [Ham3]; · iexact Ham3
    isplitl [Ham2]; · iexact Ham2
    iexact HCc
  ihave HpR := (mk_T (F := F) c) $$ [Hrd Hyd1 Hyd2 Hyd3 Ham1]
  · isplitl [Hrd]; · iexact Hrd
    isplitl [Hyd1]; · iexact Hyd1
    isplitl [Hyd2]; · iexact Hyd2
    isplitl [Hyd3]; · iexact Hyd3
    isplitl [Ham1]; · iexact Ham1
    iexact HCc
  iapply (Entails.of_eq (wp_bind frame (wpE (defs₀ (F := F)) 𝒱₀ c none) Set.univ _ _ _).symm)
  iapply (part1_run A B K c  _)
  isplitr; · iexact HR
  isplitr; · iexact Hbn
  isplitr; · iexact Hbp
  isplitl [HbL]; · iexact HbL
  isplitl [HpL]; · iexact HpL
  isplitl [HO]; · iexact HO
  isplitl [HbR]; · iexact HbR
  isplitl [HpR]; · iexact HpR
  isplitl [Hbc]; · iexact Hbc
  isplitl [Hba]; · iexact Hba
  isplitl [HX]; · iexact HX
  isplitl [HW]; · iexact HW
  isplitl [Hsc0]; · iexact Hsc0
  iintro %v2 %v4 %v7
  iintro ⟨HO, HpF, HpT, Hbz, HX, HW, Hsc0⟩
  unfold barPayF barPayT
  icases HpF with ⟨Hnrc, Hnyc1, Hnyc2, Hnyc3, Hnam3, Hnam2, #HCn⟩
  icases HpT with ⟨Hprd, Hpyd1, Hpyd2, Hpyd3, Hpam1, #HCp⟩
  ihave Hnrc := ((buf_any (F := F) (nx c) cc0_scratch0).trans (split_rc (F := F) (nx c))) $$ Hnrc
  ihave Hprd := ((buf_any (F := F) (pv c) cc0_scratch1).trans (split_rd (F := F) (pv c))) $$ Hprd
  icases Hnrc with ⟨Hnrc00, Hnrc01, Hnrc10, Hnrc11, Hnrc20, Hnrc21⟩
  icases Hprd with ⟨Hprd00, Hprd01, Hprd10, Hprd11, Hprd20, Hprd21⟩
  iapply (Entails.of_eq (wp_bind frame (wpE (defs₀ (F := F)) 𝒱₀ c none) Set.univ _ _ _).symm)
  iapply (part2_run A B K c _ _ _)
  isplitr; · iexact HR
  isplitr; · iexact HCc
  isplitr; · iexact HCn
  isplitr; · iexact HCp
  isplitl [Hsd0]; · iexact Hsd0
  isplitl [Hsc0]; · iexact Hsc0
  isplitl [Hnrc00]; · iexact Hnrc00
  isplitl [Ht0]; · iexact Ht0
  isplitl [HO]; · iexact HO
  isplitl [Hprd00]; · iexact Hprd00
  isplitl [Ht1]; · iexact Ht1
  isplitl [Hnam2]; · iexact Hnam2
  iintro ⟨HO, Hw0s, Hw1s⟩
  iapply (Entails.of_eq (wp_bind frame (wpE (defs₀ (F := F)) 𝒱₀ c none) Set.univ _ _ _).symm)
  iapply (part3_run A B K c _ _)
  isplitr; · iexact HR
  isplitr; · iexact HCc
  isplitr; · iexact HCn
  isplitl [HX]; · iexact HX
  isplitl [HW]; · iexact HW
  isplitl [Hsc1]; · iexact Hsc1
  isplitl [Hsd1]; · iexact Hsd1
  isplitl [Hnrc01]; · iexact Hnrc01
  isplitl [Ht2]; · iexact Ht2
  isplitl [HO]; · iexact HO
  iintro ⟨HX, HW, Hsd1, HO, Hw2s⟩
  iapply (Entails.of_eq (wp_bind frame (wpE (defs₀ (F := F)) 𝒱₀ c none) Set.univ _ _ _).symm)
  iapply (part4_run A B K c _ _)
  isplitr; · iexact HR
  isplitr; · iexact HCc
  isplitr; · iexact HCp
  isplitl [Hsd1]; · iexact Hsd1
  isplitl [Hprd01]; · iexact Hprd01
  isplitl [Ht3]; · iexact Ht3
  isplitl [HO]; · iexact HO
  isplitl [HX]; · iexact HX
  isplitl [HW]; · iexact HW
  isplitl [Hw0s]; · iexact Hw0s
  iintro ⟨HO, Hw3s, HX, HW, Hz0s, Hsc0⟩
  iapply (Entails.of_eq (wp_bind frame (wpE (defs₀ (F := F)) 𝒱₀ c none) Set.univ _ _ _).symm)
  iapply (part5_run A B K c _ _)
  isplitr; · iexact HR
  isplitr; · iexact HCc
  isplitr; · iexact HCn
  isplitl [Hw0r]; · iexact Hw0r
  isplitl [HO]; · iexact HO
  isplitl [Hnrc10]; · iexact Hnrc10
  isplitl [Ht4]; · iexact Ht4
  iintro ⟨HO, Hz0r, Hw4s⟩
  iapply (Entails.of_eq (wp_bind frame (wpE (defs₀ (F := F)) 𝒱₀ c none) Set.univ _ _ _).symm)
  iapply (part6_run A B K c _ _)
  isplitr; · iexact HR
  isplitl [HX]; · iexact HX
  isplitl [HW]; · iexact HW
  isplitl [Hw1s]; · iexact Hw1s
  isplitl [HO]; · iexact HO
  isplitl [Hw1r]; · iexact Hw1r
  iintro ⟨HX, HW, HO, Hz1s, Hsd0, Hz1r, Hrd00, Hoam2, #HCo⟩
  iapply (Entails.of_eq (wp_bind frame (wpE (defs₀ (F := F)) 𝒱₀ c none) Set.univ _ _ _).symm)
  iapply (part7_run A B K c _ _)
  isplitr; · iexact HR
  isplitr; · iexact HCc
  isplitr; · iexact HCp
  isplitl [Hrd00]; · iexact Hrd00
  isplitl [Hprd10]; · iexact Hprd10
  isplitl [Ht5]; · iexact Ht5
  isplitl [HO]; · iexact HO
  isplitl [HX]; · iexact HX
  isplitl [HW]; · iexact HW
  iintro ⟨HO, Hw5s, HX, HW⟩
  iapply (Entails.of_eq (wp_bind frame (wpE (defs₀ (F := F)) 𝒱₀ c none) Set.univ _ _ _).symm)
  iapply (part8_run A B K c _ _)
  isplitr; · iexact HR
  isplitl [Hw2s]; · iexact Hw2s
  isplitl [HO]; · iexact HO
  isplitl [Hw2r]; · iexact Hw2r
  iintro ⟨HO, Hz2s, Hsc1, Hz2r, Hrc01⟩
  iapply (Entails.of_eq (wp_bind frame (wpE (defs₀ (F := F)) 𝒱₀ c none) Set.univ _ _ _).symm)
  iapply (part9_run A B K c _ _)
  isplitr; · iexact HR
  isplitr; · iexact HCc
  isplitr; · iexact HCn
  isplitl [Hrc01]; · iexact Hrc01
  isplitl [Hnrc11]; · iexact Hnrc11
  isplitl [Ht6]; · iexact Ht6
  isplitl [HO]; · iexact HO
  isplitl [HX]; · iexact HX
  isplitl [HW]; · iexact HW
  isplitl [Hw3s]; · iexact Hw3s
  isplitl [Hw3r]; · iexact Hw3r
  iintro ⟨HO, Hw6s, HX, HW, Hz3s, Hsd1, Hz3r, Hrd01⟩
  iapply (Entails.of_eq (wp_bind frame (wpE (defs₀ (F := F)) 𝒱₀ c none) Set.univ _ _ _).symm)
  iapply (part10_run A B K c _ _)
  isplitr; · iexact HR
  isplitr; · iexact HCc
  isplitr; · iexact HCp
  isplitl [Hrd01]; · iexact Hrd01
  isplitl [Hprd11]; · iexact Hprd11
  isplitl [Ht7]; · iexact Ht7
  isplitl [HO]; · iexact HO
  isplitl [HX]; · iexact HX
  isplitl [HW]; · iexact HW
  iintro ⟨HO, Hw7s, HX, HW⟩
  iapply (Entails.of_eq (wp_bind frame (wpE (defs₀ (F := F)) 𝒱₀ c none) Set.univ _ _ _).symm)
  iapply (part11_run A B K c _ _)
  isplitr; · iexact HR
  isplitl [Hw4s]; · iexact Hw4s
  isplitl [HO]; · iexact HO
  isplitl [Hw4r]; · iexact Hw4r
  iintro ⟨HO, Hz4s, Hrc00, Hz4r, Hrc10⟩
  iapply (Entails.of_eq (wp_bind frame (wpE (defs₀ (F := F)) 𝒱₀ c none) Set.univ _ _ _).symm)
  iapply (part12_run A B K c _ _ _ _)
  isplitr; · iexact HR
  isplitr; · iexact HCc
  isplitr; · iexact HCn
  isplitl [Hrc10]; · iexact Hrc10
  isplitl [Hnrc20]; · iexact Hnrc20
  isplitl [Ht8]; · iexact Ht8
  isplitl [HO]; · iexact HO
  isplitl [HX]; · iexact HX
  isplitl [HW]; · iexact HW
  isplitl [Hw5s]; · iexact Hw5s
  iintro ⟨HO, Hw8s, HX, HW, Hz5s, Hrd00⟩
  iapply (Entails.of_eq (wp_bind frame (wpE (defs₀ (F := F)) 𝒱₀ c none) Set.univ _ _ _).symm)
  iapply (part13_run A B K c _ _)
  isplitr; · iexact HR
  isplitr; · iexact HCc
  isplitr; · iexact HCp
  isplitl [Hw5r]; · iexact Hw5r
  isplitl [HO]; · iexact HO
  isplitl [Hprd20]; · iexact Hprd20
  isplitl [Ht9]; · iexact Ht9
  isplitl [HX]; · iexact HX
  isplitl [HW]; · iexact HW
  iintro ⟨HO, Hz5r, Hw9s, HX, HW⟩
  iapply (Entails.of_eq (wp_bind frame (wpE (defs₀ (F := F)) 𝒱₀ c none) Set.univ _ _ _).symm)
  iapply (part14_run A B K c _ _)
  isplitr; · iexact HR
  isplitl [Hw6s]; · iexact Hw6s
  isplitl [HO]; · iexact HO
  isplitl [Hw6r]; · iexact Hw6r
  iintro ⟨HO, Hz6s, Hrc01, Hz6r, Hrc11⟩
  iapply (Entails.of_eq (wp_bind frame (wpE (defs₀ (F := F)) 𝒱₀ c none) Set.univ _ _ _).symm)
  iapply (part15_run A B K c _ _)
  isplitr; · iexact HR
  isplitr; · iexact HCc
  isplitr; · iexact HCn
  isplitl [Hrc11]; · iexact Hrc11
  isplitl [Hnrc21]; · iexact Hnrc21
  isplitl [Ht10]; · iexact Ht10
  isplitl [HO]; · iexact HO
  isplitl [HX]; · iexact HX
  isplitl [HW]; · iexact HW
  isplitl [Hw7s]; · iexact Hw7s
  iintro ⟨HO, Hw10s, HX, HW, Hz7s, Hrd01⟩
  iapply (Entails.of_eq (wp_bind frame (wpE (defs₀ (F := F)) 𝒱₀ c none) Set.univ _ _ _).symm)
  iapply (part16_run A B K c _ _)
  isplitr; · iexact HR
  isplitl [Hw7r]; · iexact Hw7r
  isplitl [HO]; · iexact HO
  iintro ⟨HO, Hz7r, Hrd11⟩
  iapply (Entails.of_eq (wp_bind frame (wpE (defs₀ (F := F)) 𝒱₀ c none) Set.univ _ _ _).symm)
  iapply (part17_run A B K c _ _)
  isplitr; · iexact HR
  isplitr; · iexact HCc
  isplitr; · iexact HCp
  isplitl [Hrd11]; · iexact Hrd11
  isplitl [Hprd21]; · iexact Hprd21
  isplitl [Ht11]; · iexact Ht11
  isplitl [HO]; · iexact HO
  isplitl [HX]; · iexact HX
  isplitl [HW]; · iexact HW
  isplitl [Hw8s]; · iexact Hw8s
  isplitl [Hw8r]; · iexact Hw8r
  iintro ⟨HO, Hw11s, HX, HW, Hz8s, Hrc10, Hz8r, Hrc20⟩
  iapply (Entails.of_eq (wp_bind frame (wpE (defs₀ (F := F)) 𝒱₀ c none) Set.univ _ _ _).symm)
  iapply (part18_run A B K c _ _)
  isplitr; · iexact HR
  isplitl [Hrc20]; · iexact Hrc20
  isplitl [Hoc0]; · iexact Hoc0
  isplitl [HX]; · iexact HX
  isplitl [HW]; · iexact HW
  isplitl [Hw9s]; · iexact Hw9s
  isplitl [HO]; · iexact HO
  iintro %v426
  iintro ⟨Hrc20, Hoc0, HX, HW, HO, Hz9s, Hrd10⟩
  iapply (Entails.of_eq (wp_bind frame (wpE (defs₀ (F := F)) 𝒱₀ c none) Set.univ _ _ _).symm)
  iapply (part19_run A B K c _ _ _)
  isplitr; · iexact HR
  isplitl [Hw9r]; · iexact Hw9r
  isplitl [HO]; · iexact HO
  isplitl [Hod0]; · iexact Hod0
  isplitl [HX]; · iexact HX
  isplitl [HW]; · iexact HW
  iintro ⟨HO, Hz9r, Hrd20, Hod0, HX, HW⟩
  iapply (Entails.of_eq (wp_bind frame (wpE (defs₀ (F := F)) 𝒱₀ c none) Set.univ _ _ _).symm)
  iapply (part20_run A B K c _ _)
  isplitr; · iexact HR
  isplitl [Hw10s]; · iexact Hw10s
  isplitl [HO]; · iexact HO
  isplitl [Hw10r]; · iexact Hw10r
  isplitl [Hoc1]; · iexact Hoc1
  isplitl [HX]; · iexact HX
  isplitl [HW]; · iexact HW
  iintro ⟨HO, Hz10s, Hrc11, Hz10r, Hrc21, Hoc1, HX, HW⟩
  iapply (Entails.of_eq (wp_bind frame (wpE (defs₀ (F := F)) 𝒱₀ c none) Set.univ _ _ _).symm)
  iapply (part21_run A B K c _ _)
  isplitr; · iexact HR
  isplitl [Hw11s]; · iexact Hw11s
  isplitl [HO]; · iexact HO
  isplitl [Hw11r]; · iexact Hw11r
  isplitl [Hod1]; · iexact Hod1
  iintro ⟨HO, Hz11s, Hrd11, Hz11r, Hrd21, Hod1⟩
  iapply (Entails.of_eq (wp_bind frame (wpE (defs₀ (F := F)) 𝒱₀ c none) Set.univ _ _ _).symm)
  iapply (part22_run A B K c _ _ _ _)
  isplitr; · iexact HR
  isplitr; · iexact HCc
  isplitr; · iexact HCn
  isplitr; · iexact HCp
  isplitl [Ham0]; · iexact Ham0
  isplitl [Hnam3]; · iexact Hnam3
  isplitl [Ht12]; · iexact Ht12
  isplitl [HO]; · iexact HO
  isplitl [Hpam1]; · iexact Hpam1
  isplitl [Ht13]; · iexact Ht13
  iintro %v514
  iintro ⟨Ham0c, HO, Hw12s, Hw13s⟩
  iapply (Entails.of_eq (wp_bind frame (wpE (defs₀ (F := F)) 𝒱₀ c none) Set.univ _ _ _).symm)
  iapply (part23_run A B K c _ _ _)
  isplitr; · iexact HR
  isplitr; · iexact HCc
  isplitr; · iexact HCo
  isplitl [Ham0c]; · iexact Ham0c
  isplitl [Hoam2]; · iexact Hoam2
  isplitl [Ht14]; · iexact Ht14
  isplitl [HO]; · iexact HO
  isplitl [Hw12s]; · iexact Hw12s
  isplitl [Hw12r]; · iexact Hw12r
  iintro ⟨HO, Hw14s, Hz12s, Ham0a, Hz12r, Ham3⟩
  iapply (Entails.of_eq (wp_bind frame (wpE (defs₀ (F := F)) 𝒱₀ c none) Set.univ _ _ _).symm)
  iapply (part24_run A B K c _ _ _)
  isplitr; · iexact HR
  isplitl [Hw13s]; · iexact Hw13s
  isplitl [HO]; · iexact HO
  isplitl [Hw13r]; · iexact Hw13r
  isplitl [Hw14s]; · iexact Hw14s
  iintro ⟨HO, Hz13s, Ham0b, Hz13r, Ham1, Hz14s, Ham0c⟩
  iapply (Entails.of_eq (wp_bind frame (wpE (defs₀ (F := F)) 𝒱₀ c none) Set.univ _ _ _).symm)
  iapply (part25_run A B K c  _)
  isplitr; · iexact HR
  isplitl [Hw14r]; · iexact Hw14r
  isplitl [HO]; · iexact HO
  isplitl [Ham0a]; · iexact Ham0a
  isplitl [Ham0b]; · iexact Ham0b
  isplitl [Ham0c]; · iexact Ham0c
  isplitl [Ham1]; · iexact Ham1
  isplitl [Ham3]; · iexact Ham3
  isplitl [Hsm0]; · iexact Hsm0
  isplitl [Hoc0]; · iexact Hoc0
  isplitl [Hod0]; · iexact Hod0
  iintro ⟨HO, Hz14r, Ham, Hsm0, Hoc0, Hod0⟩
  iapply (Entails.of_eq (wp_bind frame (wpE (defs₀ (F := F)) 𝒱₀ c none) Set.univ _ _ _).symm)
  iapply (part26_run A B K c  _)
  isplitr; · iexact HR
  isplitl [Hycl]; · iexact Hycl
  isplitl [Hydl]; · iexact Hydl
  isplitl [Hoc1]; · iexact Hoc1
  isplitl [Hod1]; · iexact Hod1
  isplitl [Hycr]; · iexact Hycr
  isplitl [Hydr]; · iexact Hydr
  iintro ⟨Hycl, Hydl, Hoc1, Hod1, Hycr, Hydr⟩
  iapply (Entails.of_eq (wp_bind frame (wpE (defs₀ (F := F)) 𝒱₀ c none) Set.univ _ _ _).symm)
  iapply (part27_run A B K c _ _ _)
  isplitr; · iexact HR
  isplitr; · iexact HCc
  isplitr; · iexact HCn
  isplitr; · iexact HCp
  isplitl [Hydr]; · iexact Hydr
  isplitl [Hycl]; · iexact Hycl
  isplitl [Hycr]; · iexact Hycr
  isplitl [Hydl]; · iexact Hydl
  isplitl [Hnyc1]; · iexact Hnyc1
  isplitl [Ht15]; · iexact Ht15
  isplitl [HO]; · iexact HO
  isplitl [Hpyd1]; · iexact Hpyd1
  isplitl [Ht16]; · iexact Ht16
  iintro ⟨Hyc0, HO, Hw16s, Hz15s⟩
  iapply (Entails.of_eq (wp_bind frame (wpE (defs₀ (F := F)) 𝒱₀ c none) Set.univ _ _ _).symm)
  iapply (part28_run A B K c _ _ _)
  isplitr; · iexact HR
  isplitl [Hw15r]; · iexact Hw15r
  isplitl [HO]; · iexact HO
  isplitl [Hw16s]; · iexact Hw16s
  isplitl [Hw16r]; · iexact Hw16r
  iintro %v703
  iintro ⟨HO, Hz15r, Hyc1, Hz16s, Hyd0, Hz16r, Hyd1⟩
  iapply (Entails.of_eq (wp_bind frame (wpE (defs₀ (F := F)) 𝒱₀ c none) Set.univ _ _ _).symm)
  iapply (part29_run A B K c _ _ _ _)
  isplitr; · iexact HR
  isplitr; · iexact HCc
  isplitr; · iexact HCn
  isplitr; · iexact HCp
  isplitl [Hyc1]; · iexact Hyc1
  isplitl [Hnyc2]; · iexact Hnyc2
  isplitl [Ht17]; · iexact Ht17
  isplitl [HO]; · iexact HO
  isplitl [Hyd1]; · iexact Hyd1
  isplitl [Hpyd2]; · iexact Hpyd2
  isplitl [Ht18]; · iexact Ht18
  iintro ⟨Hyc1, HO, Hw18s, Hz17s⟩
  iapply (Entails.of_eq (wp_bind frame (wpE (defs₀ (F := F)) 𝒱₀ c none) Set.univ _ _ _).symm)
  iapply (part30_run A B K c _ _ _)
  isplitr; · iexact HR
  isplitl [Hw17r]; · iexact Hw17r
  isplitl [HO]; · iexact HO
  isplitl [Hw18s]; · iexact Hw18s
  isplitl [Hw18r]; · iexact Hw18r
  iintro ⟨HO, Hz17r, Hyc2, Hz18s, Hyd1, Hz18r, Hyd2⟩
  iapply (Entails.of_eq (wp_bind frame (wpE (defs₀ (F := F)) 𝒱₀ c none) Set.univ _ _ _).symm)
  iapply (part31_run A B K c _ _ _)
  isplitr; · iexact HR
  isplitr; · iexact HCc
  isplitr; · iexact HCn
  isplitr; · iexact HCp
  isplitl [Hyc2]; · iexact Hyc2
  isplitl [Hnyc3]; · iexact Hnyc3
  isplitl [Ht19]; · iexact Ht19
  isplitl [HO]; · iexact HO
  isplitl [Hyd2]; · iexact Hyd2
  isplitl [Hpyd3]; · iexact Hpyd3
  isplitl [Ht20]; · iexact Ht20
  iintro ⟨Hyc2, HO, Hw20s, Hz19s⟩
  iapply (wp_wait A B K (19, true) 21 c (src := (yc2.squeeze S1024x1024 squeezes_S1x1024x1024_S1024x1024)) (dst := (yc3.squeeze S1024x1024 squeezes_S1x1024x1024_S1024x1024)) rfl rfl (by decide)) $$ [Hw19r HO]
  · isplitr; · iexact HR
    isplitl [Hw19r]; · iexact Hw19r
    iexact HO
  iintro ⟨Hp, Hz19r, HO⟩
  ihave Hyc3 := (get19_true A B c) $$ Hp
  iapply (wp_wait A B K (20, false) 21 c (src := (yd3.squeeze S1024x1024 squeezes_S1x1024x1024_S1024x1024)) (dst := (yd2.squeeze S1024x1024 squeezes_S1x1024x1024_S1024x1024)) rfl rfl (by decide)) $$ [Hw20s HO]
  · isplitr; · iexact HR
    isplitl [Hw20s]; · iexact Hw20s
    iexact HO
  iintro ⟨Hp, Hz20s, HO⟩
  ihave Hyd2 := (get20_false A B c) $$ Hp
  iapply (wp_wait A B K (20, true) 21 c (src := (yd2.squeeze S1024x1024 squeezes_S1x1024x1024_S1024x1024)) (dst := (yd3.squeeze S1024x1024 squeezes_S1x1024x1024_S1024x1024)) rfl rfl (by decide)) $$ [Hw20r HO]
  · isplitr; · iexact HR
    isplitl [Hw20r]; · iexact Hw20r
    iexact HO
  iintro ⟨Hp, Hz20r, HO⟩
  ihave Hyd3 := (get20_true A B c) $$ Hp
  iapply (wp_done c)
  iapply Hk
  ihave Hrc20 := (ow_any (F := F) c rc20 _) $$ Hrc20
  ihave Hrc21 := (ow_any (F := F) c rc21 _) $$ Hrc21
  ihave Hrd20 := (ow_any (F := F) c rd20 _) $$ Hrd20
  ihave Hrd21 := (ow_any (F := F) c rd21 _) $$ Hrd21
  ihave Hoc0 := (ow_any (F := F) c oc0 _) $$ Hoc0
  ihave Hoc1 := (ow_any (F := F) c oc1 _) $$ Hoc1
  ihave Hod0 := (ow_any (F := F) c od0 _) $$ Hod0
  ihave Hod1 := (ow_any (F := F) c od1 _) $$ Hod1
  ihave Ham := (ow_any (F := F) c (Memref.whole cc0_scratch6) _) $$ Ham
  ihave Ham := (any_buf (F := F) c cc0_scratch6) $$ Ham
  ihave Hrc := ((join_rc (F := F) c).trans (any_buf (F := F) c cc0_scratch0)) $$ [Hrc00 Hrc01 Hrc10 Hrc11 Hrc20 Hrc21]
  · isplitl [Hrc00]; · iexact Hrc00
    isplitl [Hrc01]; · iexact Hrc01
    isplitl [Hrc10]; · iexact Hrc10
    isplitl [Hrc11]; · iexact Hrc11
    isplitl [Hrc20]; · iexact Hrc20
    iexact Hrc21
  ihave Hrd := ((join_rd (F := F) c).trans (any_buf (F := F) c cc0_scratch1)) $$ [Hrd00 Hrd01 Hrd10 Hrd11 Hrd20 Hrd21]
  · isplitl [Hrd00]; · iexact Hrd00
    isplitl [Hrd01]; · iexact Hrd01
    isplitl [Hrd10]; · iexact Hrd10
    isplitl [Hrd11]; · iexact Hrd11
    isplitl [Hrd20]; · iexact Hrd20
    iexact Hrd21
  ihave Hsc := ((join_sc (F := F) c).trans (any_buf (F := F) c cc0_scratch2)) $$ [Hsc0 Hsc1]
  · isplitl [Hsc0]; · iexact Hsc0
    iexact Hsc1
  ihave Hsd := ((join_sd (F := F) c).trans (any_buf (F := F) c cc0_scratch3)) $$ [Hsd0 Hsd1]
  · isplitl [Hsd0]; · iexact Hsd0
    iexact Hsd1
  ihave Hoc := ((join_oc (F := F) c).trans (any_buf (F := F) c cc0_scratch4)) $$ [Hoc0 Hoc1]
  · isplitl [Hoc0]; · iexact Hoc0
    iexact Hoc1
  ihave Hod := ((join_od (F := F) c).trans (any_buf (F := F) c cc0_scratch5)) $$ [Hod0 Hod1]
  · isplitl [Hod0]; · iexact Hod0
    iexact Hod1
  ihave Hyc := (put_yc A B c) $$ [Hyc0 Hyc1 Hyc2 Hyc3]
  · isplitl [Hyc0]; · iexact Hyc0
    isplitl [Hyc1]; · iexact Hyc1
    isplitl [Hyc2]; · iexact Hyc2
    iexact Hyc3
  ihave Hyd := (put_yd A B c) $$ [Hyd0 Hyd1 Hyd2 Hyd3]
  · isplitl [Hyd0]; · iexact Hyd0
    isplitl [Hyd1]; · iexact Hyd1
    isplitl [Hyd2]; · iexact Hyd2
    iexact Hyd3
  ihave Hsm0 := (join_sm (F := F) c _) $$ Hsm0
  unfold zeros
  rw [sep21 (fun n : Fin 21 => zr (F := F) (n, false) c)]
  rw [sep21 (fun n : Fin 21 => zr (F := F) (n, true) c)]
  isplitl [Hbz]; · iexact Hbz
  isplitl [Hz0s Hz1s Hz2s Hz3s Hz4s Hz5s Hz6s Hz7s Hz8s Hz9s Hz10s Hz11s Hz12s Hz13s Hz14s Hz15s Hz16s Hz17s Hz18s Hz19s Hz20s Hz0r Hz1r Hz2r Hz3r Hz4r Hz5r Hz6r Hz7r Hz8r Hz9r Hz10r Hz11r Hz12r Hz13r Hz14r Hz15r Hz16r Hz17r Hz18r Hz19r Hz20r]
  · isplitl [Hz0s Hz1s Hz2s Hz3s Hz4s Hz5s Hz6s Hz7s Hz8s Hz9s Hz10s Hz11s Hz12s Hz13s Hz14s Hz15s Hz16s Hz17s Hz18s Hz19s Hz20s]
    · isplitl [Hz0s]; · iexact Hz0s
      isplitl [Hz1s]; · iexact Hz1s
      isplitl [Hz2s]; · iexact Hz2s
      isplitl [Hz3s]; · iexact Hz3s
      isplitl [Hz4s]; · iexact Hz4s
      isplitl [Hz5s]; · iexact Hz5s
      isplitl [Hz6s]; · iexact Hz6s
      isplitl [Hz7s]; · iexact Hz7s
      isplitl [Hz8s]; · iexact Hz8s
      isplitl [Hz9s]; · iexact Hz9s
      isplitl [Hz10s]; · iexact Hz10s
      isplitl [Hz11s]; · iexact Hz11s
      isplitl [Hz12s]; · iexact Hz12s
      isplitl [Hz13s]; · iexact Hz13s
      isplitl [Hz14s]; · iexact Hz14s
      isplitl [Hz15s]; · iexact Hz15s
      isplitl [Hz16s]; · iexact Hz16s
      isplitl [Hz17s]; · iexact Hz17s
      isplitl [Hz18s]; · iexact Hz18s
      isplitl [Hz19s]; · iexact Hz19s
      iexact Hz20s
    · isplitl [Hz0r]; · iexact Hz0r
      isplitl [Hz1r]; · iexact Hz1r
      isplitl [Hz2r]; · iexact Hz2r
      isplitl [Hz3r]; · iexact Hz3r
      isplitl [Hz4r]; · iexact Hz4r
      isplitl [Hz5r]; · iexact Hz5r
      isplitl [Hz6r]; · iexact Hz6r
      isplitl [Hz7r]; · iexact Hz7r
      isplitl [Hz8r]; · iexact Hz8r
      isplitl [Hz9r]; · iexact Hz9r
      isplitl [Hz10r]; · iexact Hz10r
      isplitl [Hz11r]; · iexact Hz11r
      isplitl [Hz12r]; · iexact Hz12r
      isplitl [Hz13r]; · iexact Hz13r
      isplitl [Hz14r]; · iexact Hz14r
      isplitl [Hz15r]; · iexact Hz15r
      isplitl [Hz16r]; · iexact Hz16r
      isplitl [Hz17r]; · iexact Hz17r
      isplitl [Hz18r]; · iexact Hz18r
      isplitl [Hz19r]; · iexact Hz19r
      iexact Hz20r
  isplitl [HO]; · iexact HO
  isplitl [HX]; · iexact HX
  isplitl [HW]; · iexact HW
  isplitl [Hyc]; · iexact Hyc
  isplitl [Hyd]; · iexact Hyd
  isplitl [Hsm0]; · iexact Hsm0
  isplitl [Hrc]; · iexact Hrc
  isplitl [Hrd]; · iexact Hrd
  isplitl [Hsc]; · iexact Hsc
  isplitl [Hsd]; · iexact Hsd
  isplitl [Hoc]; · iexact Hoc
  isplitl [Hod]; · iexact Hod
  iexact Ham

end Cert.KernelIdeal.Talk
-- ==== Proof.Region.lean ====
/- The launched region as a whole: what it is entered with, what it leaves, and the body between. -/
module

public import proofs.«01_k».proof.Proof.Body
public import proofs.«01_k».proof.Proof.Gen.KernelIdeal.Regions
public import proofs.«01_k».proof.Proof.Gen.KernelIdeal.Points
public import Idealize.ShloMosaic.Lib.Rounds.Family
public import Idealize.ShloMosaic.Lib.Pipeline.RegionTalk
public import Idealize.ShloMosaic.Lib.Pipeline.Value

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

open Idealize.ShloMosaic.Pipeline (Dat Cfg BodyObligation cellOf)

/-- What a window's array holds. -/
abbrev Arr (F : FTy → Type) [FloatOps F] : Type := (c : Dev nD) → (w : Fin cfg0.W) → Buf (Elt F) ((cfg0.win w).arr.view.loc (c : Thread nD τ))

variable (Z : Arr F)

/-! ## What rides from the launch to the region, and from its opening to the body -/

/-- The counters the copies run on. -/
abbrev osem : I → SemLoc sig := fun k => .dma (dsem k)

/-- From the launch: the invariants' names, the meeting's shares, the right to open each of the device's counters, the
    rights to make its payments, and the units it will wait for. -/
def Tk (c : Dev nD) : sProp 𝕄 :=
  iprop((∃ K, recs A B K) ∗ meets (F := F) c ∗ (bigSep Finset.univ fun k : I => openTok ER (cell k c))
    ∗ (bigSep Finset.univ fun n : Fin 21 => iprop(dutyTok ER (cell (n, false) c) 0 false ∗ dutyTok ER (cell (n, true) (tgt n c)) 0 false))
    ∗ bigSep Finset.univ fun n : Fin 21 => cred (tallyAt (cell (n, true) c) () (amt n)))
/-- Once the counters are open: what the body takes. -/
def Xk (c : Dev nD) : sProp 𝕄 :=
  iprop((∃ K, recs A B K) ∗ meets (F := F) c ∗ rch (F := F) c ∗ toks (F := F) c ∗ wts (F := F) c)
/-- What outlives the region: the meeting counter back at zero. -/
def Yk (c : Dev nD) : sProp 𝕄 := semVal (barCell c) 0

/-- A family over the 42 counters, by copy and by end. -/
theorem split_I (Φ : I → sProp 𝕄) :
    bigSep Finset.univ Φ = iprop((bigSep Finset.univ fun n : Fin 21 => Φ (n, false)) ∗ bigSep Finset.univ fun n : Fin 21 => Φ (n, true)) := by
  rw [bigSep_univ_prod, ← bigSep_sep']
  refine bigSep_congr fun n _ => ?_
  rw [show (Finset.univ : Finset Bool) = {false, true} from by decide, bigSep_insert (by decide), bigSep_singleton]
  rfl

theorem ownSems_eq (c : Dev nD) : (Pipeline.ownSems0 osem c : sProp 𝕄) = zeros (F := F) c := by
  show bigSep Finset.univ (fun k : I => zr (F := F) k c) = _
  rw [split_I]; rfl

theorem open_cells (c : Dev nD) :
    iprop((bigSep (barCells ∪ scCells) fun g => cellInv ER (rd A B) (K g) g) ∗ (bigSep Finset.univ fun k : I => openTok ER (cell k c))
        ∗ Pipeline.ownSems0 osem c)
      ⊢ (|={Set.univ}=> bigSep Finset.univ fun k : I => iprop(atPos ER (cell k c) 0 ∅ 0 ∗ reached ER (cell k c) 0) : sProp 𝕄) := by
  refine .trans ?_ (Rounds.cells_open ER (rd A B) (Es := Set.univ) Finset.univ (fun k : I => cell k c) (fun k => K (cell k c)) fun _ _ => Set.mem_univ _)
  iintro ⟨#HI, Ho, Hs⟩
  isplitr [Hs]
  · iapply (bigSep_with_persistent (R := iprop(bigSep (barCells ∪ scCells) fun g => cellInv ER (rd A B) (K g) g)) (Φ := fun k : I => openTok ER (cell k c))
      fun k _ => by
        iintro ⟨#HI, Ho⟩
        isplitr; · iapply (show (bigSep (barCells ∪ scCells) fun g => cellInv ER (rd A B) (K g) g : sProp 𝕄) ⊢ cellInv ER (rd A B) (K (cell k c)) (cell k c) from bigSep_elim (cell_mem k c)); iexact HI
        iexact Ho)
    isplitr; · iexact HI
    iexact Ho
  · iapply (Entails.of_eq (show (Pipeline.ownSems0 osem c : sProp 𝕄) = bigSep Finset.univ (fun k : I => semVal (cell k c) 0) from rfl)); iexact Hs

/-- The region's opening: every counter of the device goes to its cell. -/
theorem opening (c : Dev nD) : iprop(Tk A B c ∗ Pipeline.ownSems0 osem c ∗ levAts L lv) ⊢ (|={Set.univ}=> Xk A B c : sProp 𝕄) := by
  unfold Tk Xk
  iintro ⟨⟨⟨%K, #HR⟩, Hm, Ho, Ht, Hc⟩, Hs, -⟩
  imod (open_cells A B K c) $$ [Ho Hs] with H
  · isplitr
    · unfold recs; icases HR with ⟨#HI, -⟩; iexact HI
    isplitl [Ho]; · iexact Ho
    iexact Hs
  ihave H := (Entails.of_eq (bigSep_sep' _ _ _)) $$ H
  icases H with ⟨Ha, #Hr⟩
  ihave Ha := (Entails.of_eq (split_I (F := F) fun k => atPos ER (cell k c) 0 ∅ 0)) $$ Ha
  icases Ha with ⟨HaF, HaT⟩
  imodintro
  isplitr; · iexists K; iexact HR
  isplitl [Hm]; · iexact Hm
  isplitr; · unfold rch; iexact Hr
  isplitl [Ht HaF]
  · unfold toks tok
    ihave Ht := (Entails.of_eq (bigSep_sep' _ _ _)) $$ Ht
    icases Ht with ⟨HtF, HtT⟩
    iapply (Entails.of_eq (bigSep_sep' _ _ _).symm)
    isplitl [HtF]; · iexact HtF
    iapply (Entails.of_eq (bigSep_sep' _ _ _).symm)
    isplitl [HtT]; · iexact HtT
    iexact HaF
  · unfold wts wt
    iapply (Entails.of_eq (bigSep_sep' _ _ _).symm)
    isplitl [Hc]; · iexact Hc
    iexact HaT

/-! ## The region's contents -/

/-- The body's invariant: what it takes before its one point, what it hands back after. -/
def Φk (n : ℕ) (c : Dev nD) : sProp 𝕄 :=
  if n = 0 then iprop(Xk A B c ∗ work (F := F) c ∗ ∃ r, prngReg c r)
  else iprop((semVal (barCell c) 0 ∗ zeros (F := F) c) ∗ work (F := F) c ∗ ∃ r, prngReg c r)

/-- The region's proof data. -/
def dat (c : Dev nD) : Dat τ (Elt F) Unit ℕ UU ℕ cfg0 c where
  A
    | ⟨0, _⟩ => A c
    | ⟨1, _⟩ => B c
    | ⟨2, _⟩ => Z c 2
    | ⟨3, _⟩ => Z c 3
    | ⟨4, _⟩ => Z c 4
  after
    | ⟨0, _⟩ => fun _ => A c
    | ⟨1, _⟩ => fun _ => B c
    | ⟨2, _⟩ => fun _ => yL A B c
    | ⟨3, _⟩ => fun _ => yR A B c
    | ⟨4, _⟩ => fun _ => fun _ => scl A B c
  Φ t := Φk A B t.val c
  q _ := fullShare
  owed t := if t.val = 0 then O₀ c else 0

def pdats : (p : Fin 1) → (c : Dev nD) → Dat τ (Elt F) Unit ℕ UU ℕ (cfgs p) c := fun | 0 => dat A B Z

theorem dat_owesAt (c : Dev nD) (t : Fin (cfg0.N + 1)) (O : CellTallies nD τ sig Unit) (h : (dat A B Z c).owed t = O) :
    ((dat A B Z c).owesAt () t : sProp 𝕄) ⊢ iprop(∃ W, owes (c : Thread nD τ) O W) := by
  unfold Dat.owesAt Pipeline.owesWithin; rw [h]
  iintro ⟨%W, -, HO⟩; iexists W; iexact HO
theorem owesAt_dat (c : Dev nD) (t : Fin (cfg0.N + 1)) (O : CellTallies nD τ sig Unit) (h : (dat A B Z c).owed t = O) :
    (iprop(∃ W, owes (c : Thread nD τ) O W) : sProp 𝕄) ⊢ ((dat A B Z c).owesAt () t : sProp 𝕄) := by
  unfold Dat.owesAt Pipeline.owesWithin Dat.bound; rw [h]
  iintro ⟨%W, HO⟩; iexists W; isplitr
  · ipureintro; exact fun _ _ => Or.inl trivial
  iexact HO

/-- The block of a window that takes its whole array is the array. -/
theorem blk0 (f : Vec F S4x1024x1024 .bf16) : (win0_0.blk t0_0).view.read (Elt F) f = f :=
  funext fun j => congrArg f (funext fun a => Fin.ext (by fin_cases a <;> (show 0 * _ + 1 * _ = _; omega)))
theorem blk1 (f : Vec F S1024x2048 .bf16) : (win0_1.blk t0_0).view.read (Elt F) f = f :=
  funext fun j => congrArg f (funext fun a => Fin.ext (by fin_cases a <;> (show 0 * _ + 1 * _ = _; omega)))
theorem blk2 (f : Vec F S4x1024x1024 .i8) : (win0_2.blk t0_0).view.read (Elt F) f = f :=
  funext fun j => congrArg f (funext fun a => Fin.ext (by fin_cases a <;> (show 0 * _ + 1 * _ = _; omega)))
theorem blk3 (f : Vec F S4x1024x1024 .i8) : (win0_3.blk t0_0).view.read (Elt F) f = f :=
  funext fun j => congrArg f (funext fun a => Fin.ext (by fin_cases a <;> (show 0 * _ + 1 * _ = _; omega)))
theorem blk4 (f : Vec F S1x1 .f32) : (win0_4.blk t0_0).view.read (Elt F) f = f :=
  funext fun j => congrArg f (funext fun a => Fin.ext (by fin_cases a <;> (show 0 * _ + 1 * _ = _; omega)))

theorem before0 (c : Dev nD) (d) : (dat A B Z c).before 0 t0_0 d = A c := by
  unfold Dat.before; rw [if_pos (fetch0_0 t0_0)]; exact blk0 (A c)
theorem before1 (c : Dev nD) (d) : (dat A B Z c).before 1 t0_0 d = B c := by
  unfold Dat.before; rw [if_pos (fetch0_1 t0_0)]; exact blk1 (B c)

theorem arr0 (c : Dev nD) : (dat A B Z c).arrAt 0 cfg0.N = A c := (dat A B Z c).arrAt_in 0 rfl _
theorem arr1 (c : Dev nD) : (dat A B Z c).arrAt 1 cfg0.N = B c := (dat A B Z c).arrAt_in 1 rfl _
theorem arr2 (c : Dev nD) : (dat A B Z c).arrAt 2 cfg0.N = yL A B c := by
  rw [← blk2 ((dat A B Z c).arrAt 2 cfg0.N), show cfg0.N = (t0_0 : Fin cfg0.N).val + 1 from N_0, (dat A B Z c).arrAt_succ 2 t0_0, if_pos (flush0_2 t0_0)]
  exact View.read_write_univ _ _
theorem arr3 (c : Dev nD) : (dat A B Z c).arrAt 3 cfg0.N = yR A B c := by
  rw [← blk3 ((dat A B Z c).arrAt 3 cfg0.N), show cfg0.N = (t0_0 : Fin cfg0.N).val + 1 from N_0, (dat A B Z c).arrAt_succ 3 t0_0, if_pos (flush0_3 t0_0)]
  exact View.read_write_univ _ _
theorem arr4 (c : Dev nD) : (dat A B Z c).arrAt 4 cfg0.N = fun _ => scl A B c := by
  rw [← blk4 ((dat A B Z c).arrAt 4 cfg0.N), show cfg0.N = (t0_0 : Fin cfg0.N).val + 1 from N_0, (dat A B Z c).arrAt_succ 4 t0_0, if_pos (flush0_4 t0_0)]
  exact View.read_write_univ _ _

theorem owed_first (c : Dev nD) (t : Fin (cfg0.N + 1)) (h : t.val = 0) : (dat A B Z c).owed t = O₀ c := by
  show (if t.val = 0 then O₀ c else 0) = _; rw [if_pos h]
theorem owed_last (c : Dev nD) (t : Fin (cfg0.N + 1)) (h : t.val ≠ 0) : (dat A B Z c).owed t = 0 := by
  show (if t.val = 0 then O₀ c else 0) = _; rw [if_neg h]
theorem Φ_first (c : Dev nD) (t : Fin (cfg0.N + 1)) (h : t.val = 0) :
    (dat A B Z c).Φ t = iprop(Xk A B c ∗ work (F := F) c ∗ ∃ r, prngReg c r) := by
  show Φk A B t.val c = _; unfold Φk; rw [if_pos h]
theorem Φ_last (c : Dev nD) (t : Fin (cfg0.N + 1)) (h : t.val ≠ 0) :
    (dat A B Z c).Φ t = iprop((semVal (barCell c) 0 ∗ zeros (F := F) c) ∗ work (F := F) c ∗ ∃ r, prngReg c r) := by
  show Φk A B t.val c = _; unfold Φk; rw [if_neg h]

set_option maxRecDepth 20000 in
/-- The region's one point is the body, run from the invariant before it to the invariant after. -/
theorem body_point (c : Dev nD) : BodyObligation (dat A B Z c) defs₀ 𝒱₀ () Set.univ := fun t => by
  obtain rfl := fin_N0 t
  rw [bigSep_W0, bigSep_W0, Φ_first A B Z c _ rfl, Φ_last A B Z c _ (Nat.succ_ne_zero _)]
  show _ ⊢ wp frame (wpE (defs₀ (F := F)) 𝒱₀ c none) Set.univ (cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16) _
  iintro ⟨⟨HX, Hw, Hp⟩, HO, ⟨%d0, H0⟩, ⟨%d1, H1⟩, ⟨%d2, H2⟩, ⟨%d3, H3⟩, ⟨%d4, H4⟩⟩
  ihave HO := (dat_owesAt A B Z c _ (O₀ c) (owed_first A B Z c _ rfl)) $$ HO
  unfold Xk
  icases HX with ⟨⟨%K, HR⟩, Hm, Hr, Ht, Hwt⟩
  iapply (body_run A B K c _)
  isplitl [HR]; · iexact HR
  isplitl [Hm]; · iexact Hm
  isplitl [Hr]; · iexact Hr
  isplitl [Ht]; · iexact Ht
  isplitl [Hwt]; · iexact Hwt
  isplitl [HO]; · iexact HO
  isplitl [H0]; · iapply (Entails.of_eq (congrArg (ow c (Memref.whole cc0_stg0_0)) (before0 A B Z c d0))); iexact H0
  isplitl [H1]; · iapply (Entails.of_eq (congrArg (ow c (Memref.whole cc0_stg1_0)) (before1 A B Z c d1))); iexact H1
  isplitl [H2]; · iapply (ow_any c (Memref.whole cc0_stg2_0) _); iexact H2
  isplitl [H3]; · iapply (ow_any c (Memref.whole cc0_stg3_0) _); iexact H3
  isplitl [H4]; · iapply (ow_any c (Memref.whole cc0_stg4_0) _); iexact H4
  isplitl [Hw]; · iexact Hw
  iintro ⟨Hb, Hz, HO, H0, H1, H2, H3, H4, Hw⟩
  isplitl [Hb Hz Hw Hp]
  · isplitl [Hb Hz]; · isplitl [Hb] <;> iassumption
    isplitl [Hw] <;> iassumption
  isplitl [HO]
  · iapply (owesAt_dat A B Z c _ 0 (owed_last A B Z c _ (Nat.succ_ne_zero _)))
    unfold dbt; rw [Orem_end]; iexact HO
  isplitl [H0]; · iexact H0
  isplitl [H1]; · iexact H1
  isplitl [H2]; · iexact H2
  isplitl [H3]; · iexact H3
  iexact H4

/-! ## The region's record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_at (c : Dev nD) (g : GSem nD τ sig) (i : Unit) (h : 0 < O₀ c g i) : i ∈ L g ∧ (0 : ℕ) < lv g i := by
  unfold O₀ at h
  rw [Pi.add_apply, Finsupp.add_apply, Pi.add_apply, Finsupp.add_apply] at h
  have hb (d : Dev nD) (h : 0 < tallyAt (barCell d) () 1 g i) : i ∈ L g ∧ (0 : ℕ) < lv g i := by
    rw [tallyAt_apply] at h
    split at h
    · next hg =>
      rw [hg.1, L_tc]
      exact ⟨Finset.mem_singleton_self _, Nat.one_pos⟩
    · exact absurd h (Nat.lt_irrefl 0)
  rcases Nat.add_pos_iff_pos_or_pos.mp h with h | h
  · rcases Nat.add_pos_iff_pos_or_pos.mp h with h | h
    · obtain ⟨n, -, rfl⟩ := Orem_pos 0 c g i h
      rw [L_tc]
      refine ⟨Finset.mem_singleton_self _, ?_⟩
      rw [lv_recv]; exact Nat.succ_pos _
    · exact hb _ h
  · exact hb _ h

theorem cut_owed (c : Dev nD) (t : Fin ((Pipeline.pin (pcfgs (F := F)) adm 0).N + 1)) (g : GSem nD τ sig) (i : Unit)
    (h : 0 < (pdats A B Z 0 c).owed t g i) : i ∈ L g ∧ (0 : ℕ) < lv g i := by
  have e : (pdats A B Z 0 c).owed t = if t.val = 0 then O₀ c else 0 := rfl
  rw [e] at h
  split at h
  · exact O₀_at c g i h
  · exact absurd h (Nat.lt_irrefl 0)

end Cert.KernelIdeal.Talk

end
-- ==== Proof.Entry.lean ====
/- The launched region between the host's stretches: entered from the buffers as the host left them, left with the three results written. -/
module

public import proofs.«01_k».proof.Proof.Region

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

open Idealize.ShloMosaic.Pipeline (Dat Cfg BodyObligation cellOf)

variable (m : (ℓ : Loc nD τ sig) → Buf (Elt F) ℓ)

/-- The device's buffers as the region is entered. -/
def Vb (c : Dev nD) : Valuation τ sig (Elt F) := V3 m c
/-- The gathered left operand and the right operand of each device, as the region is entered. -/
def Am : Dev nD → Vec F S4x1024x1024 .bf16 := fun c => Vb m c main_v16
def Bm : Dev nD → Vec F S1024x2048 .bf16 := fun c => Vb m c main_arg1
/-- The windows' arrays as the region is entered. -/
def Zm : Arr F := fun c w => Vb m c (Proc.devRef .tc (Pipeline.arrRef spec0 w))

/-- What the region leaves in its three results. -/
def outs : Outs (F := F) := fun _ r =>
  if h : r = main_v17_0 then h ▸ fun c => yL (Am m) (Bm m) c
  else if h : r = main_v17_1 then h ▸ fun c => yR (Am m) (Bm m) c
  else if h : r = main_v17_2 then h ▸ fun c => fun _ => scl (Am m) (Bm m) c
  else fun c => m ((c : Thread nD τ).loc r)

theorem outs_0 (c : Dev nD) : outs m 4 main_v17_0 c = yL (Am m) (Bm m) c := by unfold outs; rw [dif_pos rfl]
theorem outs_1 (c : Dev nD) : outs m 4 main_v17_1 c = yR (Am m) (Bm m) c := by
  unfold outs; rw [dif_neg (by decide), dif_pos rfl]
theorem outs_2 (c : Dev nD) : outs m 4 main_v17_2 c = fun _ => scl (Am m) (Bm m) c := by
  unfold outs; rw [dif_neg (by decide), dif_neg (by decide), dif_pos rfl]

/-- The device's buffers after the region. -/
def Va (c : Dev nD) : Valuation τ sig (Elt F) := V4 m (outs m) c

theorem Va_0 (c : Dev nD) : Va m c main_v17_0 = yL (Am m) (Bm m) c := by
  unfold Va V4
  rw [Function.update_of_ne (StableHlo.devRef_ne_of_ne (by decide)), Function.update_of_ne (StableHlo.devRef_ne_of_ne (by decide)), Function.update_self, outs_0]
theorem Va_1 (c : Dev nD) : Va m c main_v17_1 = yR (Am m) (Bm m) c := by
  unfold Va V4
  rw [Function.update_of_ne (StableHlo.devRef_ne_of_ne (by decide)), Function.update_self, outs_1]
theorem Va_2 (c : Dev nD) : Va m c main_v17_2 = fun _ => scl (Am m) (Bm m) c := by
  unfold Va V4
  rw [Function.update_self, outs_2]
theorem Va_16 (c : Dev nD) : Va m c main_v16 = Am m c := V4_of m (outs m) c main_v16 (by decide)
theorem Va_arg1 (c : Dev nD) : Va m c main_arg1 = Bm m c := V4_of m (outs m) c main_arg1 (by decide)
theorem Va_rest (c : Dev nD) (b : DevRef τ sig) (h0 : b ≠ Proc.devRef .tc main_v17_0) (h1 : b ≠ Proc.devRef .tc main_v17_1)
    (h2 : b ≠ Proc.devRef .tc main_v17_2) : Va m c b = Vb m c b := by
  unfold Va Vb V4
  rw [Function.update_of_ne h2, Function.update_of_ne h1, Function.update_of_ne h0]

/-- The buffers no window takes. -/
def Sr : Finset (DevRef τ sig) := Pipeline.ucRefs τ sig \ Pipeline.arrRefs (τ := τ) spec0
theorem arr_sub : Pipeline.arrRefs (τ := τ) spec0 ⊆ Pipeline.ucRefs τ sig := by decide

abbrev pd : (p : Fin 1) → (c : Dev nD) → Dat τ (Elt F) Unit ℕ UU ℕ (cfgs p) c := pdats (Am m) (Bm m) (Zm m)

theorem entered (c : Dev nD) : iprop(Pipeline.scopedRest (Pipeline.pin (pcfgs (F := F)) adm 0).spec c ∗ (∃ r, prngReg c r)
      ∗ StableHlo.held (c.tc : Thread nD τ) ∅ (Vb m c) ∗ Xk (Am m) (Bm m) c) ⊢ (pd m 0 c).Φ 0 := by
  rw [show (pd m 0 c).Φ 0 = _ from Φ_first (Am m) (Bm m) (Zm m) c 0 rfl,
    show Pipeline.scopedRest (Ix := Unit) (Name := ℕ) (U := UU) (Lvl := ℕ) (Val := Elt F) (Pipeline.pin (pcfgs (F := F)) adm 0).spec c = work (F := F) c from scopedRest0_eq c]
  iintro ⟨Hw, Hp, -, HX⟩
  isplitl [HX]; · iexact HX
  isplitl [Hw] <;> iassumption

theorem left (c : Dev nD) : (pd m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Va m c) ∗ Pipeline.ownSems0 osem c ∗ Yk (F := F) c) := by
  rw [show (pd m 0 c).Φ (Fin.last _) = _ from Φ_last (Am m) (Bm m) (Zm m) c (Fin.last _) (by rw [Fin.val_last, show cfg0.N = 1 from N_0]; decide),
    show Pipeline.scopedRest (Ix := Unit) (Name := ℕ) (U := UU) (Lvl := ℕ) (Val := Elt F) (Pipeline.pin (pcfgs (F := F)) adm 0).spec c = work (F := F) c from scopedRest0_eq c,
    ownSems_eq]
  unfold Yk StableHlo.held
  rw [bigSep_empty]
  iintro ⟨⟨Hb, Hz⟩, Hw, Hp⟩
  isplitl [Hw]; · iexact Hw
  isplitl [Hp]; · iexact Hp
  isplitr; · iempintro
  isplitl [Hz] <;> iassumption

theorem own_sems : Pipeline.OwnSemFacts spec0 osem := by decide

theorem arr_last (c : Dev nD) (w : Fin cfg0.W) : (pd m 0 c).arrAt w cfg0.N = Va m c (Proc.devRef .tc (Pipeline.arrRef spec0 w)) := by
  fin_cases w
  · exact (arr0 _ _ _ c).trans (Va_16 m c).symm
  · exact (arr1 _ _ _ c).trans (Va_arg1 m c).symm
  · exact (arr2 _ _ _ c).trans (Va_0 m c).symm
  · exact (arr3 _ _ _ c).trans (Va_1 m c).symm
  · exact (arr4 _ _ _ c).trans (Va_2 m c).symm
theorem dat_A (V : Dev nD → Valuation τ sig (Elt F)) (c : Dev nD) (w : Fin cfg0.W) :
    (dat (fun c => V c main_v16) (fun c => V c main_arg1) (fun c w => V c (Proc.devRef .tc (Pipeline.arrRef spec0 w))) c).A w
      = V c (Proc.devRef .tc (Pipeline.arrRef spec0 w)) := by
  match w with
  | ⟨0, _⟩ => rfl
  | ⟨1, _⟩ => rfl
  | ⟨2, _⟩ => rfl
  | ⟨3, _⟩ => rfl
  | ⟨4, _⟩ => rfl
theorem arr_first (c : Dev nD) (w : Fin cfg0.W) : (pd m 0 c).arrAt w 0 = Vb m c (Proc.devRef .tc (Pipeline.arrRef spec0 w)) :=
  dat_A (Vb m) c w

/-- The staging transfers' counters rank below everything. -/
theorem stage_lv (w : Fin cfg0.W) (s : Fin (cfg0.win w).nbuf) : lvS (.dma ((cfg0.win w).sem s)) = 0 := by
  match w with
  | ⟨0, _⟩ => rfl
  | ⟨1, _⟩ => rfl
  | ⟨2, _⟩ => rfl
  | ⟨3, _⟩ => rfl
  | ⟨4, _⟩ => rfl

theorem Sr_rest (c : Dev nD) (b : DevRef τ sig) (hb : b ∈ Sr \ ∅) : Va m c b = Vb m c b := by
  have h : b ∉ Pipeline.arrRefs (τ := τ) spec0 := (Finset.mem_sdiff.mp (Finset.mem_sdiff.mp hb).1).2
  exact Va_rest m c b (fun e => h (by rw [e]; decide)) (fun e => h (by rw [e]; decide)) (fun e => h (by rw [e]; decide))

set_option backward.isDefEq.respectTransparency.types false in
/-- The region as a record of the launch kit. -/
def reg : Pipeline.RegionSeg (pcfgs (F := F)) adm (pd m) () defs₀ 𝒱₀ L lv 0 :=
  Pipeline.RegionSeg.ofTalk (pcfgs (F := F)) adm (pd m) () defs₀ 𝒱₀ L lv 0 osem own_sems ∅ Sr (Finset.empty_subset _) kit rfl
    (fun c => (body_point (Am m) (Bm m) (Zm m) c).loose)
    (fun _ => 0) O₀ (fun c => (owed_first (Am m) (Bm m) (Zm m) c 0 rfl).trans (zero_add _).symm)
    (fun c => owed_last (Am m) (Bm m) (Zm m) c (Fin.last _) (by rw [Fin.val_last, show cfg0.N = 1 from N_0]; decide))
    (fun _ => rfl) (fun c w => by unfold Dat.share; split <;> rfl)
    (Vb m) (Va m) (Sr_rest m)
    (Tk (Am m) (Bm m)) (Yk (F := F)) (Xk (Am m) (Bm m)) (Yk (F := F)) (opening (Am m) (Bm m)) (entered m) (left m)
    (fun c => by iintro H; imodintro; iexact H)
    (fun _ => 0)
    ⟨fun c w s => by rw [L_tc]; exact Finset.mem_singleton_self _, fun c w s => le_of_eq (stage_lv w s), fun c t g i h => cut_owed (Am m) (Bm m) (Zm m) c t g i h⟩
    (fun _ => iprop(emp))
    (arr_first m) (arr_last m)

/-- What rides along from the launch to the region, and from the region to the end. -/
def E0 (c : Dev nD) : sProp 𝕄 := iprop(Tk (Am m) (Bm m) c ∗ (∃ r, prngReg c r) ∗ ∃ W, owes (c : Thread nD τ) (O₀ c) W)
def E1 (c : Dev nD) : sProp 𝕄 := iprop(semVal (barCell c) 0 ∗ ∃ W, owes (c : Thread nD τ) (0 : CellTallies nD τ sig Unit) W)
def E : Fin 2 → Dev nD → sProp 𝕄 := fun | 0 => E0 m | 1 => E1

theorem held_split (c : Dev nD) (V : Valuation τ sig (Elt F)) :
    (StableHlo.held (c.tc : Thread nD τ) (Pipeline.ucRefs τ sig) V : sProp 𝕄)
      = iprop(StableHlo.held (c.tc : Thread nD τ) (Pipeline.arrRefs (τ := τ) spec0) V ∗ StableHlo.held (c.tc : Thread nD τ) Sr V) :=
  StableHlo.held_sub_split (c.tc : Thread nD τ) arr_sub V

theorem reg_pre (c : Dev nD) : iprop(StableHlo.held (c : Thread nD τ) (Pipeline.ucRefs τ sig) (V3 m c) ∗ E m 0 c) ⊢ (reg m).pre c := by
  show iprop(StableHlo.held (c.tc : Thread nD τ) (Pipeline.ucRefs τ sig) (Vb m c) ∗ E0 m c) ⊢ iprop(StableHlo.held (c.tc : Thread nD τ) (Pipeline.arrRefs (τ := τ) spec0) (Vb m c) ∗ (∃ r, prngReg c r)
    ∗ (StableHlo.held (c.tc : Thread nD τ) Sr (Vb m c) ∗ emp) ∗ Tk (Am m) (Bm m) c ∗ ∃ Wd, owes (c : Thread nD τ) (0 + O₀ c) Wd)
  rw [held_split, zero_add]
  unfold E0
  iintro ⟨⟨Ha, Hs⟩, HT, Hp, HO⟩
  isplitl [Ha]; · iexact Ha
  isplitl [Hp]; · iexact Hp
  isplitl [Hs]
  · isplitl [Hs]; · iexact Hs
    iempintro
  isplitl [HT] <;> iassumption

theorem reg_post (c : Dev nD) : (reg m).post c ⊢ iprop(StableHlo.held (c : Thread nD τ) (Pipeline.ucRefs τ sig) (V4 m (outs m) c) ∗ E m 1 c) := by
  show iprop(StableHlo.held (c.tc : Thread nD τ) (Pipeline.arrRefs (τ := τ) spec0) (Va m c) ∗ (∃ r, prngReg c r)
    ∗ (StableHlo.held (c.tc : Thread nD τ) Sr (Va m c) ∗ emp) ∗ Yk (F := F) c ∗ ∃ Wd, owes (c : Thread nD τ) (0 : CellTallies nD τ sig Unit) Wd)
    ⊢ iprop(StableHlo.held (c.tc : Thread nD τ) (Pipeline.ucRefs τ sig) (Va m c) ∗ E1 c)
  rw [held_split]
  unfold E1 Yk
  iintro ⟨Ha, -, ⟨Hs, -⟩, Hb, HO⟩
  isplitl [Ha Hs]
  · isplitl [Ha] <;> iassumption
  isplitl [Hb] <;> iassumption

end Cert.KernelIdeal.Talk

end
-- ==== Proof.Run.lean ====
/- The launch: every invariant set up, every right and every unit dealt to the device that uses it; and the whole run. -/
module

public import proofs.«01_k».proof.Proof.Entry
public import Idealize.ShloMosaic.Harness.Basic

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Wire

variable {F : FTy → Type} [FloatOps F]

local notation "𝕄" => MT nD τ sig Unit (Elt F) ℕ UU ℕ

variable (A : Dev nD → Vec F S4x1024x1024 .bf16) (B : Dev nD → Vec F S1024x2048 .bf16) (K : GSem nD τ sig → ℕ)

open Idealize.ShloMosaic.Pipeline (Dat Seg)

/-! ## The launch element -/

/-- Every duty of every counter: two of each meeting counter, one of each copy's. -/
def dutyEmb : Dev nD × (Bool ⊕ I) ↪ GSem nD τ sig × ℕ × Bool where
  toFun p := Sum.elim (fun b => (barCell p.1, 0, b)) (fun k => (cell k p.1, 0, false)) p.2
  inj' p q h := by
    obtain ⟨c, x⟩ := p; obtain ⟨d, y⟩ := q
    cases x <;> cases y
    · have h1 : c = d := congrArg (fun t : GSem nD τ sig × ℕ × Bool => t.1.1.1) h
      have h2 := congrArg (fun t : GSem nD τ sig × ℕ × Bool => t.2.2) h
      exact Prod.ext h1 (congrArg Sum.inl h2)
    · exact absurd (congrArg (fun t : GSem nD τ sig × ℕ × Bool => t.1.2) h) (by intro e; cases e)
    · exact absurd (congrArg (fun t : GSem nD τ sig × ℕ × Bool => t.1.2) h) (by intro e; cases e)
    · have h1 : c = d := congrArg (fun t : GSem nD τ sig × ℕ × Bool => t.1.1.1) h
      have h2 := congrArg (fun t : GSem nD τ sig × ℕ × Bool => t.1.2) h
      exact Prod.ext h1 (congrArg Sum.inr (dsem_inj (SemLoc.dma.inj h2)))
def dutySet : Finset (GSem nD τ sig × ℕ × Bool) := Finset.univ.map dutyEmb

theorem cells_apart : Disjoint barCells scCells := by
  rw [Finset.disjoint_left]
  rintro g h₁ h₂
  obtain ⟨c, -, rfl⟩ := Finset.mem_map.mp h₁
  obtain ⟨ck, -, h⟩ := Finset.mem_map.mp h₂
  exact absurd (congrArg Prod.snd h) (by intro e; cases e)

/-- The launch element: the staging cells' share, and the copies' protocol. -/
def u₀ : UU :=
  (initOf (Pipeline.cells (Pipeline.pin (pcfgs (F := F)) adm) cellOf_inj) (Pipeline.launchToks (Pipeline.pin (pcfgs (F := F)) adm) cellOf_inj),
    launchOf barCells scCells dutySet)

/-- The protocol's element, held by device 0 until it is dealt. -/
def G (c : Dev nD) : sProp 𝕄 := if c = 0 then BI.own (ER (launchOf barCells scCells dutySet)) else iprop(emp)
theorem G_all : bigSep Finset.univ (G (F := F)) = BI.own (ER (launchOf barCells scCells dutySet)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Rights dealt to the devices that pay with them -/

def ringN : Dev nD ≃ Dev nD := ⟨nx, pv, pv_nx, nx_pv⟩
def ringP : Dev nD ≃ Dev nD := ⟨pv, nx, nx_pv, pv_nx⟩
def way (n : Fin 21) : Dev nD ≃ Dev nD := ⟨tgt n, frm n, frm_tgt n, tgt_frm n⟩

theorem duties_eq : bigSep dutySet (fun x => (dutyTok ER x.1 x.2.1 x.2.2 : sProp 𝕄))
    = iprop(((bigSep Finset.univ fun c : Dev nD => dutyTok ER (barCell c) 0 false) ∗ (bigSep Finset.univ fun c : Dev nD => dutyTok ER (barCell c) 0 true))
        ∗ ((bigSep Finset.univ fun c : Dev nD => bigSep Finset.univ fun n : Fin 21 => dutyTok ER (cell (n, false) c) 0 false)
          ∗ (bigSep Finset.univ fun c : Dev nD => bigSep Finset.univ fun n : Fin 21 => dutyTok ER (cell (n, true) c) 0 false))) := by
  unfold dutySet
  rw [bigSep_map, bigSep_univ_prod, ← bigSep_sep', ← bigSep_sep', ← bigSep_sep']
  refine bigSep_congr fun c _ => ?_
  rw [bigSep_univ_sum, split_I, show (Finset.univ : Finset Bool) = {false, true} from by decide, bigSep_insert (by decide), bigSep_singleton]
  rfl

/-- Each device's rights: to meet its left and its right neighbour, and to pay both ends of its own copies. -/
theorem duties_dealt : bigSep dutySet (fun x => (dutyTok ER x.1 x.2.1 x.2.2 : sProp 𝕄))
    = iprop(((bigSep Finset.univ fun c : Dev nD => dutyTok ER (barCell (pv c)) 0 false) ∗ (bigSep Finset.univ fun c : Dev nD => dutyTok ER (barCell (nx c)) 0 true))
        ∗ bigSep Finset.univ fun c : Dev nD => bigSep Finset.univ fun n : Fin 21 =>
            iprop(dutyTok ER (cell (n, false) c) 0 false ∗ dutyTok ER (cell (n, true) (tgt n c)) 0 false)) := by
  have h : (bigSep Finset.univ fun c : Dev nD => bigSep Finset.univ fun n : Fin 21 => (dutyTok ER (cell (n, true) c) 0 false : sProp 𝕄))
      = bigSep Finset.univ fun c : Dev nD => bigSep Finset.univ fun n : Fin 21 => dutyTok ER (cell (n, true) (tgt n c)) 0 false := by
    rw [BI.bigSep_univ_comm]
    rw [BI.bigSep_univ_comm (fun (c : Dev nD) (n : Fin 21) => (dutyTok ER (cell (n, true) (tgt n c)) 0 false : sProp 𝕄))]
    exact bigSep_congr fun n _ => bigSep_univ_equiv (way n) fun c : Dev nD => (dutyTok ER (cell (n, true) c) 0 false : sProp 𝕄)
  have h2 : (bigSep Finset.univ fun c : Dev nD => bigSep Finset.univ fun n : Fin 21 =>
        (iprop(dutyTok ER (cell (n, false) c) 0 false ∗ dutyTok ER (cell (n, true) (tgt n c)) 0 false) : sProp 𝕄))
      = iprop((bigSep Finset.univ fun c : Dev nD => bigSep Finset.univ fun n : Fin 21 => dutyTok ER (cell (n, false) c) 0 false)
        ∗ (bigSep Finset.univ fun c : Dev nD => bigSep Finset.univ fun n : Fin 21 => dutyTok ER (cell (n, true) (tgt n c)) 0 false)) := by
    rw [← bigSep_sep']
    exact bigSep_congr fun c _ => by rw [bigSep_sep']
  have hF : bigSep Finset.univ (fun c : Dev nD => (dutyTok ER (barCell c) 0 false : sProp 𝕄)) = bigSep Finset.univ fun c : Dev nD => dutyTok ER (barCell (pv c)) 0 false :=
    bigSep_univ_equiv ringP fun c : Dev nD => (dutyTok ER (barCell c) 0 false : sProp 𝕄)
  have hT : bigSep Finset.univ (fun c : Dev nD => (dutyTok ER (barCell c) 0 true : sProp 𝕄)) = bigSep Finset.univ fun c : Dev nD => dutyTok ER (barCell (nx c)) 0 true :=
    bigSep_univ_equiv ringN fun c : Dev nD => (dutyTok ER (barCell c) 0 true : sProp 𝕄)
  rw [h2, ← hF, ← hT, ← h, duties_eq]

/-! ## Units dealt to the devices that wait for them -/

theorem launch_units (c : Dev nD) : (Pipeline.launchCred O₀ c : sProp 𝕄)
    ⊢ iprop(cred (tallyAt (barCell c) () 2) ∗ bigSep Finset.univ fun n : Fin 21 => cred (tallyAt (cell (n, true) c) () (amt n))) := by
  have e : (O₀ : Dev nD → CellTallies nD τ sig Unit)
      = fun d => (fun d => (fun d => ∑ n ∈ (Finset.univ : Finset (Fin 21)), tallyAt (cell (n, true) (tgt n d)) () (amt n)) d + tallyAt (barCell (nx d)) () 1) d
          + tallyAt (barCell (pv d)) () 1 := by
    funext d
    unfold O₀ Orem
    rw [Finset.filter_true_of_mem fun m _ => Nat.zero_le _]
  rw [e, Pipeline.launchCred_add, Pipeline.launchCred_add, Pipeline.launchCred_sum]
  have hc : (bigSep Finset.univ fun n : Fin 21 => (Pipeline.launchCred (fun d => tallyAt (cell (n, true) (tgt n d)) () (amt n)) c : sProp 𝕄))
      ⊢ bigSep Finset.univ fun n : Fin 21 => cred (tallyAt (cell (n, true) c) () (amt n)) :=
    bigSep_mono fun n _ => Pipeline.launchCred_tallyAt (.dma (dsem (n, true))) (tgt n) (frm n) (tgt_frm n) (frm_tgt n) () (amt n) c
  iintro ⟨⟨Hc, H1⟩, H2⟩
  ihave H1 := (Pipeline.launchCred_tallyAt (Val := Elt F) (Name := ℕ) (U := UU) (Lvl := ℕ) (.reg barS) nx pv nx_pv pv_nx () 1 c) $$ H1
  ihave H2 := (Pipeline.launchCred_tallyAt (Val := Elt F) (Name := ℕ) (U := UU) (Lvl := ℕ) (.reg barS) pv nx pv_nx nx_pv () 1 c) $$ H2
  isplitl [H1 H2]
  · rw [show (2 : ℕ) = 1 + 1 from rfl, ← tallyAt_add]
    iapply (cred_add _ _).2
    isplitl [H1]; · iexact H1
    iexact H2
  iapply hc; iexact Hc

theorem unscoped_eq : ∀ sm : SemLoc sig, sm.isScoped .tc = false → sm = .reg barS := by decide
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The launch -/

variable (m : (ℓ : Loc nD τ sig) → Buf (Elt F) ℓ) (ρ : Dev nD → PrngReg)

/-- What is common to all devices once the invariants stand. -/
def common : sProp 𝕄 := iprop(recs A B K ∗ bigSep barCells fun g => reached ER g 0)
instance common_persistent : BI.Persistent (common A B K : sProp 𝕄) := by unfold common; infer_instance

/-- What each device has of its own. -/
def own1 (c : Dev nD) : sProp 𝕄 :=
  iprop(((dutyTok ER (barCell (pv c)) 0 false ∗ dutyTok ER (barCell (nx c)) 0 true)
      ∗ (bigSep Finset.univ fun n : Fin 21 => iprop(dutyTok ER (cell (n, false) c) 0 false ∗ dutyTok ER (cell (n, true) (tgt n c)) 0 false)))
    ∗ atPos ER (barCell c) 0 ∅ 0 ∗ (bigSep Finset.univ fun k : I => openTok ER (cell k c)))
def own2 (c : Dev nD) : sProp 𝕄 :=
  iprop((cred (tallyAt (barCell c) () 2) ∗ bigSep Finset.univ fun n : Fin 21 => cred (tallyAt (cell (n, true) c) () (amt n)))
    ∗ owes (c : Thread nD τ) (O₀ c) ∅ ∗ ∃ r, prngReg c r)

theorem reached_bar (c : Dev nD) : (bigSep barCells fun g => (reached ER g 0 : sProp 𝕄)) ⊢ reached ER (barCell c) 0 :=
  bigSep_elim (Finset.mem_map_of_mem barEmb (Finset.mem_univ c))

theorem E0_intro (c : Dev nD) : iprop(common (Am m) (Bm m) K ∗ (own1 (F := F) c ∗ own2 (F := F) c)) ⊢ E0 m c := by
  unfold common own1 own2 E0 Tk meets
  iintro ⟨⟨#HR, #Hr⟩, ⟨⟨⟨HtF, HtT⟩, Hts⟩, Hat, Hop⟩, ⟨Hb, Hcs⟩, HO, Hp⟩
  isplitr [HO Hp]
  · isplitr; · iexists K; iexact HR
    isplitl [HtF HtT Hb Hat]
    · isplitr; · iapply (reached_bar (F := F) (nx c)); iexact Hr
      isplitr; · iapply (reached_bar (F := F) (pv c)); iexact Hr
      isplitl [HtF]; · iexact HtF
      isplitl [HtT]; · iexact HtT
      isplitl [Hb] <;> iassumption
    isplitl [Hop]; · iexact Hop
    isplitl [Hts] <;> iassumption
  isplitl [Hp]; · iexact Hp
  iexists ∅; iexact HO

/-- From what the launch hands every device to what each enters the program with. -/
theorem dealing : iprop((bigSep Finset.univ fun c : Dev nD => iprop(unscopedSems0 c ∗ owes (c : Thread nD τ) (O₀ c) ∅ ∗ Pipeline.launchCred O₀ c ∗ prngReg c (ρ c) ∗ G (F := F) c)) ∗ levAts L lv)
    ⊢ (|={Set.univ}=> bigSep Finset.univ (E0 m) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(own2 (F := F) c ∗ (semVal (barCell c) 0 ∗ G (F := F) c)) : sProp 𝕄) := by
    rw [unscopedSems_eq]
    unfold own2
    iintro ⟨Hs, HO, Hc, Hp, HG⟩
    ihave Hc := (launch_units (F := F) c) $$ Hc
    isplitl [HO Hc Hp]
    · isplitl [Hc]; · iexact Hc
      isplitl [HO]; · iexact HO
      iexists (ρ c); iexact Hp
    isplitl [Hs] <;> iassumption
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have hop : bigSep scCells (fun g => (openTok ER g : sProp 𝕄)) = bigSep Finset.univ (fun c : Dev nD => bigSep Finset.univ fun k : I => openTok ER (cell k c)) := by
    unfold scCells
    rw [bigSep_map, bigSep_univ_prod]
    rfl
  iintro ⟨H, #Hlev⟩
  ihave H := (show (bigSep Finset.univ fun c : Dev nD => iprop(unscopedSems0 c ∗ owes (c : Thread nD τ) (O₀ c) ∅ ∗ Pipeline.launchCred O₀ c ∗ prngReg c (ρ c) ∗ G (F := F) c))
      ⊢ (iprop((bigSep Finset.univ fun c : Dev nD => own2 (F := F) c) ∗ (bigSep Finset.univ fun c : Dev nD => semVal (barCell c) 0) ∗ bigSep Finset.univ (G (F := F))) : sProp 𝕄) from by
        rw [← bigSep_sep', ← bigSep_sep']; exact bigSep_mono fun c _ => hcore c) $$ H
  icases H with ⟨H2, Hv, HG⟩
  ihave Hu := (Entails.of_eq (G_all (F := F))) $$ HG
  imod (Rounds.fund_launch ER (rd (Am m) (Bm m)) cells_apart (fun g _ h => h) dutySet) $$ [Hv Hu] with ⟨%κ, -, #Hinv, #Hr, Hat, Hopen, Htok⟩
  · isplitl [Hv]
    · iapply (Entails.of_eq hv) $$ Hv
    · iexact Hu
  imodintro
  iapply (bigSep_with_persistent (R := common (Am m) (Bm m) κ) (Φ := fun c => iprop(own1 (F := F) c ∗ own2 (F := F) c)) fun c _ => E0_intro κ m c)
  isplitr
  · unfold common recs
    isplitr
    · isplitr; · iexact Hinv
      iexact Hlev
    iexact Hr
  rw [bigSep_sep']
  isplitr [H2]
  · unfold own1
    rw [bigSep_sep', bigSep_sep', bigSep_sep', bigSep_sep']
    isplitl [Htok]; · iapply (Entails.of_eq (duties_dealt (F := F))) $$ Htok
    isplitl [Hat]; · iapply (Entails.of_eq hat) $$ Hat
    iapply (Entails.of_eq hop) $$ Hopen
  · iexact H2

/-! ## The run -/

/-- What each device ends with. -/
def Tn (c : Dev nD) : sProp 𝕄 := iprop(StableHlo.held (c : Thread nD τ) (Pipeline.ucRefs τ sig) (V9 m (outs m) c) ∗ semVal (barCell c) 0)

set_option maxRecDepth 8000 in
set_option backward.isDefEq.respectTransparency.types false in
/-- THE RUN: from any memory with every counter at zero, every fair execution of the program on the four devices ends; every
    final memory holds every buffer of the host as the program's text computes it, and every counter reads zero again. -/
theorem run_main : θ_run defs (onTc (τ := τ) (main (F := F))) ⟨m, fun _ => 0, ρ⟩
    (fun r => (∀ c : Dev nD, ∀ b ∈ Pipeline.ucRefs τ sig, r.2.mem (c, b) = V9 m (outs m) c b) ∧ r.2.sem = fun _ => 0) := by
  refine Pipeline.θ_run_regions_kit_dev_sems (pcfgs (F := F)) adm (pd m) () cellOf_inj EP defs₀ 𝒱₀ L lv m ρ main
    (segs m (outs m) 𝒱₀ L lv (E m) () (pd m) (reg m))
    (fun c Q => by
      rewrite [main_chain c, Seg.run_eq_chain,
        show (segs m (outs m) 𝒱₀ L lv (E m) () (pd m) (reg m) c).map Seg.prog = [
          StableHlo.seq (hostOps0 c),
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4 ] from rfl]
      dsimp (config := { failIfUnchanged := false }) only
      exact .rfl)
    (fun c => by simp only [segs, Seg.pipes_host, Seg.pipes_region, Seg.pipes_nil]; decide) O₀ L_of_ne (G (F := F)) u₀
    (by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ E m 0 c))
    (Tₙ := Tn m)
    (hch := fun c => ⟨.rfl, .rfl, .rfl, reg_pre m c, reg_post m c, .rfl, .rfl, .rfl, .rfl, ?_⟩)
    (hinit := ?_) (QY := fun c s => (∀ b ∈ Pipeline.ucRefs τ sig, s.mem (c, b) = V9 m (outs m) c b) ∧ s.sem (barCell c) = 0)
    (hfin := fun c s' => ?_)
    (hQ := fun s h hs => ⟨fun c => (h c).1, sem_eq_zero hs fun c sm hsm => by obtain rfl := unscoped_eq sm hsm; exact (h c).2⟩)
  · show iprop(StableHlo.held (c : Thread nD τ) (Pipeline.ucRefs τ sig) (V9 m (outs m) c) ∗ E1 (F := F) c) ⊢ iprop(Tn m c ∗ ∃ W, owes (c : Thread nD τ) (0 : CellTallies nD τ sig Unit) W)
    unfold Tn E1
    iintro ⟨Hh, Hb, HO⟩
    isplitl [Hh Hb]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (dealing m ρ) $$ [Hr Hla] with HE
    · isplitl [Hr]; · iexact Hr
      iexact Hla
    imodintro
    rw [bigSep_sep']
    isplitl [Hh]; · iexact Hh
    iexact HE
  · unfold Tn StableHlo.held
    iintro ⟨⟨Hh, Hb⟩, HSI⟩
    icombine HSI Hb gives %hb
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      exact ⟨h, by simpa using hb⟩
    · iexact HSI

/-- The arguments end as they were. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨(h.1 c (Proc.devRef .tc main_arg0) (Finset.mem_filter.mpr ⟨StableHlo.devRef_mem_tcRefs main_arg0, by decide⟩)).trans (V9_main_arg0 m (outs m) c),
      (h.1 c (Proc.devRef .tc main_arg1) (Finset.mem_filter.mpr ⟨StableHlo.devRef_mem_tcRefs main_arg1, by decide⟩)).trans (V9_main_arg1 m (outs m) c)⟩, h.2⟩)
    (run_main m ρ)

end Cert.KernelIdeal.Talk

end
-- ==== Proof.Frames.lean ====
/- The machine's program is the same text as the idealised one: the two are equal definitions, and the run of one is the run of the other. -/
module

public import proofs.«01_k».proof.Defs
public import proofs.«01_k».proof.Proof.Run
public import proofs.«01_k».proof.Proof.Gen.Kernel
public import proofs.«01_k».proof.Proof.Gen.Kernel.Launch

@[expose] public section

noncomputable section

namespace Cert.Same

open Idealize.ShloMosaic Idealize.ShloMosaic.TcCoe Idealize.SL.Sem

attribute [local instance] Cert.Kernel.Gen.facts Cert.KernelIdeal.Gen.facts
set_option maxHeartbeats 2000000

/-! The two texts are the same: the kernel's body, the table of bodies, and the host's stretches. -/

theorem body_same : @Cert.Kernel.cc0__body Bits _ _ = @Cert.KernelIdeal.cc0__body Bits _ _ := by
  delta Cert.Kernel.cc0__body Cert.KernelIdeal.cc0__body; rfl
theorem table_same : Cert.Kernel.defs₀ (F := Bits) = Cert.KernelIdeal.defs₀ (F := Bits) := by
  delta Cert.Kernel.defs₀ Cert.KernelIdeal.defs₀
  refine congrArg Defs.onTc ?_
  funext l x
  match l, x with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _) _) _) _) _) _) _) _) _) _
theorem defs_same : Cert.Kernel.defs (F := Bits) = Cert.KernelIdeal.defs (F := Bits) := by
  delta Cert.Kernel.defs Cert.KernelIdeal.defs
  rw [table_same]; rfl

theorem ops1_same : Cert.Kernel.Gen.hostOps1 (F := Bits) = Cert.KernelIdeal.Gen.hostOps1 (F := Bits) := by delta Cert.Kernel.Gen.hostOps1 Cert.KernelIdeal.Gen.hostOps1; rfl
theorem ops1_1_same : Cert.Kernel.Gen.hostOps1_1 (F := Bits) = Cert.KernelIdeal.Gen.hostOps1_1 (F := Bits) := by delta Cert.Kernel.Gen.hostOps1_1 Cert.KernelIdeal.Gen.hostOps1_1; rfl
theorem ops1_2_same : Cert.Kernel.Gen.hostOps1_2 (F := Bits) = Cert.KernelIdeal.Gen.hostOps1_2 (F := Bits) := by delta Cert.Kernel.Gen.hostOps1_2 Cert.KernelIdeal.Gen.hostOps1_2; rfl
theorem ops1_3_same : Cert.Kernel.Gen.hostOps1_3 (F := Bits) = Cert.KernelIdeal.Gen.hostOps1_3 (F := Bits) := by delta Cert.Kernel.Gen.hostOps1_3 Cert.KernelIdeal.Gen.hostOps1_3; rfl
theorem ops1_4_same : Cert.Kernel.Gen.hostOps1_4 (F := Bits) = Cert.KernelIdeal.Gen.hostOps1_4 (F := Bits) := by delta Cert.Kernel.Gen.hostOps1_4 Cert.KernelIdeal.Gen.hostOps1_4; rfl
theorem ops0_1_same : Cert.Kernel.Gen.hostOps0_1 (F := Bits) = Cert.KernelIdeal.Gen.hostOps0_1 (F := Bits) := by delta Cert.Kernel.Gen.hostOps0_1 Cert.KernelIdeal.Gen.hostOps0_1; rfl
theorem ops0_2_same : Cert.Kernel.Gen.hostOps0_2 (F := Bits) = Cert.KernelIdeal.Gen.hostOps0_2 (F := Bits) := by delta Cert.Kernel.Gen.hostOps0_2 Cert.KernelIdeal.Gen.hostOps0_2; rfl
theorem ops0_same (c : Dev 4) : Cert.Kernel.Gen.hostOps0 (F := Bits) c = Cert.KernelIdeal.Gen.hostOps0 (F := Bits) c := by delta Cert.Kernel.Gen.hostOps0 Cert.KernelIdeal.Gen.hostOps0; rfl

theorem main_same : Cert.Kernel.main (F := Bits) = Cert.KernelIdeal.main (F := Bits) := by
  funext c
  rw [Cert.KernelIdeal.Gen.main_chain, ← ops0_same, ← ops0_1_same, ← ops0_2_same, ← ops1_same, ← ops1_1_same, ← ops1_2_same, ← ops1_3_same, ← ops1_4_same]
  exact Cert.Kernel.Gen.main_chain c

/-- The machine's program runs, leaves its arguments as they were and every counter at zero. -/
theorem kernel_frame : Cert.quiescent_Kernel := by
  intro m g _
  have key : ∀ D M, D = Cert.KernelIdeal.defs (F := Bits) → M = Cert.KernelIdeal.main (F := Bits) →
      θ_run D (onTc (τ := Cert.KernelIdeal.τ) M) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
    rintro _ _ rfl rfl
    exact Cert.KernelIdeal.Talk.run_frame (F := Bits) m g
  exact key _ _ defs_same main_same

end Cert.Same

end
-- ==== Proof.Host.lean ====
/- What the host does around the kernel, read entry by entry: which row block every gather takes. -/
module

public import proofs.«01_k».proof.Proof.Entry
public import Idealize.ShloMosaic.Lib.StableHlo.RunRead
public import Idealize.ShloMosaic.Lib.Pipeline.Value
public import Idealize.ShloMosaic.Lib.ValueIdx

@[expose] public section

noncomputable section

namespace Cert.KernelIdeal.Talk

open Idealize.ShloMosaic
open Idealize.ShloMosaic.TcCoe
open Idealize.ShloMosaic.StableHlo
open Idealize.ShloMosaic.ValueIdx hiding ix0 ix1 ix2 ix3 ix4 ix5
open Cert.KernelIdeal.Gen Cert.Wire

variable {F : FTy → Type} [FloatOps F]

variable (m : (ℓ : Loc nD τ sig) → Buf (Elt F) ℓ)

/-! ## Words -/

/-- The remainder by four as the host takes it: with the divisor's sign. -/
def mod4 (x : BitVec 32) : BitVec 32 :=
  let r := IntOp.remsi .host x (Scalar.select (IntOp.cmpi .eq 4#32 0#32) 1#32 4#32)
  Scalar.select (IntOp.andi (IntOp.cmpi .ne (IntOp.cmpi .slt r 0#32) (IntOp.cmpi .slt (Scalar.select (IntOp.cmpi .eq 4#32 0#32) 1#32 4#32) 0#32))
    (IntOp.cmpi .ne r 0#32)) (IntOp.addi r (Scalar.select (IntOp.cmpi .eq 4#32 0#32) 1#32 4#32)) r
/-- A place counted from the end when it is negative. -/
def wrap4 (x : BitVec 32) : BitVec 32 := Scalar.select (IntOp.cmpi .slt x 0#32) (IntOp.addi x 4#32) x
/-- The device's number. -/
def self (c : Dev nD) : BitVec 32 := IntOp.remui .host (IntOp.divui .host (Dev.word c) 1#32) 4#32

theorem own_place (c : Dev nD) (q : Fin 4) :
    (wrap4 (mod4 (IntOp.subi (self c) (BitVec.ofNat 32 q.val)))).toInt.toNat = (c.val + (4 - q.val)) % 4 := by
  revert c q; decide
theorem left_place (c : Dev nD) (q : Fin 4) :
    (wrap4 (mod4 (IntOp.subi (IntOp.addi (self c) 1#32) (BitVec.ofNat 32 q.val)))).toInt.toNat = (c.val + 1 + (4 - q.val)) % 4 := by
  revert c q; decide
theorem right_place (c : Dev nD) (q : Fin 4) :
    (wrap4 (mod4 (IntOp.addi (IntOp.subi (BitVec.ofNat 32 q.val) (self c)) 1#32))).toInt.toNat = (q.val + (4 - c.val) + 1) % 4 := by
  revert c q; decide

/-! ## A gather of row blocks -/

/-- The gather takes, for place `q`, the block its index names. -/
theorem gather_block {α : Type} (x : S4x1024x1024.Idx → α) (idx : IVec S4x1 32) (q : Fin 4) (i k : Fin 1024) (b : Fin 4)
    (hb : (idx (ix2 q 0)).toInt.toNat = b.val) :
    Host.gather gather_S4x1024x1024_S4x1_S4x1024x1024_12_0_n_n_0_1_110241024 x idx (ix3 q i k) = x (ix3 b i k) := by
  have h0 : GatherDims.start gather_S4x1024x1024_S4x1_S4x1024x1024_12_0_n_n_0_1_110241024 (ix3 q i k) idx (0 : Fin 3) = b.val := by
    unfold GatherDims.start
    rw [dif_pos (show (0 : Fin 3) ∈ gather_S4x1024x1024_S4x1_S4x1024x1024_12_0_n_n_0_1_110241024.startIndexMap from List.mem_singleton.mpr rfl)]
    have hsi : GatherDims.siIdx gather_S4x1024x1024_S4x1_S4x1024x1024_12_0_n_n_0_1_110241024 (ix3 q i k)
        ⟨List.idxOf (0 : Fin 3) gather_S4x1024x1024_S4x1_S4x1024x1024_12_0_n_n_0_1_110241024.startIndexMap,
          List.idxOf_lt_length_iff.2 (List.mem_singleton.mpr rfl)⟩ = ix2 q 0 := by
      funext b; refine Fin.ext ?_
      match b with
      | ⟨0, _⟩ => rfl
      | ⟨1, _⟩ => rfl
    rw [hsi, hb]
    show min b.val 3 = b.val
    omega
  have h1 : ∀ a : Fin 3, a ≠ 0 → GatherDims.start gather_S4x1024x1024_S4x1_S4x1024x1024_12_0_n_n_0_1_110241024 (ix3 q i k) idx a = 0 := by
    intro a ha
    unfold GatherDims.start
    exact dif_neg fun h => ha (List.mem_singleton.mp h)
  have e0 : GatherDims.offCoord gather_S4x1024x1024_S4x1_S4x1024x1024_12_0_n_n_0_1_110241024 (ix3 q i k) (0 : Fin 3) = 0 := rfl
  have e1 : GatherDims.offCoord gather_S4x1024x1024_S4x1_S4x1024x1024_12_0_n_n_0_1_110241024 (ix3 q i k) (1 : Fin 3) = i.val := rfl
  have e2 : GatherDims.offCoord gather_S4x1024x1024_S4x1_S4x1024x1024_12_0_n_n_0_1_110241024 (ix3 q i k) (2 : Fin 3) = k.val := rfl
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ => exact (congrArg₂ (· + ·) h0 e0).trans (Nat.add_zero _)
  | ⟨1, _⟩ => exact (congrArg₂ (· + ·) (h1 1 (by decide)) e1).trans (Nat.zero_add _)
  | ⟨2, _⟩ => exact (congrArg₂ (· + ·) (h1 2 (by decide)) e2).trans (Nat.zero_add _)

/-! ## Before the kernel -/

theorem V3_v4 (c : Dev nD) : V3 m c main_v4 = fun _ => self c := by
  unfold V3 V2 V1; after_reads_simp; rfl
/-- The stack of row blocks the kernel is handed: a gather from the device's share. -/
theorem V3_v16 (c : Dev nD) : V3 m c main_v16
    = Host.gather gather_S4x1024x1024_S4x1_S4x1024x1024_12_0_n_n_0_1_110241024
        (shapeCast S4x1024x1024 (m ((c : Thread nD τ).loc main_arg0)) shapeCasts_S4096x1024_S4x1024x1024)
        (fun j => wrap4 (mod4 (IntOp.subi (self c) (BitVec.ofNat 32 (j 0).val)))) := by
  unfold V3 V2 V1
  simp only [TRef.unary, TRef.nullary, TRef.binary, TRef.ternary, TRef.toBuf, TRef.ofBuf, cast_eq]
  after_reads_simp
  rfl
theorem V3_arg1 (c : Dev nD) : V3 m c main_arg1 = m ((c : Thread nD τ).loc main_arg1) := by
  unfold V3 V2 V1
  after_reads_simp

/-! ## After the kernel -/

/-- What the host's lines after the kernel leave of a memory. -/
def post (W : Valuation τ sig (Elt F)) : Valuation τ sig (Elt F) :=
  after hostOps1_4 (after hostOps1_3 (after hostOps1_2 (after hostOps1_1 (after hostOps1 W))))

/-- The result: the two gathered halves side by side, as numbers, times the scale. -/
theorem post_v49 (W : Valuation τ sig (Elt F)) (w : BitVec 32) (hw : W main_v4 = fun _ => w) :
    post W main_v49 = mulf (sitofp .f32 (extsi 32 (concatenate S4096x2048 1
      [⟨S4096x1024, shapeCast S4096x1024 (Host.gather gather_S4x1024x1024_S4x1_S4x1024x1024_12_0_n_n_0_1_110241024 (W main_v17_0)
          (fun j => wrap4 (mod4 (IntOp.subi (IntOp.addi w 1#32) (BitVec.ofNat 32 (j 0).val))))) shapeCasts_S4x1024x1024_S4096x1024⟩,
       ⟨S4096x1024, shapeCast S4096x1024 (Host.gather gather_S4x1024x1024_S4x1_S4x1024x1024_12_0_n_n_0_1_110241024 (W main_v17_1)
          (fun j => wrap4 (mod4 (IntOp.addi (IntOp.subi (BitVec.ofNat 32 (j 0).val) w) 1#32)))) shapeCasts_S4x1024x1024_S4096x1024⟩]
      concatenates_S4096x1024_S4096x1024_S4096x2048_d1) natLt_8_32))
      (broadcastInDim S4096x2048 ![] bcast_S_S4096x2048 (shapeCast S_ (W main_v17_2) shapeCasts_S1x1_S_)) := by
  unfold post
  simp only [TRef.unary, TRef.nullary, TRef.binary, TRef.ternary, TRef.toBuf, TRef.ofBuf, cast_eq]
  have hl : upto hostOps1_4 (after hostOps1_3 (after hostOps1_2 (after hostOps1_1 (after hostOps1 W)))) 10 main_v30
      = shapeCast S4096x1024 (Host.gather gather_S4x1024x1024_S4x1_S4x1024x1024_12_0_n_n_0_1_110241024 (W main_v17_0)
          (fun j => wrap4 (mod4 (IntOp.subi (IntOp.addi w 1#32) (BitVec.ofNat 32 (j 0).val))))) shapeCasts_S4x1024x1024_S4096x1024 := by
    simp only [TRef.unary, TRef.nullary, TRef.binary, TRef.ternary, TRef.toBuf, TRef.ofBuf, cast_eq]
    after_reads_simp; rw [hw]; rfl
  have hr : upto hostOps1_4 (after hostOps1_3 (after hostOps1_2 (after hostOps1_1 (after hostOps1 W)))) 10 main_v43
      = shapeCast S4096x1024 (Host.gather gather_S4x1024x1024_S4x1_S4x1024x1024_12_0_n_n_0_1_110241024 (W main_v17_1)
          (fun j => wrap4 (mod4 (IntOp.addi (IntOp.subi (BitVec.ofNat 32 (j 0).val) w) 1#32)))) shapeCasts_S4x1024x1024_S4096x1024 := by
    simp only [TRef.unary, TRef.nullary, TRef.binary, TRef.ternary, TRef.toBuf, TRef.ofBuf, cast_eq]
    after_reads_simp; rw [hw]; rfl
  simp only [TRef.unary, TRef.nullary, TRef.binary, TRef.ternary, TRef.toBuf, TRef.ofBuf, cast_eq] at hl hr ⊢
  after_reads_simp
  rw [hl, hr]
  rfl

/-! ## Entries -/

variable {α : Type}

/-- Row `i` of row block `b`, -/
def row (b : Fin 4) (i : Fin 1024) : Fin 4096 := ⟨1024 * b.val + i.val, by omega⟩
/-- column `n` of the left half, -/
def colL (n : Fin 1024) : Fin 2048 := ⟨n.val, by omega⟩
/-- and of the right half. -/
def colR (n : Fin 1024) : Fin 2048 := ⟨1024 + n.val, by omega⟩

/-- A stack of four blocks read out of the tall array it is cut from, -/
theorem blocks_apply (x : S4096x1024.Idx → α) (b : Fin 4) (i k : Fin 1024) :
    shapeCast S4x1024x1024 x shapeCasts_S4096x1024_S4x1024x1024 (ix3 b i k) = x (ix2 (row b i) k) := by
  refine shapeCast_apply x _ _ _ ?_
  rw [Shape.rowMajor_val_two, Shape.rowMajor_val_three]
  show (1024 * b.val + i.val) * 1024 + k.val = (b.val * 1024 + i.val) * 1024 + k.val
  omega
/-- and the tall array read out of the stack. -/
theorem tall_apply (x : S4x1024x1024.Idx → α) (b : Fin 4) (i k : Fin 1024) :
    shapeCast S4096x1024 x shapeCasts_S4x1024x1024_S4096x1024 (ix2 (row b i) k) = x (ix3 b i k) := by
  refine shapeCast_apply x _ _ _ ?_
  rw [Shape.rowMajor_val_two, Shape.rowMajor_val_three]
  show (b.val * 1024 + i.val) * 1024 + k.val = (1024 * b.val + i.val) * 1024 + k.val
  omega

/-- Slot `q` of what device `c` is handed: the row block `q` places before its own number. -/
theorem Am_apply (c : Dev nD) (q : Fin 4) (i k : Fin 1024) :
    Am m c (ix3 q i k) = m ((c : Thread nD τ).loc main_arg0) (ix2 (row (tor q c) i) k) := by
  have h : Am m c = V3 m c main_v16 := rfl
  rw [h, V3_v16]
  refine (gather_block _ _ q i k (tor q c) ?_).trans (blocks_apply _ (tor q c) i k)
  exact own_place c q
/-- Its share of the right operand is as it was. -/
theorem Bm_eq (c : Dev nD) : Bm m c = m ((c : Thread nD τ).loc main_arg1) := V3_arg1 m c

/-- Where row block `b` of the left half sits in what device `c` holds at the end, -/
def atL (b : Fin 4) (c : Dev nD) : Fin 4 := ⟨(c.val + 1 + (4 - b.val)) % 4, Nat.mod_lt _ (by decide)⟩
/-- and of the right half. -/
def atR (b : Fin 4) (c : Dev nD) : Fin 4 := ⟨(b.val + (4 - c.val) + 1) % 4, Nat.mod_lt _ (by decide)⟩

/-- The scale, a single number laid out as a rank-0 array. -/
theorem scale_apply (x : S1x1.Idx → α) (j : S4096x2048.Idx) :
    broadcastInDim S4096x2048 ![] bcast_S_S4096x2048 (shapeCast S_ x shapeCasts_S1x1_S_) j = x (ix2 0 0) := by
  refine shapeCast_apply x _ _ _ ?_
  have h1 := ((S1x1.rowMajor) (ix2 0 0)).isLt
  have h2 := ((S_.rowMajor) (fun a => a.elim0)).isLt
  have e1 : S1x1.numel = 1 := by decide
  have e2 : S_.numel = 1 := by decide
  omega

/-- Two halves side by side, read on the left, -/
theorem side_left (x y : S4096x1024.Idx → α) (r : Fin 4096) (n : Fin 1024) :
    concatenate S4096x2048 1 [⟨S4096x1024, x⟩, ⟨S4096x1024, y⟩] concatenates_S4096x1024_S4096x1024_S4096x2048_d1 (ix2 r (colL n)) = x (ix2 r n) :=
  concatenate_pair_apply_left (t := S4096x2048) (s₁ := S4096x1024) (s₂ := S4096x1024) 1 x y
    concatenates_S4096x1024_S4096x1024_S4096x2048_d1 (ix2 r (colL n)) rfl (ix2 r n) fun d => match d with
    | ⟨0, _⟩ => rfl
    | ⟨1, _⟩ => rfl
/-- and on the right. -/
theorem side_right (x y : S4096x1024.Idx → α) (r : Fin 4096) (n : Fin 1024) :
    concatenate S4096x2048 1 [⟨S4096x1024, x⟩, ⟨S4096x1024, y⟩] concatenates_S4096x1024_S4096x1024_S4096x2048_d1 (ix2 r (colR n)) = y (ix2 r n) :=
  concatenate_pair_apply_right (t := S4096x2048) (s₁ := S4096x1024) (s₂ := S4096x1024) 1 x y
    concatenates_S4096x1024_S4096x1024_S4096x2048_d1 (ix2 r (colR n)) rfl rfl (ix2 r n)
    (fun d => match d with
      | ⟨0, _⟩ => fun _ => rfl
      | ⟨1, _⟩ => fun hd => absurd rfl hd)
    (Nat.add_comm n.val 1024)

/-- The result in the left half of the columns, -/
theorem post_left (W : Valuation τ sig (Elt F)) (c : Dev nD) (hw : W main_v4 = fun _ => self c) (b : Fin 4) (i n : Fin 1024) :
    post W main_v49 (ix2 (row b i) (colL n))
      = FloatOps.mulf (FloatOps.sitofp .f32 ((W main_v17_0 (ix3 (atL b c) i n) : BitVec 8).signExtend 32)) (W main_v17_2 (ix2 0 0)) := by
  rw [post_v49 W _ hw]
  refine congrArg₂ FloatOps.mulf (congrArg (fun x : BitVec 8 => FloatOps.sitofp .f32 (x.signExtend 32)) ?_) (scale_apply _ _)
  refine (side_left _ _ (row b i) n).trans ((tall_apply _ b i n).trans (gather_block _ _ b i n (atL b c) ?_))
  exact left_place c b
/-- and in the right half. -/
theorem post_right (W : Valuation τ sig (Elt F)) (c : Dev nD) (hw : W main_v4 = fun _ => self c) (b : Fin 4) (i n : Fin 1024) :
    post W main_v49 (ix2 (row b i) (colR n))
      = FloatOps.mulf (FloatOps.sitofp .f32 ((W main_v17_1 (ix3 (atR b c) i n) : BitVec 8).signExtend 32)) (W main_v17_2 (ix2 0 0)) := by
  rw [post_v49 W _ hw]
  refine congrArg₂ FloatOps.mulf (congrArg (fun x : BitVec 8 => FloatOps.sitofp .f32 (x.signExtend 32)) ?_) (scale_apply _ _)
  refine (side_right _ _ (row b i) n).trans ((tall_apply _ b i n).trans (gather_block _ _ b i n (atR b c) ?_))
  exact right_place c b

end Cert.KernelIdeal.Talk

end
-- ==== Proof.Quant.lean ====
/- Numbers: the integer the kernel sends, times the scale, is the clipped quotient times the scale. -/
module

public import Idealize.ShloMosaic.PureOps.Ideal.Laws

@[expose] public section

noncomputable section

namespace Cert.Quant

open Idealize.ShloMosaic

/-! ## The three constants -/

theorem word_127 : Ideal.ofBits .f32 0x42FE0000#32 = ((127 : ℝ) : EReal) := by
  simp [Ideal.ofBits, Ideal.ieee]
  rw [← EReal.coe_mul]
  norm_num
theorem word_neg127 : Ideal.ofBits .f32 0xC2FE0000#32 = ((-127 : ℝ) : EReal) := by
  simp [Ideal.ofBits, Ideal.ieee]
  rw [← EReal.coe_mul]
  norm_num
theorem word_bot : Ideal.ofBits .f32 0xFF800000#32 = ⊥ := by
  simp [Ideal.ofBits, Ideal.ieee]

/-! ## Rounding -/

/-- A number that is not negative rounds to an integer that is not negative. -/
theorem round_nonneg {r : ℝ} (h : 0 ≤ r) : 0 ≤ Ideal.roundHalfEven r := by
  have hf : 0 ≤ ⌊r⌋ := Int.floor_nonneg.mpr h
  unfold Ideal.roundHalfEven
  dsimp only
  split_ifs <;> omega

/-- An integer between 0 and 127 survives the passage through a byte. -/
theorem byte_round (z : ℤ) (h0 : 0 ≤ z) (h1 : z ≤ 127) :
    (((((Ideal.fptosi 8 (((z : ℝ)) : EReal)).signExtend 32).toInt : ℤ) : ℝ) : EReal) = (((z : ℤ) : ℝ) : EReal) := by
  have e : Ideal.fptosi 8 (((z : ℝ)) : EReal) = BitVec.ofInt 8 z := by
    unfold Ideal.fptosi
    rw [Ideal.toIntClamped_coe, if_pos (by exact_mod_cast h0), Int.floor_intCast]
    congr 1
    norm_num
    omega
  rw [e, BitVec.toInt_signExtend_of_le (by decide), BitVec.toInt_ofInt]
  congr 2
  rw [Int.bmod_eq_of_le] <;> norm_num <;> omega

/-! ## The two quantisers -/

/-- The byte the kernel sends for an entry `y` where the largest entry is `g`. -/
def code (g y : EReal) : BitVec 8 :=
  Ideal.fptosi 8 (min (Ideal.ofBits .f32 0x42FE0000#32) (max (Ideal.ofBits .f32 0x00000000#32)
    (Ideal.liftRound Ideal.roundHalfEven (max y (Ideal.ofBits .f32 0x00000000#32) * Ideal.div (Ideal.ofBits .f32 0x42FE0000#32) g))))

/-- What the byte stands for: its integer times the scale. -/
def decode (g : EReal) (q : BitVec 8) : EReal :=
  (((q.signExtend 32).toInt : ℝ) : EReal) * Ideal.div g (Ideal.ofBits .f32 0x42FE0000#32)

/-- The reference's entry: the quotient by the scale, rounded and clipped, times the scale. -/
def clipped (g y : EReal) : EReal :=
  min (Ideal.ofBits .f32 0x42FE0000#32) (max (Ideal.ofBits .f32 0xC2FE0000#32)
    (Ideal.liftRound Ideal.roundHalfEven (Ideal.div (max y (Ideal.ofBits .f32 0x00000000#32)) (Ideal.div g (Ideal.ofBits .f32 0x42FE0000#32)))))
    * Ideal.div g (Ideal.ofBits .f32 0x42FE0000#32)

/-- The scale of a real maximum. -/
theorem scale_coe (g : ℝ) : Ideal.div (g : EReal) ((127 : ℝ) : EReal) = ((g / 127 : ℝ) : EReal) := by
  rw [Ideal.div, if_neg (by norm_num), ← EReal.coe_inv, ← EReal.coe_mul, div_eq_mul_inv]

/-- The byte stands for the clipped quotient, whatever the maximum: zero, a positive real, or infinity. -/
theorem decode_code (g y : EReal) (hg : 0 ≤ g) (hy : y ≤ g) : decode g (code g y) = clipped g y := by
  unfold decode code clipped
  rw [word_127, word_neg127, Ideal.ofBits_zero_f32]
  have h0 : (0 : EReal) ≤ max y 0 := le_max_right _ _
  have h1 : max y 0 ≤ g := max_le hy hg
  generalize max y 0 = x at h0 h1
  induction g using EReal.rec with
  | bot => exact absurd hg (by simp)
  | top =>
    have e1 : Ideal.div ((127 : ℝ) : EReal) ⊤ = 0 := by simp [Ideal.div]
    have e2 : Ideal.div ⊤ ((127 : ℝ) : EReal) = ⊤ := by
      rw [Ideal.div, if_neg (by norm_num), ← EReal.coe_inv, EReal.top_mul_coe_of_pos (by norm_num)]
    have e3 : Ideal.div x ⊤ = 0 := by simp [Ideal.div]
    have e4 : Ideal.liftRound Ideal.roundHalfEven 0 = ((0 : ℤ) : ℝ) := by
      rw [← EReal.coe_zero, Ideal.liftRound_coe]
      simp [Ideal.roundHalfEven]
    rw [e1, e2, e3, mul_zero, e4]
    have e5 : min ((127 : ℝ) : EReal) (max 0 (((0 : ℤ) : ℝ) : EReal)) = (((0 : ℤ) : ℝ) : EReal) := by
      simp
    have e6 : min ((127 : ℝ) : EReal) (max ((-127 : ℝ) : EReal) (((0 : ℤ) : ℝ) : EReal)) = (((0 : ℤ) : ℝ) : EReal) := by
      rw [max_eq_right (EReal.coe_le_coe_iff.mpr (by norm_num)), min_eq_right (EReal.coe_le_coe_iff.mpr (by norm_num))]
    rw [e5, e6, byte_round 0 (by norm_num) (by norm_num)]
  | coe g =>
    rw [scale_coe]
    have hx : ∃ r : ℝ, x = r := by
      induction x using EReal.rec with
      | bot => exact absurd h0 (by simp)
      | top => exact absurd h1 (by simp)
      | coe r => exact ⟨r, rfl⟩
    obtain ⟨r, rfl⟩ := hx
    have h0 : 0 ≤ r := by exact_mod_cast h0
    have hg : 0 ≤ g := by exact_mod_cast hg
    rcases hg.eq_or_lt with rfl | hpos
    · simp
    · have e1 : Ideal.div ((127 : ℝ) : EReal) (g : EReal) = ((127 / g : ℝ) : EReal) := by
        rw [Ideal.div, if_neg (by exact_mod_cast hpos.ne'), ← EReal.coe_inv, ← EReal.coe_mul, div_eq_mul_inv]
      have e2 : Ideal.div (r : EReal) ((g / 127 : ℝ) : EReal) = ((r * (127 / g) : ℝ) : EReal) := by
        have hne : g / 127 ≠ 0 := by positivity
        rw [Ideal.div, if_neg (by exact_mod_cast hne), ← EReal.coe_inv, ← EReal.coe_mul, inv_div]
      rw [e1, e2, ← EReal.coe_mul r, Ideal.liftRound_coe]
      have hz : 0 ≤ Ideal.roundHalfEven (r * (127 / g)) := round_nonneg (by positivity)
      generalize Ideal.roundHalfEven (r * (127 / g)) = z at hz
      have hzr : (0 : ℝ) ≤ (z : ℝ) := by exact_mod_cast hz
      have e5 : min ((127 : ℝ) : EReal) (max 0 ((z : ℝ) : EReal)) = (((min 127 z : ℤ) : ℝ) : EReal) := by
        rw [max_eq_right (by exact_mod_cast hzr), ← EReal.coe_strictMono.monotone.map_min]
        push_cast
        rfl
      have e6 : min ((127 : ℝ) : EReal) (max ((-127 : ℝ) : EReal) ((z : ℝ) : EReal)) = (((min 127 z : ℤ) : ℝ) : EReal) := by
        rw [max_eq_right (EReal.coe_le_coe_iff.mpr (by linarith)), ← EReal.coe_strictMono.monotone.map_min]
        push_cast
        rfl
      rw [e5, e6, byte_round _ (by omega) (by omega)]

end Cert.Quant
-- ==== Proof.Sums.lean ====
/- At the ideal values: what a device ends up holding is its block of the whole product, whatever the order of the sums. -/
module

public import proofs.«01_k».proof.Proof.Host
public import proofs.«01_k».proof.Proof.Quant
public import Idealize.ShloMosaic.Lib.ValueLayout

@[expose] public section

noncomputable section

namespace Cert.KernelIdeal.Talk

open Idealize.ShloMosaic
open Idealize.ShloMosaic.ValueIdx hiding ix0 ix1 ix2 ix3 ix4 ix5
open Cert.KernelIdeal.Gen Cert.Wire

/-! ## One product -/

/-- A matrix stored as a stack of one, read at an entry. -/
theorem stacked_apply {α : Type} (x : S1024x512.Idx → α) (h : S1024x512.ShapeCasts S1x1024x512) (i : Fin 1024) (n : Fin 512) :
    shapeCast S1x1024x512 x h (ix3 0 i n) = x (ix2 i n) :=
  shapeCast_apply x h _ _ (by
    rw [Shape.rowMajor_val_three, Shape.rowMajor_val_two]
    show i.val * 512 + n.val = (0 * 1024 + i.val) * 512 + n.val
    omega)
/-- A stack of one read as a matrix. -/
theorem unstacked_apply {α : Type} (x : S1x1024x512.Idx → α) (h : S1x1024x512.ShapeCasts S1024x512) (i : Fin 1024) (n : Fin 512) :
    shapeCast S1024x512 x h (ix2 i n) = x (ix3 0 i n) :=
  shapeCast_apply x h _ _ (by
    rw [Shape.rowMajor_val_three, Shape.rowMajor_val_two]
    show (0 * 1024 + i.val) * 512 + n.val = i.val * 512 + n.val
    omega)

/-- Entry `(i, n)` of a block of rows times a block of columns. -/
def prod (x : Vec Ideal S1x1024x1024 .bf16) (w : Vec Ideal S1024x512 .bf16) (i : Fin 1024) (n : Fin 512) : EReal :=
  ∑ k : Fin 1024, (x (ix3 0 i k) : EReal) * (w (ix2 k n) : EReal)

/-- The kernel's product, read at an entry. -/
theorem pay7_apply (x : Vec Ideal S1x1024x1024 .bf16) (w : Vec Ideal S1024x512 .bf16) (i : Fin 1024) (n : Fin 512) :
    k0_pay7 (F := Ideal) x w (ix2 i n) = prod x w i n := by
  unfold k0_pay7 prod
  refine (Ideal.matmul_constant_zero_apply dot_S1024x1024_S1024x512_S1024x512_1_0_0_1_n_n none _ _ (ix2 i n)).trans ?_
  rw [← Equiv.sum_comp (contrEquiv1 dot_S1024x1024_S1024x512_S1024x512_1_0_0_1_n_n 1024 rfl rfl).symm]
  refine Finset.sum_congr rfl fun k _ => ?_
  congr 1
  · refine (shapeCast_apply x _ _ (ix3 0 i k) ?_)
    rw [Shape.rowMajor_val_three, Shape.rowMajor_val_two]
    show (0 * 1024 + i.val) * 1024 + k.val = i.val * 1024 + k.val
    omega
  · refine (shapeCast_apply w _ _ (ix2 k n) ?_)
    rw [Shape.rowMajor_val_two, Shape.rowMajor_val_two]
    rfl

/-- A product sent first is that product. -/
theorem pay1_apply (x : Vec Ideal S1x1024x1024 .bf16) (w : Vec Ideal S1024x512 .bf16) (i : Fin 1024) (n : Fin 512) :
    k0_pay1 (F := Ideal) x w (ix3 0 i n) = prod x w i n := by
  rw [← pay7_apply]
  unfold k0_pay1
  exact stacked_apply _ _ i n

theorem up4_apply (X : Vec Ideal S1x1024x512 .bf16) (i : Fin 1024) (n : Fin 512) :
    up4 (F := Ideal) X (ix4 0 0 i n) = X (ix3 0 i n) := by
  unfold up4 recast
  refine congrArg X ?_
  have e : Shape.reshapeEquiv squeezes_S1x1x1024x512_S1024x512.numel_eq.symm (ix4 0 0 i n) = ix2 i n :=
    Shape.reshapeEquiv_eq_of_rowMajor _ (by
      rw [Shape.rowMajor_val_four, Shape.rowMajor_val_two]
      show i.val * 512 + n.val = ((0 * 1 + 0) * 1024 + i.val) * 512 + n.val
      omega)
  rw [e]
  exact Shape.reshapeEquiv_eq_of_rowMajor _ (by
    rw [Shape.rowMajor_val_three, Shape.rowMajor_val_two]
    show (0 * 1024 + i.val) * 512 + n.val = i.val * 512 + n.val
    omega)

/-- What landed, with the device's own product added. -/
theorem pay25_apply (p : FVec Ideal S1024x512 .f32) (l : Vec Ideal S1x1x1024x512 .bf16) (i : Fin 1024) (n : Fin 512) :
    k0_pay25 (F := Ideal) p l (ix2 i n) = (l (ix4 0 0 i n) : EReal) + (p (ix2 i n) : EReal) := by
  unfold k0_pay25
  refine congrArg (fun z : EReal => z + (p (ix2 i n) : EReal)) ?_
  refine (shapeCast_apply l _ _ (ix4 0 0 i n) ?_)
  rw [Shape.rowMajor_val_four, Shape.rowMajor_val_two]
  show ((0 * 1 + 0) * 1024 + i.val) * 512 + n.val = i.val * 512 + n.val
  omega

theorem pay8_apply (p : FVec Ideal S1024x512 .f32) (l : Vec Ideal S1x1x1024x512 .bf16) (i : Fin 1024) (n : Fin 512) :
    k0_pay8 (F := Ideal) p l (ix4 0 0 i n) = (l (ix4 0 0 i n) : EReal) + (p (ix2 i n) : EReal) := by
  rw [← pay25_apply]
  unfold k0_pay8
  refine (shapeCast_apply _ _ _ (ix2 i n) ?_)
  rw [Shape.rowMajor_val_four, Shape.rowMajor_val_two]
  show i.val * 512 + n.val = ((0 * 1 + 0) * 1024 + i.val) * 512 + n.val
  omega

theorem pay26_apply (p : FVec Ideal S1024x512 .f32) (l : Vec Ideal S1x1x1024x512 .bf16) (i : Fin 1024) (n : Fin 512) :
    k0_pay26 (F := Ideal) p l (ix3 0 i n) = (l (ix4 0 0 i n) : EReal) + (p (ix2 i n) : EReal) := by
  rw [← pay25_apply]
  unfold k0_pay26
  exact stacked_apply _ _ i n

/-! ## The chain -/

section Chain

variable (g : Dev nD → Dev nD) (xa xb xc xd : Dev nD → Vec Ideal S1x1024x1024 .bf16) (w : Dev nD → Vec Ideal S1024x512 .bf16)

/-- What a device keeps is the sum of four devices' products, each taken where the sum passed. -/
theorem Own_apply (c : Dev nD) (i : Fin 1024) (n : Fin 512) : Own g xa xb xc xd w c (ix3 0 i n)
    = prod (xa (g (g (g c)))) (w (g (g (g c)))) i n + prod (xb (g (g c))) (w (g (g c))) i n + prod (xc (g c)) (w (g c)) i n
      + prod (xd c) (w c) i n := by
  unfold Own
  rw [pay26_apply, pay7_apply]
  unfold L2 P2
  rw [pay8_apply, pay7_apply]
  unfold L1 P1
  rw [pay8_apply, pay7_apply]
  unfold L0 P0
  rw [up4_apply, pay1_apply]

end Chain

/-! ## The whole product -/

/-- Entry `(r, n)` of the whole product, -/
def Mat (X : (⟨2, ![4096, 4096]⟩ : Shape).Idx → EReal) (W : S4096x2048.Idx → EReal) (r : Fin 4096) (n : Fin 2048) : EReal :=
  ∑ k : Fin 4096, X (ix2 r k) * W (ix2 k n)
/-- and the part of it that device `c`'s slice of the contraction gives. -/
def part (X : (⟨2, ![4096, 4096]⟩ : Shape).Idx → EReal) (W : S4096x2048.Idx → EReal) (r : Fin 4096) (n : Fin 2048) (c : Fin 4) : EReal :=
  ∑ k : Fin 1024, X (ix2 r (row c k)) * W (ix2 (row c k) n)

/-- A sum over the whole contraction is the sum of the four slices' sums. -/
theorem sum_slices (f : Fin 4096 → EReal) : ∑ k : Fin 4096, f k = ∑ c : Fin 4, ∑ k : Fin 1024, f (row c k) := by
  rw [← Fintype.sum_prod_type' fun (c : Fin 4) (k : Fin 1024) => f (row c k)]
  refine (Equiv.sum_comp (finProdFinEquiv (m := 4) (n := 1024)) f).symm.trans (Finset.sum_congr rfl fun x _ => congrArg f (Fin.ext ?_))
  show x.2.val + 1024 * x.1.val = 1024 * x.1.val + x.2.val
  omega

/-- Four slices added in ring order, whichever comes first, are the whole. -/
theorem ring_sum (f : Fin 4 → EReal) (d : Dev nD) :
    f (nx d) + f (nx (nx d)) + f (pv d) + f d = ∑ c : Fin 4, f c ∧ f (pv d) + f (nx (nx d)) + f (nx d) + f d = ∑ c : Fin 4, f c := by
  have key : ∀ d : Dev nD, ((d : Fin 4) = 0 ∧ nx d = (1 : Fin 4) ∧ nx (nx d) = (2 : Fin 4) ∧ pv d = (3 : Fin 4))
      ∨ ((d : Fin 4) = 1 ∧ nx d = (2 : Fin 4) ∧ nx (nx d) = (3 : Fin 4) ∧ pv d = (0 : Fin 4))
      ∨ ((d : Fin 4) = 2 ∧ nx d = (3 : Fin 4) ∧ nx (nx d) = (0 : Fin 4) ∧ pv d = (1 : Fin 4))
      ∨ ((d : Fin 4) = 3 ∧ nx d = (0 : Fin 4) ∧ nx (nx d) = (1 : Fin 4) ∧ pv d = (2 : Fin 4)) := by decide
  rw [Fin.sum_univ_four]
  rcases key d with ⟨e, ea, eb, ec⟩ | ⟨e, ea, eb, ec⟩ | ⟨e, ea, eb, ec⟩ | ⟨e, ea, eb, ec⟩ <;> rw [eb, ea, ec, e] <;>
    exact ⟨by abel, by abel⟩

theorem Mat_slices (X : (⟨2, ![4096, 4096]⟩ : Shape).Idx → EReal) (W : S4096x2048.Idx → EReal) (r : Fin 4096) (n : Fin 2048) :
    Mat X W r n = ∑ c : Fin 4, part X W r n c := sum_slices fun k => X (ix2 r k) * W (ix2 k n)

/-! ## What a device keeps -/

section Blocks

variable (A : Dev nD → Vec Ideal S4x1024x1024 .bf16) (B : Dev nD → Vec Ideal S1024x2048 .bf16)
variable (X : (⟨2, ![4096, 4096]⟩ : Shape).Idx → EReal) (W : S4096x2048.Idx → EReal)

/-- The stacks of row blocks and the rows of the right operand are cut from `X` and `W`. -/
def Cut : Prop :=
  (∀ (c : Dev nD) (q : Fin 4) (i k : Fin 1024), (A c (ix3 q i k) : EReal) = X (ix2 (row (tor q c) i) (row c k)))
    ∧ ∀ (c : Dev nD) (k : Fin 1024) (n : Fin 2048), (B c (ix2 k n) : EReal) = W (ix2 (row c k) n)

/-- Column `n` of the `j`-th quarter. -/
def col (j : Fin 4) (n : Fin 512) : Fin 2048 := ⟨512 * j.val + n.val, by omega⟩

variable {A B X W} (h : Cut A B X W)
include h

/-- One device's product of a row block and a quarter of the columns is its slice's part. -/
theorem prod_part (q j : Fin 4) (x : Vec Ideal S1x1024x1024 .bf16) (w : Vec Ideal S1024x512 .bf16) (c : Dev nD)
    (hx : ∀ i k, x (ix3 0 i k) = A c (ix3 q i k)) (hw : ∀ k n, w (ix2 k n) = B c (ix2 k (col j n))) (i : Fin 1024) (n : Fin 512) :
    prod x w i n = part X W (row (tor q c) i) (col j n) c :=
  Finset.sum_congr rfl fun k _ => by rw [hx, hw, h.1, h.2]

end Blocks

section Slots

variable (A : Dev nD → Vec Ideal S4x1024x1024 .bf16) (B : Dev nD → Vec Ideal S1024x2048 .bf16)

theorem x0_apply (c : Dev nD) (i k : Fin 1024) : x0 A c (ix3 0 i k) = A c (ix3 0 i k) :=
  congrArg (A c) (by
    funext a
    fin_cases a <;> exact Fin.ext ((Rect.emb_apply _ _ _).trans (by simp [Rect.unit, ix2, ix3, col])))
theorem x1_apply (c : Dev nD) (i k : Fin 1024) : x1 A c (ix3 0 i k) = A c (ix3 1 i k) :=
  congrArg (A c) (by
    funext a
    fin_cases a <;> exact Fin.ext ((Rect.emb_apply _ _ _).trans (by simp [Rect.unit, ix2, ix3, col])))
theorem x2_apply (c : Dev nD) (i k : Fin 1024) : x2 A c (ix3 0 i k) = A c (ix3 2 i k) :=
  congrArg (A c) (by
    funext a
    fin_cases a <;> exact Fin.ext ((Rect.emb_apply _ _ _).trans (by simp [Rect.unit, ix2, ix3, col])))
theorem x3_apply (c : Dev nD) (i k : Fin 1024) : x3 A c (ix3 0 i k) = A c (ix3 3 i k) :=
  congrArg (A c) (by
    funext a
    fin_cases a <;> exact Fin.ext ((Rect.emb_apply _ _ _).trans (by simp [Rect.unit, ix2, ix3, col])))
theorem w0_apply (c : Dev nD) (k : Fin 1024) (n : Fin 512) : w0 B c (ix2 k n) = B c (ix2 k (col 0 n)) :=
  congrArg (B c) (by
    funext a
    fin_cases a <;> exact Fin.ext ((Rect.emb_apply _ _ _).trans (by simp [Rect.unit, ix2, ix3, col])))
theorem w1_apply (c : Dev nD) (k : Fin 1024) (n : Fin 512) : w1 B c (ix2 k n) = B c (ix2 k (col 1 n)) :=
  congrArg (B c) (by
    funext a
    fin_cases a <;> exact Fin.ext ((Rect.emb_apply _ _ _).trans (by simp [Rect.unit, ix2, ix3, col])))
theorem w2_apply (c : Dev nD) (k : Fin 1024) (n : Fin 512) : w2 B c (ix2 k n) = B c (ix2 k (col 2 n)) :=
  congrArg (B c) (by
    funext a
    fin_cases a <;> exact Fin.ext ((Rect.emb_apply _ _ _).trans (by simp [Rect.unit, ix2, ix3, col])))
theorem w3_apply (c : Dev nD) (k : Fin 1024) (n : Fin 512) : w3 B c (ix2 k n) = B c (ix2 k (col 3 n)) :=
  congrArg (B c) (by
    funext a
    fin_cases a <;> exact Fin.ext ((Rect.emb_apply _ _ _).trans (by simp [Rect.unit, ix2, ix3, col])))

end Slots

section Blocks

variable {A : Dev nD → Vec Ideal S4x1024x1024 .bf16} {B : Dev nD → Vec Ideal S1024x2048 .bf16}
variable {X : (⟨2, ![4096, 4096]⟩ : Shape).Idx → EReal} {W : S4096x2048.Idx → EReal} (h : Cut A B X W)
include h

/-- Going right, a device ends with the row block after its own number, whichever quarter of the columns travelled. -/
theorem right_own (j : Fin 4) (w : Dev nD → Vec Ideal S1024x512 .bf16) (hw : ∀ c k n, w c (ix2 k n) = B c (ix2 k (col j n)))
    (d : Dev nD) (i : Fin 1024) (n : Fin 512) :
    Own pv (x0 A) (x1 A) (x2 A) (x3 A) w d (ix3 0 i n) = Mat X W (row (nx d) i) (col j n) := by
  rw [Own_apply, prod_part h 0 j _ _ _ (x0_apply A _) (hw _), prod_part h 1 j _ _ _ (x1_apply A _) (hw _),
    prod_part h 2 j _ _ _ (x2_apply A _) (hw _), prod_part h 3 j _ _ _ (x3_apply A _) (hw _), Mat_slices, ← (ring_sum _ d).1]
  have e : tor 0 (pv (pv (pv d))) = nx d ∧ tor 1 (pv (pv d)) = nx d ∧ tor 2 (pv d) = nx d ∧ tor 3 d = nx d
      ∧ pv (pv (pv d)) = nx d ∧ pv (pv d) = nx (nx d) := by
    revert d
    decide
  rw [e.1, e.2.1, e.2.2.1, e.2.2.2.1, e.2.2.2.2.1, e.2.2.2.2.2]

/-- Going left, it ends with the row block before its own number. -/
theorem left_own (j : Fin 4) (w : Dev nD → Vec Ideal S1024x512 .bf16) (hw : ∀ c k n, w c (ix2 k n) = B c (ix2 k (col j n)))
    (d : Dev nD) (i : Fin 1024) (n : Fin 512) :
    Own nx (x0 A) (x3 A) (x2 A) (x1 A) w d (ix3 0 i n) = Mat X W (row (pv d) i) (col j n) := by
  rw [Own_apply, prod_part h 0 j _ _ _ (x0_apply A _) (hw _), prod_part h 3 j _ _ _ (x3_apply A _) (hw _),
    prod_part h 2 j _ _ _ (x2_apply A _) (hw _), prod_part h 1 j _ _ _ (x1_apply A _) (hw _), Mat_slices, ← (ring_sum _ d).2]
  have e : tor 0 (nx (nx (nx d))) = pv d ∧ tor 3 (nx (nx d)) = pv d ∧ tor 2 (nx d) = pv d ∧ tor 1 d = pv d
      ∧ nx (nx (nx d)) = pv d := by
    revert d
    decide
  rw [e.1, e.2.1, e.2.2.1, e.2.2.2.1, e.2.2.2.2]

theorem aow_apply (d : Dev nD) (i : Fin 1024) (n : Fin 512) : aow A B d (ix3 0 i n) = Mat X W (row (nx d) i) (col 0 n) :=
  right_own h 0 _ (w0_apply B) d i n
theorem bow_apply (d : Dev nD) (i : Fin 1024) (n : Fin 512) : bow A B d (ix3 0 i n) = Mat X W (row (nx d) i) (col 1 n) :=
  right_own h 1 _ (w1_apply B) d i n
theorem dow_apply (d : Dev nD) (i : Fin 1024) (n : Fin 512) : dow A B d (ix3 0 i n) = Mat X W (row (pv d) i) (col 2 n) :=
  left_own h 2 _ (w2_apply B) d i n
theorem eow_apply (d : Dev nD) (i : Fin 1024) (n : Fin 512) : eow A B d (ix3 0 i n) = Mat X W (row (pv d) i) (col 3 n) :=
  left_own h 3 _ (w3_apply B) d i n

end Blocks

end Cert.KernelIdeal.Talk
-- ==== Proof.Peak.lean ====
/- At the ideal values: the largest entry the devices agree on is the largest entry of the whole product, at least zero. -/
module

public import proofs.«01_k».proof.Proof.Sums

@[expose] public section

noncomputable section

namespace Cert.KernelIdeal.Talk

open Idealize.ShloMosaic
open Idealize.ShloMosaic.ValueIdx hiding ix0 ix1 ix2 ix3 ix4 ix5
open Cert.KernelIdeal.Gen Cert.Wire Cert.Quant

/-! ## A maximum, known by its upper bounds -/

/-- A maximum over all axes is at most `z` exactly when every entry is. -/
theorem peak_le {s : Shape} {axes : List (Fin s.rank)} (src : FVec Ideal s .f32) (h : s.Reduces axes S1) (hφ : FKind.Formats .f32)
    (hacc : (0xFF800000#32 : BitVec 32) = FKind.maximumf.neutral .f32 hφ) (j : S1.Idx) (z : EReal) :
    (multiReduction .maximumf axes S1 src 0xFF800000#32 h hφ hacc j : EReal) ≤ z ↔ ∀ i : s.Idx, (src i : EReal) ≤ z := by
  rw [multiReduction_maximumf_eq_fold]
  refine (Finset.fold_max_le z).trans ?_
  constructor
  · intro hz i
    exact hz.2 i (Finset.mem_filter.mpr ⟨Finset.mem_univ _, funext fun a => by
      fin_cases a
      exact Subsingleton.elim (α := Fin 1) _ _⟩)
  · intro hz
    refine ⟨?_, fun i _ => hz i⟩
    show Ideal.ofBits .f32 0xFF800000#32 ≤ z
    rw [word_bot]
    exact bot_le

/-- The greatest entry of what a device adds up last. -/
theorem pay27_le (p : FVec Ideal S1024x512 .f32) (l : Vec Ideal S1x1x1024x512 .bf16) (z : EReal) :
    (k0_pay27 (F := Ideal) p l : EReal) ≤ z ↔ ∀ (i : Fin 1024) (n : Fin 512), (k0_pay26 (F := Ideal) p l (ix3 0 i n) : EReal) ≤ z := by
  unfold k0_pay27
  refine (peak_le _ _ (.inl rfl) rfl _ z).trans ?_
  constructor
  · intro hz i n
    exact hz (ix3 0 i n)
  · intro hz j
    have e : j = ix3 0 (j 1) (j 2) := by
      funext a
      fin_cases a
      · exact Subsingleton.elim (α := Fin 1) _ _
      · rfl
      · rfl
    rw [e]
    exact hz (j 1) (j 2)

theorem Top_le (g : Dev nD → Dev nD) (xa xb xc xd : Dev nD → Vec Ideal S1x1024x1024 .bf16) (w : Dev nD → Vec Ideal S1024x512 .bf16)
    (c : Dev nD) (z : EReal) :
    (Top g xa xb xc xd w c : EReal) ≤ z ↔ ∀ (i : Fin 1024) (n : Fin 512), (Own g xa xb xc xd w c (ix3 0 i n) : EReal) ≤ z :=
  pay27_le _ _ z

/-- A tile holds the greatest of four numbers and zero, everywhere. -/
theorem pay40_le (a d b e : EReal) (j : S1x8x128.Idx) (z : EReal) :
    (k0_pay40 (F := Ideal) a d b e j : EReal) ≤ z ↔ 0 ≤ z ∧ a ≤ z ∧ d ≤ z ∧ b ≤ z ∧ e ≤ z := by
  have h : (k0_pay40 (F := Ideal) a d b e j : EReal) = max (max (max (max a d) b) e) (Ideal.ofBits .f32 0x00000000#32) := rfl
  rw [h, Ideal.ofBits_zero_f32, max_le_iff, max_le_iff, max_le_iff, max_le_iff]
  tauto

/-- The maximum of the four tiles. -/
theorem pay41_le (t : Vec Ideal S4x8x128 .f32) (z : EReal) :
    (k0_pay41 (F := Ideal) t : EReal) ≤ z ↔ ∀ j : S4x8x128.Idx, (t j : EReal) ≤ z := by
  unfold k0_pay41
  refine (peak_le _ _ (.inl rfl) rfl _ z).trans ?_
  constructor
  · intro hz j
    have e : shapeCast S1x4x8x128 t shapeCasts_S4x8x128_S1x4x8x128 (ix4 0 (j 0) (j 1) (j 2)) = t j :=
      shapeCast_apply t _ _ j (by
        rw [Shape.rowMajor_val_three, Shape.rowMajor_val_four]
        show ((j 0).val * 8 + (j 1).val) * 128 + (j 2).val = ((0 * 4 + (j 0).val) * 8 + (j 1).val) * 128 + (j 2).val
        omega)
    exact e ▸ hz (ix4 0 (j 0) (j 1) (j 2))
  · intro hz j
    exact hz _

/-! ## The greatest entry -/

section Blocks

variable {A : Dev nD → Vec Ideal S4x1024x1024 .bf16} {B : Dev nD → Vec Ideal S1024x2048 .bf16}
variable {X : (⟨2, ![4096, 4096]⟩ : Shape).Idx → EReal} {W : S4096x2048.Idx → EReal} (h : Cut A B X W)

/-- Every row lies in a block, -/
theorem row_cover (P : Fin 4096 → Prop) (hP : ∀ (b : Fin 4) (i : Fin 1024), P (row b i)) (r : Fin 4096) : P r := by
  have e : row ⟨r.val / 1024, by omega⟩ ⟨r.val % 1024, by omega⟩ = r := Fin.ext (by show 1024 * (r.val / 1024) + r.val % 1024 = r.val; omega)
  exact e ▸ hP _ _
/-- and every column in a quarter. -/
theorem col_cover (P : Fin 2048 → Prop) (hP : ∀ (j : Fin 4) (n : Fin 512), P (col j n)) (n : Fin 2048) : P n := by
  have e : col ⟨n.val / 512, by omega⟩ ⟨n.val % 512, by omega⟩ = n := Fin.ext (by show 512 * (n.val / 512) + n.val % 512 = n.val; omega)
  exact e ▸ hP _ _

include h

/-- The number all devices divide by is at most `z` exactly when zero and every entry of the product are. -/
theorem peak_kernel (c : Dev nD) (z : EReal) :
    (k0_pay41 (F := Ideal) (tiles A B c) : EReal) ≤ z ↔ 0 ≤ z ∧ ∀ (r : Fin 4096) (n : Fin 2048), Mat X W r n ≤ z := by
  rw [pay41_le]
  have ht : ∀ j : S4x8x128.Idx, (tiles A B c j : EReal) ≤ z ↔ 0 ≤ z ∧ (amx A B (rot (j 0) c) : EReal) ≤ z
      ∧ (dmx A B (rot (j 0) c) : EReal) ≤ z ∧ (bmx A B (rot (j 0) c) : EReal) ≤ z ∧ (emx A B (rot (j 0) c) : EReal) ≤ z :=
    fun j => pay40_le _ _ _ _ (ix3 0 (j 1) (j 2)) z
  have hm : ∀ d : Dev nD, ((amx A B d : EReal) ≤ z ↔ ∀ i n, Mat X W (row (nx d) i) (col 0 n) ≤ z)
      ∧ ((bmx A B d : EReal) ≤ z ↔ ∀ i n, Mat X W (row (nx d) i) (col 1 n) ≤ z)
      ∧ ((dmx A B d : EReal) ≤ z ↔ ∀ i n, Mat X W (row (pv d) i) (col 2 n) ≤ z)
      ∧ ((emx A B d : EReal) ≤ z ↔ ∀ i n, Mat X W (row (pv d) i) (col 3 n) ≤ z) := by
    intro d
    refine ⟨(Top_le ..).trans ?_, (Top_le ..).trans ?_, (Top_le ..).trans ?_, (Top_le ..).trans ?_⟩
    · exact forall_congr' fun i => forall_congr' fun n => by rw [← aow_apply h]; rfl
    · exact forall_congr' fun i => forall_congr' fun n => by rw [← bow_apply h]; rfl
    · exact forall_congr' fun i => forall_congr' fun n => by rw [← dow_apply h]; rfl
    · exact forall_congr' fun i => forall_congr' fun n => by rw [← eow_apply h]; rfl
  have hr : ∀ b : Fin 4, ∀ c : Dev nD, ∃ q q' : Fin 4, nx (rot q c) = b ∧ pv (rot q' c) = b := by decide
  constructor
  · intro hz
    have hz' : ∀ q : Fin 4, _ := fun q => (ht (ix3 q 0 0)).1 (hz _)
    refine ⟨(hz' 0).1, fun r n => ?_⟩
    refine row_cover (fun r => Mat X W r n ≤ z) (fun b i => ?_) r
    refine col_cover (fun n => Mat X W (row b i) n ≤ z) (fun j n => ?_) n
    obtain ⟨q, q', hq, hq'⟩ := hr b c
    fin_cases j
    · exact hq ▸ (hm _).1.1 (hz' q).2.1 i n
    · exact hq ▸ (hm _).2.1.1 (hz' q).2.2.2.1 i n
    · exact hq' ▸ (hm _).2.2.1.1 (hz' q').2.2.1 i n
    · exact hq' ▸ (hm _).2.2.2.1 (hz' q').2.2.2.2 i n
  · rintro ⟨h0, hz⟩ j
    exact (ht j).2 ⟨h0, (hm _).1.2 fun _ _ => hz _ _, (hm _).2.2.1.2 fun _ _ => hz _ _, (hm _).2.1.2 fun _ _ => hz _ _,
      (hm _).2.2.2.2 fun _ _ => hz _ _⟩

end Blocks

end Cert.KernelIdeal.Talk
-- ==== Proof.Value.lean ====
/- At the ideal values: the kernel's result, entry by entry. -/
module

public import proofs.«01_k».proof.Proof.Peak

@[expose] public section

noncomputable section

namespace Cert.KernelIdeal.Talk

open Idealize.ShloMosaic
open Idealize.ShloMosaic.TcCoe
open Idealize.ShloMosaic.ValueIdx hiding ix0 ix1 ix2 ix3 ix4 ix5
open Cert.KernelIdeal.Gen Cert.Wire Cert.Quant

/-! ## The quantised blocks -/

section Codes

variable (A : Dev nD → Vec Ideal S4x1024x1024 .bf16) (B : Dev nD → Vec Ideal S1024x2048 .bf16)

/-- The number device `c` divides by. -/
def big (c : Dev nD) : EReal := k0_pay41 (F := Ideal) (tiles A B c)

/-- One quantised block, read at an entry: the byte of the entry below it. -/
theorem byte_apply (t : EReal) (o : FVec Ideal S1x1024x512 .f32) (i : Fin 1024) (n : Fin 512) :
    fptosi (F := Ideal) 8 (minimumf (broadcast S1024x512 (Scalar.ofBits .f32 0x42FE0000#32)) (maximumf (broadcast S1024x512 (Scalar.ofBits .f32 0x00000000#32))
      (roundeven (mulf (maximumf (shapeCast S1024x512 o shapeCasts_S1x1024x512_S1024x512) (broadcast S1024x512 (Scalar.ofBits .f32 0x00000000#32)))
        (broadcast S1024x512 (Ideal.div (Ideal.ofBits .f32 0x42FE0000#32) t)))))) (ix2 i n) = code t (o (ix3 0 i n)) := by
  rw [← unstacked_apply o shapeCasts_S1x1024x512_S1024x512 i n]
  rfl

theorem byte_a (t : Vec Ideal S4x8x128 .f32) (o : Vec Ideal S1x1024x512 .f32) (i : Fin 1024) (n : Fin 512) :
    k0_pay46 (k0_pay45 (F := Ideal) t o) (ix3 0 i n) = code (k0_pay41 (F := Ideal) t) (o (ix3 0 i n)) := by
  unfold k0_pay46 k0_pay45 k0_pay43
  generalize k0_pay41 (F := Ideal) t = g
  exact (stacked_apply _ _ i n).trans (byte_apply g o i n)
theorem qa_apply (c : Dev nD) (i : Fin 1024) (n : Fin 512) : qa A B c (ix3 0 i n) = code (big A B c) (aow A B c (ix3 0 i n)) :=
  byte_a _ _ i n
theorem byte_b (t : Vec Ideal S4x8x128 .f32) (o : Vec Ideal S1x1024x512 .f32) (i : Fin 1024) (n : Fin 512) :
    k0_pay48 (F := Ideal) (k0_pay43 t) o (ix3 0 i n) = code (k0_pay41 (F := Ideal) t) (o (ix3 0 i n)) := by
  unfold k0_pay48 k0_pay43
  generalize k0_pay41 (F := Ideal) t = g
  exact (stacked_apply _ _ i n).trans (byte_apply g o i n)
theorem qb_apply (c : Dev nD) (i : Fin 1024) (n : Fin 512) : qb A B c (ix3 0 i n) = code (big A B c) (bow A B c (ix3 0 i n)) :=
  byte_b _ _ i n
theorem byte_d (t : Vec Ideal S4x8x128 .f32) (o : Vec Ideal S1x1024x512 .f32) (i : Fin 1024) (n : Fin 512) :
    k0_pay47 (F := Ideal) (k0_pay44 t o) (ix3 0 i n) = code (k0_pay41 (F := Ideal) t) (o (ix3 0 i n)) := by
  unfold k0_pay47 k0_pay44 k0_pay43
  generalize k0_pay41 (F := Ideal) t = g
  exact (stacked_apply _ _ i n).trans (byte_apply g o i n)
theorem qd_apply (c : Dev nD) (i : Fin 1024) (n : Fin 512) : qd A B c (ix3 0 i n) = code (big A B c) (dow A B c (ix3 0 i n)) :=
  byte_d _ _ i n
theorem byte_e (t : Vec Ideal S4x8x128 .f32) (o : Vec Ideal S1x1024x512 .f32) (i : Fin 1024) (n : Fin 512) :
    k0_pay50 (k0_pay49 (F := Ideal) (k0_pay43 t) o) (ix3 0 i n) = code (k0_pay41 (F := Ideal) t) (o (ix3 0 i n)) := by
  unfold k0_pay50 k0_pay49 k0_pay43
  generalize k0_pay41 (F := Ideal) t = g
  exact (stacked_apply _ _ i n).trans (byte_apply g o i n)
theorem qe_apply (c : Dev nD) (i : Fin 1024) (n : Fin 512) : qe A B c (ix3 0 i n) = code (big A B c) (eow A B c (ix3 0 i n)) :=
  byte_e _ _ i n

/-- Two half-width blocks side by side, read in the left half, -/
theorem stack_left (f : Fin 4 → Dev nD) (l r : Dev nD → Vec Ideal S1x1024x512 .i8) (t : Fin 4) (i : Fin 1024) (n : Fin 512) :
    stack f l r (ix3 t i ⟨n.val, by omega⟩) = l (f t) (ix3 0 i n) := dif_pos n.isLt
/-- and in the right half. -/
theorem stack_right (f : Fin 4 → Dev nD) (l r : Dev nD → Vec Ideal S1x1024x512 .i8) (t : Fin 4) (i : Fin 1024) (n : Fin 512) :
    stack f l r (ix3 t i ⟨512 + n.val, by omega⟩) = r (f t) (ix3 0 i n) := by
  refine (dif_neg (show ¬ 512 + n.val < 512 by omega)).trans ?_
  exact congrArg (fun k => r (f t) (ix3 0 i k)) (Fin.ext (by show 512 + n.val - 512 = n.val; omega))

/-- The device row block `b` of the left half was finished on is the one before `b`, and of the right half the one after. -/
theorem whence (b : Fin 4) (c : Dev nD) : nx (tor (atL b c) c) = b ∧ pv (rot (atR b c) c) = b := by
  revert b c
  decide

end Codes

/-! ## The result -/

section Result

variable (m : (ℓ : Loc nD τ sig) → Buf (Elt Ideal) ℓ)
variable {X : (⟨2, ![4096, 4096]⟩ : Shape).Idx → EReal} {W : S4096x2048.Idx → EReal} (h : Cut (Am m) (Bm m) X W)
include h

/-- All devices divide by the same number. -/
theorem big_eq (c d : Dev nD) : big (Am m) (Bm m) c = big (Am m) (Bm m) d :=
  eq_of_forall_ge_iff fun z => (peak_kernel h c z).trans (peak_kernel h d z).symm

theorem yL_left (c : Dev nD) (b : Fin 4) (i : Fin 1024) (n : Fin 512) : yL (Am m) (Bm m) c (ix3 (atL b c) i ⟨n.val, by omega⟩)
    = code (big (Am m) (Bm m) c) (Mat X W (row b i) (col 0 n)) := by
  refine (stack_left _ _ _ _ i n).trans ?_
  rw [qa_apply, aow_apply h, (whence b c).1, big_eq m h _ c]
theorem yL_right (c : Dev nD) (b : Fin 4) (i : Fin 1024) (n : Fin 512) : yL (Am m) (Bm m) c (ix3 (atL b c) i ⟨512 + n.val, by omega⟩)
    = code (big (Am m) (Bm m) c) (Mat X W (row b i) (col 1 n)) := by
  refine (stack_right _ _ _ _ i n).trans ?_
  rw [qb_apply, bow_apply h, (whence b c).1, big_eq m h _ c]
theorem yR_left (c : Dev nD) (b : Fin 4) (i : Fin 1024) (n : Fin 512) : yR (Am m) (Bm m) c (ix3 (atR b c) i ⟨n.val, by omega⟩)
    = code (big (Am m) (Bm m) c) (Mat X W (row b i) (col 2 n)) := by
  refine (stack_left _ _ _ _ i n).trans ?_
  rw [qd_apply, dow_apply h, (whence b c).2, big_eq m h _ c]
theorem yR_right (c : Dev nD) (b : Fin 4) (i : Fin 1024) (n : Fin 512) : yR (Am m) (Bm m) c (ix3 (atR b c) i ⟨512 + n.val, by omega⟩)
    = code (big (Am m) (Bm m) c) (Mat X W (row b i) (col 3 n)) := by
  refine (stack_right _ _ _ _ i n).trans ?_
  rw [qe_apply, eow_apply h, (whence b c).2, big_eq m h _ c]

omit h in
/-- What the host starts its last lines from. -/
theorem after_region (c : Dev nD) : V4 m (outs m) c main_v4 = (fun _ => self c)
    ∧ V4 m (outs m) c main_v17_0 = yL (Am m) (Bm m) c ∧ V4 m (outs m) c main_v17_1 = yR (Am m) (Bm m) c
    ∧ V4 m (outs m) c main_v17_2 = fun _ => scl (Am m) (Bm m) c := by
  refine ⟨(V4_of m (outs m) c main_v4 (by decide)).trans (V3_v4 m c), ?_, ?_, ?_⟩
  · unfold V4
    rw [Function.update_of_ne (by decide), Function.update_of_ne (by decide), Function.update_self, outs_0]
  · unfold V4
    rw [Function.update_of_ne (by decide), Function.update_self, outs_1]
  · unfold V4
    rw [Function.update_self, outs_2]

omit h in
theorem out_left (c : Dev nD) (b : Fin 4) (i n : Fin 1024) : (V9 m (outs m) c main_v49 (ix2 (row b i) (colL n)) : EReal)
    = decode (big (Am m) (Bm m) c) (yL (Am m) (Bm m) c (ix3 (atL b c) i n)) := by
  obtain ⟨h4, h0, h1, h2⟩ := after_region m c
  refine (post_left (V4 m (outs m) c) c h4 b i n).trans ?_
  rw [h0, h2]
  rfl
omit h in
theorem out_right (c : Dev nD) (b : Fin 4) (i n : Fin 1024) : (V9 m (outs m) c main_v49 (ix2 (row b i) (colR n)) : EReal)
    = decode (big (Am m) (Bm m) c) (yR (Am m) (Bm m) c (ix3 (atR b c) i n)) := by
  obtain ⟨h4, h0, h1, h2⟩ := after_region m c
  refine (post_right (V4 m (outs m) c) c h4 b i n).trans ?_
  rw [h1, h2]
  rfl

/-- Every entry of the result is its byte's number times the scale, on every device. -/
theorem out_apply (c : Dev nD) (r : Fin 4096) (n : Fin 2048) : (V9 m (outs m) c main_v49 (ix2 r n) : EReal)
    = decode (big (Am m) (Bm m) c) (code (big (Am m) (Bm m) c) (Mat X W r n)) := by
  refine row_cover (fun r => (V9 m (outs m) c main_v49 (ix2 r n) : EReal) = decode (big (Am m) (Bm m) c) (code (big (Am m) (Bm m) c) (Mat X W r n)))
    (fun b i => ?_) r
  refine col_cover (fun n => (V9 m (outs m) c main_v49 (ix2 (row b i) n) : EReal)
    = decode (big (Am m) (Bm m) c) (code (big (Am m) (Bm m) c) (Mat X W (row b i) n))) (fun j n => ?_) n
  fin_cases j
  · have e : col 0 n = colL ⟨n.val, by omega⟩ := Fin.ext (by show 512 * 0 + n.val = n.val; omega)
    show (V9 m (outs m) c main_v49 (ix2 (row b i) (col 0 n)) : EReal) = decode _ (code _ (Mat X W (row b i) (col 0 n)))
    rw [← yL_left m h, ← out_left, e]
  · have e : col 1 n = colL ⟨512 + n.val, by omega⟩ := Fin.ext (by show 512 * 1 + n.val = 512 + n.val; omega)
    show (V9 m (outs m) c main_v49 (ix2 (row b i) (col 1 n)) : EReal) = decode _ (code _ (Mat X W (row b i) (col 1 n)))
    rw [← yL_right m h, ← out_left, e]
  · have e : col 2 n = colR ⟨n.val, by omega⟩ := Fin.ext (by show 512 * 2 + n.val = 1024 + n.val; omega)
    show (V9 m (outs m) c main_v49 (ix2 (row b i) (col 2 n)) : EReal) = decode _ (code _ (Mat X W (row b i) (col 2 n)))
    rw [← yR_left m h, ← out_right, e]
  · have e : col 3 n = colR ⟨512 + n.val, by omega⟩ := Fin.ext (by show 512 * 3 + n.val = 1024 + (512 + n.val); omega)
    show (V9 m (outs m) c main_v49 (ix2 (row b i) (col 3 n)) : EReal) = decode _ (code _ (Mat X W (row b i) (col 3 n)))
    rw [← yR_right m h, ← out_right, e]

/-- So it is the clipped quotient by any number with the same upper bounds. -/
theorem out_clipped (t : EReal) (ht : ∀ z : EReal, t ≤ z ↔ 0 ≤ z ∧ ∀ (r : Fin 4096) (n : Fin 2048), Mat X W r n ≤ z)
    (c : Dev nD) (r : Fin 4096) (n : Fin 2048) : (V9 m (outs m) c main_v49 (ix2 r n) : EReal) = clipped t (Mat X W r n) := by
  have e : big (Am m) (Bm m) c = t := eq_of_forall_ge_iff fun z => (peak_kernel h c z).trans (ht z).symm
  have hb := (ht t).1 le_rfl
  rw [out_apply m h, e, decode_code t _ hb.1 (hb.2 r n)]

end Result

end Cert.KernelIdeal.Talk
-- ==== Proof.Refer.lean ====
/- The reference, read entry by entry: the whole product, and the clipped quotient by its greatest entry. -/
module

public import proofs.«01_k».proof.Proof.Sums
public import proofs.«01_k».proof.Proof.Gen.ReferenceIdeal.Run

@[expose] public section

noncomputable section

namespace Cert.ReferenceIdeal.Value

open Idealize.ShloMosaic
open Idealize.ShloMosaic.ValueIdx hiding ix0 ix1 ix2 ix3 ix4 ix5
open Cert.ReferenceIdeal Cert.ReferenceIdeal.Gen Cert.Quant
open Cert.KernelIdeal.Talk (Mat)

variable (X : FVec Ideal S4096x4096 .bf16) (W : FVec Ideal S4096x2048 .bf16)

/-- The product with its negative entries replaced by zero. -/
def pos : FVec Ideal S4096x2048 .f32 :=
  maximumf (Host.dotGeneral dot_S4096x4096_S4096x2048_S4096x2048_1_0_0_1_n_n none (extf .f32 X bitsLt_bf16_f32) (extf .f32 W bitsLt_bf16_f32))
    (broadcastInDim S4096x2048 ![] bcast_S_S4096x2048 (constant S_ .f32 0x00000000#32))
/-- Its greatest entry. -/
def peak : FVec Ideal S_ .f32 :=
  Host.reduce FloatOps.maximumf (Host.absf (pos X W)) (constant S_ .f32 0xFF800000#32) reducesTo_S4096x2048_S_d0_1 h_S_
/-- The scale, everywhere. -/
def spread : FVec Ideal S4096x2048 .f32 :=
  broadcastInDim S4096x2048 ![] bcast_S_S4096x2048 (Host.divf (peak X W) (constant S_ .f32 0x42FE0000#32))
/-- The reference's result. -/
def result : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (pos X W) (spread X W))))) (spread X W)

/-- The greatest entry as a number. -/
def top : EReal := peak X W fun a => a.elim0

theorem pos_apply (r : Fin 4096) (n : Fin 2048) :
    (pos X W (ix2 r n) : EReal) = max (Mat X W r n) (Ideal.ofBits .f32 0x00000000#32) := by
  unfold pos Mat
  refine congrArg (fun z : EReal => max z (Ideal.ofBits .f32 0x00000000#32)) ?_
  refine (Ideal.dotGeneral_apply dot_S4096x4096_S4096x2048_S4096x2048_1_0_0_1_n_n none _ _ _ (ix2 r n)).trans ?_
  rw [← Equiv.sum_comp (contrEquiv1 dot_S4096x4096_S4096x2048_S4096x2048_1_0_0_1_n_n 4096 rfl rfl).symm]
  refine Finset.sum_congr rfl fun k _ => ?_
  congr 1
  · refine congrArg X ?_
    funext a
    fin_cases a <;> rfl
  · refine congrArg W ?_
    funext a
    fin_cases a <;> rfl

/-- The greatest entry is at most `z` exactly when zero and every entry of the product are. -/
theorem top_le (z : EReal) : top X W ≤ z ↔ 0 ≤ z ∧ ∀ (r : Fin 4096) (n : Fin 2048), Mat X W r n ≤ z := by
  unfold top peak
  rw [Host.reduce_eq_fold]
  refine (Finset.fold_max_le z).trans ?_
  have habs : ∀ (r : Fin 4096) (n : Fin 2048), (Host.absf (pos X W) (ix2 r n) : EReal) ≤ z ↔ 0 ≤ z ∧ Mat X W r n ≤ z := by
    intro r n
    have e : (Host.absf (pos X W) (ix2 r n) : EReal) = max (pos X W (ix2 r n) : EReal) (-(pos X W (ix2 r n) : EReal)) := rfl
    rw [e, pos_apply, Ideal.ofBits_zero_f32]
    have h0 : (0 : EReal) ≤ max (Mat X W r n) 0 := le_max_right _ _
    rw [max_eq_left ((EReal.neg_le_zero.mpr h0).trans h0), max_le_iff]
    tauto
  constructor
  · rintro ⟨_, hz⟩
    have hz' : ∀ r n, (Host.absf (pos X W) (ix2 r n) : EReal) ≤ z := fun r n =>
      hz (ix2 r n) (Finset.mem_filter.mpr ⟨Finset.mem_univ _, funext fun a => a.elim0⟩)
    exact ⟨((habs 0 0).1 (hz' 0 0)).1, fun r n => ((habs r n).1 (hz' r n)).2⟩
  · rintro ⟨h0, hz⟩
    refine ⟨?_, fun j _ => ?_⟩
    · show Ideal.ofBits .f32 0xFF800000#32 ≤ z
      rw [word_bot]
      exact bot_le
    · have e : j = ix2 (j 0) (j 1) := by
        funext a
        fin_cases a <;> rfl
      rw [e]
      exact (habs _ _).2 ⟨h0, hz _ _⟩

theorem spread_apply (j : S4096x2048.Idx) : (spread X W j : EReal) = Ideal.div (top X W) (Ideal.ofBits .f32 0x42FE0000#32) := by
  unfold spread top
  refine congrArg (fun i => Ideal.div (peak X W i) (Ideal.ofBits .f32 0x42FE0000#32)) ?_
  funext a
  exact a.elim0

/-- The reference's result at an entry. -/
theorem result_apply (r : Fin 4096) (n : Fin 2048) : (result X W (ix2 r n) : EReal) = clipped (top X W) (Mat X W r n) := by
  have e : (result X W (ix2 r n) : EReal) = min (Ideal.ofBits .f32 0x42FE0000#32) (max (Ideal.ofBits .f32 0xC2FE0000#32)
      (Ideal.liftRound Ideal.roundHalfEven (Ideal.div (pos X W (ix2 r n)) (spread X W (ix2 r n))))) * (spread X W (ix2 r n) : EReal) := rfl
  rw [e, spread_apply, pos_apply]
  rfl

end Cert.ReferenceIdeal.Value
-- ==== Proof.lean ====
/- The claims, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import proofs.«01_k».proof.Proof.Refer
public import Idealize.ShloMosaic.Adequacy
public import Idealize.ShloMosaic.Init

@[expose] public section

noncomputable section

namespace Cert.Proof

open Idealize.ShloMosaic Idealize.SL.Sem

attribute [local instance] Cert.KernelIdeal.Gen.facts Cert.ReferenceIdeal.Gen.facts

/-- The idealised kernel runs, leaves its arguments as they were and every counter at zero. -/
theorem ideal_frame : Cert.quiescent_KernelIdeal := fun m g _ => Cert.KernelIdeal.Talk.run_frame (F := Ideal) m g

/-- The reference runs and leaves its arguments as they were; it declares no counter. -/
theorem ref_frame : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

section Value

open Cert.KernelIdeal.Talk

variable (m : (ℓ : Loc Cert.KernelIdeal.nD Cert.KernelIdeal.τ Cert.KernelIdeal.sig) → Buf (Elt Ideal) ℓ)
variable (X : FVec Ideal Cert.ReferenceIdeal.S4096x4096 .bf16) (W : FVec Ideal Cert.ReferenceIdeal.S4096x2048 .bf16)
variable (hargs : ∀ c : Dev Cert.KernelIdeal.nD,
  m ((c.tc : Thread Cert.KernelIdeal.nD Cert.KernelIdeal.τ).loc Cert.KernelIdeal.main_arg0) = Layout.block ⟨2, ![4096, 1024]⟩ ⟨2, ![4096, 4096]⟩ 1 4 c X
    ∧ m ((c.tc : Thread Cert.KernelIdeal.nD Cert.KernelIdeal.τ).loc Cert.KernelIdeal.main_arg1) = Layout.block ⟨2, ![1024, 2048]⟩ ⟨2, ![4096, 2048]⟩ 0 4 c W)
include hargs

/-- What the kernel works on is cut from the whole arguments. -/
theorem cut : Cut (Am m) (Bm m) X W := by
  constructor
  · intro c q i k
    rw [Am_apply]
    refine (congrFun (hargs c).1 _).trans ?_
    rw [Layout.block_apply]
    refine congrArg X ?_
    funext a
    fin_cases a
    · rfl
    · exact Fin.ext (congrArg (· + k.val) (Nat.mul_comm c.val 1024))
  · intro c k n
    rw [Bm_eq]
    refine (congrFun (hargs c).2 _).trans ?_
    rw [Layout.block_apply]
    refine congrArg W ?_
    funext a
    fin_cases a
    · exact Fin.ext (congrArg (· + k.val) (Nat.mul_comm c.val 1024))
    · rfl

/-- Every device ends with the reference's result. -/
theorem same_result (c : Dev Cert.KernelIdeal.nD) :
    Cert.KernelIdeal.Gen.V9 m (outs m) c (Proc.devRef .tc Cert.KernelIdeal.main_v49) = Cert.ReferenceIdeal.Value.result X W := by
  funext j
  have e : j = ix2 (j 0) (j 1) := by
    funext a
    fin_cases a <;> rfl
  rw [e]
  exact (out_clipped m (cut m X W hargs) _ (Cert.ReferenceIdeal.Value.top_le X W) c (j 0) (j 1)).trans
    (Cert.ReferenceIdeal.Value.result_apply X W (j 0) (j 1)).symm

end Value

/-- The kernel and the reference end with the same result, and with their arguments as they were. -/
theorem algebraic : Cert.algebraic_KernelIdeal_ReferenceIdeal := by
  intro m g m' g' _ hargs
  refine ⟨Cert.ReferenceIdeal.Value.result _ _, (θ_run Cert.KernelIdeal.defs _ _).mono (fun r h c => ?_) (Cert.KernelIdeal.Talk.run_main (F := Ideal) m g),
    (θ_run Cert.ReferenceIdeal.defs _ _).mono (fun r h => h 0) (Cert.ReferenceIdeal.Value.run (F := Ideal) m' g')⟩
  exact ⟨(h.1 c (Proc.devRef .tc Cert.KernelIdeal.main_v49) (Finset.mem_filter.mpr ⟨StableHlo.devRef_mem_tcRefs Cert.KernelIdeal.main_v49, by decide⟩)).trans
      (same_result m _ _ hargs c),
    (h.1 c (Proc.devRef .tc Cert.KernelIdeal.main_arg0) (Finset.mem_filter.mpr ⟨StableHlo.devRef_mem_tcRefs Cert.KernelIdeal.main_arg0, by decide⟩)).trans
      (Cert.KernelIdeal.Gen.V9_main_arg0 m (Cert.KernelIdeal.Talk.outs m) c),
    (h.1 c (Proc.devRef .tc Cert.KernelIdeal.main_arg1) (Finset.mem_filter.mpr ⟨StableHlo.devRef_mem_tcRefs Cert.KernelIdeal.main_arg1, by decide⟩)).trans
      (Cert.KernelIdeal.Gen.V9_main_arg1 m (Cert.KernelIdeal.Talk.outs m) c)⟩

theorem claim : Cert.Claim := ⟨Cert.Kernel.Gen.facts, Cert.KernelIdeal.Gen.facts, Cert.ReferenceIdeal.Gen.facts,
  Cert.Same.kernel_frame, ideal_frame, ref_frame, trivial, algebraic⟩

end Cert.Proof

end
